-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_conv [hPre_finite_conv : Cert.Pre_finite_conv.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_conv.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).1 = (fun _ => 1#1)
    ∧ (Cert.Pre_finite_conv.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).2.1 = (fun _ => 1#1)
    ∧ (Cert.Pre_finite_conv.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_conv [hPre_finite_conv : Cert.Pre_finite_conv.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_conv.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).1 = (fun _ => 1#1)
    ∧ (Cert.Pre_finite_conv.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).2.1 = (fun _ => 1#1)
    ∧ (Cert.Pre_finite_conv.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_conv [hPre_finite_conv : Cert.Pre_finite_conv.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_conv.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).1 = (fun _ => 1#1)
    ∧ (Cert.Pre_finite_conv.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).2.1 = (fun _ => 1#1)
    ∧ (Cert.Pre_finite_conv.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_conv [hPre_finite_conv : Cert.Pre_finite_conv.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_conv.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).1 = (fun _ => 1#1)
    ∧ (Cert.Pre_finite_conv.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).2.1 = (fun _ => 1#1)
    ∧ (Cert.Pre_finite_conv.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite_conv [hKernel7Ideal : Cert.Kernel7Ideal.Facts] [hPre_finite_conv : Cert.Pre_finite_conv.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_conv m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite_conv [hReference7Ideal : Cert.Reference7Ideal.Facts] [hPre_finite_conv : Cert.Pre_finite_conv.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_conv m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite_conv [hKernel8Ideal : Cert.Kernel8Ideal.Facts] [hPre_finite_conv : Cert.Pre_finite_conv.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_conv m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite_conv [hReference8Ideal : Cert.Reference8Ideal.Facts] [hPre_finite_conv : Cert.Pre_finite_conv.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_conv m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_v52) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  IdealRules.named_const.Statement Cert.Kernel6Ideal.κ "query_scale" .f32 0x3DD53B95#32 ((((Real.sqrt 192) * (Real.log 2))⁻¹ : ℝ) : EReal)
  ∧ IdealRules.named_const.Statement Cert.Kernel6Ideal.κ "inv_192" .f32 0x3BAAAAAB#32 ((1 / 192 : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v31_0)) (v1 : (c : Dev Cert.Kernel6Ideal.nD) → Buf (Elt Ideal) ((c.tc : Thread Cert.Kernel6Ideal.nD Cert.Kernel6Ideal.τ).loc Cert.Kernel6Ideal.main_v31_1)) (v2 : (c : Dev Cert.Kernel6Ideal.nD) → Buf (Elt Ideal) ((c.tc : Thread Cert.Kernel6Ideal.nD Cert.Kernel6Ideal.τ).loc Cert.Kernel6Ideal.main_v31_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v31_0) = v0 c
          ∧ r.2.mem ((c.tc : Thread Cert.Kernel6Ideal.nD Cert.Kernel6Ideal.τ).loc Cert.Kernel6Ideal.main_v31_1) = v1 c
          ∧ r.2.mem ((c.tc : Thread Cert.Kernel6Ideal.nD Cert.Kernel6Ideal.τ).loc Cert.Kernel6Ideal.main_v31_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v120) = v0 c
          ∧ r.2.mem ((c.tc : Thread Cert.Reference6Ideal.nD Cert.Reference6Ideal.τ).loc Cert.Reference6Ideal.main_v121) = v1 c
          ∧ r.2.mem ((c.tc : Thread Cert.Reference6Ideal.nD Cert.Reference6Ideal.τ).loc Cert.Reference6Ideal.main_v122) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal_pre_finite_conv [hKernel7Ideal : Cert.Kernel7Ideal.Facts] [hReference7Ideal : Cert.Reference7Ideal.Facts] [hPre_finite_conv : Cert.Pre_finite_conv.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_conv m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v43) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite_conv [hKernel8Ideal : Cert.Kernel8Ideal.Facts] [hReference8Ideal : Cert.Reference8Ideal.Facts] [hPre_finite_conv : Cert.Pre_finite_conv.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_conv m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v46) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_qk : Cert.Pre_finite_qk.Facts) (hPre_finite_conv : Cert.Pre_finite_conv.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_conv (hKernel7Ideal := hKernel7Ideal) (hPre_finite_conv := hPre_finite_conv)
    ∧ quiescent_Reference7Ideal (hReference7Ideal := hReference7Ideal)
    ∧ quiescent_Reference7Ideal_pre_finite_conv (hReference7Ideal := hReference7Ideal) (hPre_finite_conv := hPre_finite_conv)
    ∧ quiescent_Kernel8 (hKernel8 := hKernel8)
    ∧ quiescent_Kernel8Ideal (hKernel8Ideal := hKernel8Ideal)
    ∧ quiescent_Kernel8Ideal_pre_finite_conv (hKernel8Ideal := hKernel8Ideal) (hPre_finite_conv := hPre_finite_conv)
    ∧ quiescent_Reference8Ideal (hReference8Ideal := hReference8Ideal)
    ∧ quiescent_Reference8Ideal_pre_finite_conv (hReference8Ideal := hReference8Ideal) (hPre_finite_conv := hPre_finite_conv)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_conv (hKernel7Ideal := hKernel7Ideal) (hReference7Ideal := hReference7Ideal) (hPre_finite_conv := hPre_finite_conv)
    ∧ preserves_Kernel8_Kernel8Ideal
    ∧ algebraic_Kernel8Ideal_Reference8Ideal_pre_finite_conv (hKernel8Ideal := hKernel8Ideal) (hReference8Ideal := hReference8Ideal) (hPre_finite_conv := hPre_finite_conv)
-- ==== Pre_finite_conv.lean ====
abbrev S8192x1024 : Shape := ⟨2, ![8192, 1024]⟩
abbrev S5x2048 : Shape := ⟨2, ![5, 2048]⟩
abbrev S2048 : Shape := ⟨1, ![2048]⟩
abbrev S_ : Shape := ⟨0, ![]⟩

class Facts : Prop where
  bcast_S_S8192x1024 : S_.BroadcastsInDim S8192x1024 (![] : Fin 0 → Fin S8192x1024.rank)
  bcast_S_S5x2048 : S_.BroadcastsInDim S5x2048 (![] : Fin 0 → Fin S5x2048.rank)
  bcast_S_S2048 : S_.BroadcastsInDim S2048 (![] : Fin 0 → Fin S2048.rank)

variable [Facts]

def fn {F : FTy → Type} [FloatOps F] (main_arg0 : FVec F S8192x1024 .f32) (main_arg1 : FVec F S5x2048 .f32) (main_arg2 : FVec F S2048 .f32) : IVec S8192x1024 1 × IVec S5x2048 1 × IVec S2048 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S5x2048 .f32 := Host.absf main_arg1
  let main_cst_0 : FVec F S_ .f32 := constant S_ .f32 0x7F800000#32
  let main_v4 : FVec F S5x2048 .f32 := broadcastInDim S5x2048 ![] bcast_S_S5x2048 main_cst_0
  let main_v5 : IVec S5x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  (main_v2, main_v5, main_v8)
-- ==== Pre_finite_qk.lean ====
abbrev S8192x8x192 : Shape := ⟨3, ![8192, 8, 192]⟩
abbrev S8192x8x128 : Shape := ⟨3, ![8192, 8, 128]⟩
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩

class Facts : Prop where
  bcast_S_S8192x8x192 : S_.BroadcastsInDim S8192x8x192 (![] : Fin 0 → Fin S8192x8x192.rank)

variable [Facts]

def fn {F : FTy → Type} [FloatOps F] (main_arg0 : FVec F S8192x8x192 .f32) (main_arg1 : FVec F S8192x8x192 .f32) (main_arg2 : FVec F S8192x8x128 .f32) (main_arg3 : FVec F S2048x2048 .f32) (main_arg4 : FVec F S2048x8192 .f32) (main_arg5 : FVec F S8192x2048 .f32) : IVec S8192x8x192 1 × IVec S8192x8x192 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_v3 : FVec F S8192x8x192 .f32 := Host.absf main_arg1
  let main_cst_0 : FVec F S_ .f32 := constant S_ .f32 0x7F800000#32
  let main_v4 : FVec F S8192x8x192 .f32 := broadcastInDim S8192x8x192 ![] bcast_S_S8192x8x192 main_cst_0
  let main_v5 : IVec S8192x8x192 1 := cmpf .olt main_v3 main_v4
  (main_v2, main_v5)
-- ==== Kernel.lean ====
abbrev S8192x8x192 : Shape := ⟨3, ![8192, 8, 192]⟩
abbrev S8192x8x128 : Shape := ⟨3, ![8192, 8, 128]⟩
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩
abbrev S8x192x8192 : Shape := ⟨3, ![8, 192, 8192]⟩
abbrev S8x256x8192 : Shape := ⟨3, ![8, 256, 8192]⟩
abbrev S8x8192x192 : Shape := ⟨3, ![8, 8192, 192]⟩
abbrev S8x8192x256 : Shape := ⟨3, ![8, 8192, 256]⟩
abbrev S8x128x8192 : Shape := ⟨3, ![8, 128, 8192]⟩
abbrev S8x128x32x256 : Shape := ⟨4, ![8, 128, 32, 256]⟩
abbrev S8x32x128x256 : Shape := ⟨4, ![8, 32, 128, 256]⟩
abbrev S8192x1024 : Shape := ⟨2, ![8192, 1024]⟩
abbrev S1x256x1024 : Shape := ⟨3, ![1, 256, 1024]⟩
abbrev S1x8192x256 : Shape := ⟨3, ![1, 8192, 256]⟩
abbrev S1x32x128x256 : Shape := ⟨4, ![1, 32, 128, 256]⟩
abbrev S32x2048 : Shape := ⟨2, ![32, 2048]⟩
abbrev S32x8192 : Shape := ⟨2, ![32, 8192]⟩
abbrev S128x2048 : Shape := ⟨2, ![128, 2048]⟩
abbrev S1024x128 : Shape := ⟨2, ![1024, 128]⟩
abbrev S1x256x256 : Shape := ⟨3, ![1, 256, 256]⟩
abbrev S256x256 : Shape := ⟨2, ![256, 256]⟩
abbrev S1x256x512 : Shape := ⟨3, ![1, 256, 512]⟩
abbrev S256x512 : Shape := ⟨2, ![256, 512]⟩
abbrev S1x1x128x256 : Shape := ⟨4, ![1, 1, 128, 256]⟩
abbrev S128x256 : Shape := ⟨2, ![128, 256]⟩
abbrev S128x512 : Shape := ⟨2, ![128, 512]⟩
abbrev S512 : Shape := ⟨1, ![512]⟩
abbrev S1x512 : Shape := ⟨2, ![1, 512]⟩
abbrev S512x128 : Shape := ⟨2, ![512, 128]⟩

abbrev nBuf : Space → Nat
  | .hbm => 31
  | .vmem => 20
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S2048x2048, .f32⟩
  | .hbm, ⟨4, _⟩ => ⟨S2048x8192, .f32⟩
  | .hbm, ⟨5, _⟩ => ⟨S8192x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x8x192, .f32⟩
  | .hbm, ⟨12, _⟩ => ⟨S8192x8x192, .f32⟩
  | .hbm, ⟨13, _⟩ => ⟨S8x192x8192, .f32⟩
  | .hbm, ⟨14, _⟩ => ⟨S_, .i32⟩
  | .hbm, ⟨15, _⟩ => ⟨S_, .f32⟩
  | .hbm, ⟨16, _⟩ => ⟨S8x256x8192, .f32⟩
  | .hbm, ⟨17, _⟩ => ⟨S8x256x8192, .bf16⟩
  | .hbm, ⟨18, _⟩ => ⟨S8x8192x192, .f32⟩
  | .hbm, ⟨19, _⟩ => ⟨S_, .i32⟩
  | .hbm, ⟨20, _⟩ => ⟨S_, .f32⟩
  | .hbm, ⟨21, _⟩ => ⟨S8x8192x256, .f32⟩
  | .hbm, ⟨22, _⟩ => ⟨S8x8192x256, .bf16⟩
  | .hbm, ⟨23, _⟩ => ⟨S8x128x8192, .f32⟩
  | .hbm, ⟨24, _⟩ => ⟨S8x128x32x256, .f32⟩
  | .hbm, ⟨25, _⟩ => ⟨S8x32x128x256, .f32⟩
  | .hbm, ⟨26, _⟩ => ⟨S8x32x128x256, .bf16⟩
  | .hbm, ⟨27, _⟩ => ⟨S8192x1024, .bf16⟩
  | .hbm, ⟨28, _⟩ => ⟨S2048x2048, .bf16⟩
  | .hbm, ⟨29, _⟩ => ⟨S2048x8192, .bf16⟩
  | .hbm, ⟨30, _⟩ => ⟨S8192x2048, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x32x128x256, .bf16⟩
  | .local _ .vmem, ⟨5, _⟩ => ⟨S1x32x128x256, .bf16⟩
  | .local _ .vmem, ⟨6, _⟩ => ⟨S32x2048, .f32⟩
  | .local _ .vmem, ⟨7, _⟩ => ⟨S32x2048, .f32⟩
  | .local _ .vmem, ⟨8, _⟩ => ⟨S32x8192, .f32⟩
  | .local _ .vmem, ⟨9, _⟩ => ⟨S32x8192, .f32⟩
  | .local _ .vmem, ⟨10, _⟩ => ⟨S128x2048, .f32⟩
  | .local _ .vmem, ⟨11, _⟩ => ⟨S128x2048, .f32⟩
  | .local _ .vmem, ⟨12, _⟩ => ⟨S1024x128, .bf16⟩
  | .local _ .vmem, ⟨13, _⟩ => ⟨S1024x128, .bf16⟩
  | .local _ .vmem, ⟨14, _⟩ => ⟨S32x2048, .bf16⟩
  | .local _ .vmem, ⟨15, _⟩ => ⟨S32x2048, .bf16⟩
  | .local _ .vmem, ⟨16, _⟩ => ⟨S32x8192, .bf16⟩
  | .local _ .vmem, ⟨17, _⟩ => ⟨S32x8192, .bf16⟩
  | .local _ .vmem, ⟨18, _⟩ => ⟨S128x2048, .bf16⟩
  | .local _ .vmem, ⟨19, _⟩ => ⟨S128x2048, .bf16⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v15_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8192x8x192 : Shape := ⟨3, ![8192, 8, 192]⟩
abbrev S8192x8x128 : Shape := ⟨3, ![8192, 8, 128]⟩
abbrev S2048x2048 : Shape := ⟨2, ![2048, 2048]⟩
abbrev S2048x8192 : Shape := ⟨2, ![2048, 8192]⟩
abbrev S8192x2048 : Shape := ⟨2, ![8192, 2048]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8192x1024 : Shape := ⟨2, ![8192, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S2048x2048, .f32⟩
  | .hbm, ⟨4, _⟩ => ⟨S2048x8192, .f32⟩
  | .hbm, ⟨5, _⟩ => ⟨S8192x2048, .f32⟩
  | .hbm, ⟨6, _⟩ => ⟨S8x8192x8192, .f32⟩
  | .hbm, ⟨7, _⟩ => ⟨S_, .f32⟩
  | .hbm, ⟨8, _⟩ => ⟨S_, .f32⟩
  | .hbm, ⟨9, _⟩ => ⟨S8x8192x8192, .f32⟩
  | .hbm, ⟨10, _⟩ => ⟨S8x8192x8192, .f32⟩
  | .hbm, ⟨11, _⟩ => ⟨S_, .f32⟩
  | .hbm, ⟨12, _⟩ => ⟨S8x8192, .f32⟩
  | .hbm, ⟨13, _⟩ => ⟨S_, .f32⟩
  | .hbm, ⟨14, _⟩ => ⟨S8x8192, .f32⟩
  | .hbm, ⟨15, _⟩ => ⟨S8x8192, .f32⟩
  | .hbm, ⟨16, _⟩ => ⟨S8x8192x1, .f32⟩
  | .hbm, ⟨17, _⟩ => ⟨S8x8192x8192, .f32⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S8x8192x8192, .f32⟩
  | .hbm, ⟨24, _⟩ => ⟨S8x8192x8192, .f32⟩
  | .hbm, ⟨25, _⟩ => ⟨S8x128x8192, .f32⟩
  | .hbm, ⟨26, _⟩ => ⟨S8192x8x128, .f32⟩
  | .hbm, ⟨27, _⟩ => ⟨S8192x1024, .f32⟩
  | .hbm, ⟨28, _⟩ => ⟨S8192x1024, .bf16⟩
  | .hbm, ⟨29, _⟩ => ⟨S2048x2048, .bf16⟩
  | .hbm, ⟨30, _⟩ => ⟨S2048x8192, .bf16⟩
  | .hbm, ⟨31, _⟩ => ⟨S8192x2048, .bf16⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel2.lean ====
abbrev S8192x2048 : Shape := ⟨2, ![8192, 2048]⟩
abbrev S2048x8192 : Shape := ⟨2, ![2048, 8192]⟩
abbrev S1x12288 : Shape := ⟨2, ![1, 12288]⟩
abbrev S1024x2048 : Shape := ⟨2, ![1024, 2048]⟩
abbrev S2048x1024 : Shape := ⟨2, ![2048, 1024]⟩
abbrev S1x2048 : Shape := ⟨2, ![1, 2048]⟩
abbrev S_ : Shape := ⟨0, ![]⟩
abbrev S1024x1024 : Shape := ⟨2, ![1024, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S1x12288, .f32⟩
  | .hbm, ⟨5, _⟩ => ⟨S8192x2048, .bf16⟩
  | .hbm, ⟨6, _⟩ => ⟨S2048x8192, .bf16⟩
  | .hbm, ⟨7, _⟩ => ⟨S8192x2048, .bf16⟩
  | .hbm, ⟨8, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | .local _ .vmem, ⟨9, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_4 : BitVec 32 := 0#32
  ![v1.toNat, 0]
def k0_cond3 (i : grid0.Coords) : BitVec 1 :=
  let arg1 : BitVec 32 := BitVec.ofNat 32 (i 1).val
  let c7_i32 : BitVec 32 := 7#32
  let v8 : BitVec 1 := Scalar.cmpi .eq arg1 c7_i32
  let v9 : BitVec 32 := Scalar.extui v8
  let c0_i32_3 : BitVec 32 := 0#32
  let v10 : BitVec 1 := Scalar.cmpi .ne v9 c0_i32_3
  v10

def k0_off2 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_4 : BitVec 32 := 0#32
  ![v1.toNat, 0]
def k0_cond2 (i : grid0.Coords) : BitVec 1 :=
  let arg1 : BitVec 32 := BitVec.ofNat 32 (i 1).val
  let c0_i32_1 : BitVec 32 := 0#32
  let v5 : BitVec 1 := Scalar.cmpi .sgt arg1 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![c0_i32.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8192x2048 : Shape := ⟨2, ![8192, 2048]⟩
abbrev S2048x8192 : Shape := ⟨2, ![2048, 8192]⟩
abbrev S1x12288 : Shape := ⟨2, ![1, 12288]⟩
abbrev S1x2048 : Shape := ⟨2, ![1, 2048]⟩
abbrev S8192x8192 : Shape := ⟨2, ![8192, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S1x12288, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel3.lean ====
abbrev S8192x2048 : Shape := ⟨2, ![8192, 2048]⟩
abbrev S1x2048 : Shape := ⟨2, ![1, 2048]⟩
abbrev S1x12288 : Shape := ⟨2, ![1, 12288]⟩
abbrev S2048x4944 : Shape := ⟨2, ![2048, 4944]⟩
abbrev S4944x2048 : Shape := ⟨2, ![4944, 2048]⟩
abbrev S4096x2048 : Shape := ⟨2, ![4096, 2048]⟩
abbrev S832x2048 : Shape := ⟨2, ![832, 2048]⟩
abbrev S_ : Shape := ⟨0, ![]⟩
abbrev S64x2048 : Shape := ⟨2, ![64, 2048]⟩
abbrev S16x2048 : Shape := ⟨2, ![16, 2048]⟩
abbrev S112x2048 : Shape := ⟨2, ![112, 2048]⟩
abbrev S5120x2048 : Shape := ⟨2, ![5120, 2048]⟩
abbrev S8192x5120 : Shape := ⟨2, ![8192, 5120]⟩
abbrev S8192x128 : Shape := ⟨2, ![8192, 128]⟩
abbrev S1024x2048 : Shape := ⟨2, ![1024, 2048]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 16
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x12288, .f32⟩
  | .hbm, ⟨3, _⟩ => ⟨S2048x4944, .f32⟩
  | .hbm, ⟨4, _⟩ => ⟨S4944x2048, .f32⟩
  | .hbm, ⟨5, _⟩ => ⟨S4096x2048, .f32⟩
  | .hbm, ⟨6, _⟩ => ⟨S832x2048, .f32⟩
  | .hbm, ⟨7, _⟩ => ⟨S_, .f32⟩
  | .hbm, ⟨8, _⟩ => ⟨S64x2048, .f32⟩
  | .hbm, ⟨9, _⟩ => ⟨S16x2048, .f32⟩
  | .hbm, ⟨10, _⟩ => ⟨S_, .f32⟩
  | .hbm, ⟨11, _⟩ => ⟨S112x2048, .f32⟩
  | .hbm, ⟨12, _⟩ => ⟨S5120x2048, .f32⟩
  | .hbm, ⟨13, _⟩ => ⟨S5120x2048, .bf16⟩
  | .hbm, ⟨14, _⟩ => ⟨S8192x5120, .bf16⟩
  | .hbm, ⟨15, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1024x2048, .bf16⟩
  | .local _ .vmem, ⟨6, _⟩ => ⟨S1024x2048, .bf16⟩
  | .local _ .vmem, ⟨7, _⟩ => ⟨S1024x1024, .bf16⟩
  | .local _ .vmem, ⟨8, _⟩ => ⟨S1024x1024, .bf16⟩
  | .local _ .vmem, ⟨9, _⟩ => ⟨S1024x128, .f32⟩
  | .local _ .vmem, ⟨10, _⟩ => ⟨S1024x128, .f32⟩
  | .local _ .vmem, ⟨11, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S8192x2048 : Shape := ⟨2, ![8192, 2048]⟩
abbrev S1x2048 : Shape := ⟨2, ![1, 2048]⟩
abbrev S1x12288 : Shape := ⟨2, ![1, 12288]⟩
abbrev S2048x4944 : Shape := ⟨2, ![2048, 4944]⟩
abbrev S_ : Shape := ⟨0, ![]⟩
abbrev S8192 : Shape := ⟨1, ![8192]⟩
abbrev S8192x1 : Shape := ⟨2, ![8192, 1]⟩
abbrev S8192x4944 : Shape := ⟨2, ![8192, 4944]⟩
abbrev S8192x16 : Shape := ⟨2, ![8192, 16]⟩
abbrev S8192x112 : Shape := ⟨2, ![8192, 112]⟩
abbrev S8192x128 : Shape := ⟨2, ![8192, 128]⟩
abbrev S8192x4096 : Shape := ⟨2, ![8192, 4096]⟩
abbrev S8192x832 : Shape := ⟨2, ![8192, 832]⟩
abbrev S8192x64 : Shape := ⟨2, ![8192, 64]⟩
abbrev S8192x5120 : Shape := ⟨2, ![8192, 5120]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x12288, .f32⟩
  | .hbm, ⟨3, _⟩ => ⟨S2048x4944, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x4944, .f32⟩
  | .hbm, ⟨33, _⟩ => ⟨S8192x16, .f32⟩
  | .hbm, ⟨34, _⟩ => ⟨S_, .f32⟩
  | .hbm, ⟨35, _⟩ => ⟨S8192x112, .f32⟩
  | .hbm, ⟨36, _⟩ => ⟨S8192x128, .f32⟩
  | .hbm, ⟨37, _⟩ => ⟨S8192x4096, .f32⟩
  | .hbm, ⟨38, _⟩ => ⟨S8192x832, .f32⟩
  | .hbm, ⟨39, _⟩ => ⟨S_, .f32⟩
  | .hbm, ⟨40, _⟩ => ⟨S8192x64, .f32⟩
  | .hbm, ⟨41, _⟩ => ⟨S8192x5120, .f32⟩
  | .hbm, ⟨42, _⟩ => ⟨S8192x5120, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel4.lean ====
abbrev S8192x1024 : Shape := ⟨2, ![8192, 1024]⟩
abbrev S4x8192x256 : Shape := ⟨3, ![4, 8192, 256]⟩
abbrev S8192x2048 : Shape := ⟨2, ![8192, 2048]⟩
abbrev S4x256 : Shape := ⟨2, ![4, 256]⟩
abbrev S2048x2048 : Shape := ⟨2, ![2048, 2048]⟩
abbrev S1x12288 : Shape := ⟨2, ![1, 12288]⟩
abbrev S1x2048 : Shape := ⟨2, ![1, 2048]⟩
abbrev S_ : Shape := ⟨0, ![]⟩
abbrev S8192x5120 : Shape := ⟨2, ![8192, 5120]⟩
abbrev S8192x4x256 : Shape := ⟨3, ![8192, 4, 256]⟩
abbrev S1x1024 : Shape := ⟨2, ![1, 1024]⟩
abbrev S512x1024 : Shape := ⟨2, ![512, 1024]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S1024x2048 : Shape := ⟨2, ![1024, 2048]⟩

abbrev nBuf : Space → Nat
  | .hbm => 24
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S4x8192x256, .f32⟩
  | .hbm, ⟨2, _⟩ => ⟨S4x8192x256, .f32⟩
  | .hbm, ⟨3, _⟩ => ⟨S8192x1024, .f32⟩
  | .hbm, ⟨4, _⟩ => ⟨S8192x2048, .f32⟩
  | .hbm, ⟨5, _⟩ => ⟨S4x256, .f32⟩
  | .hbm, ⟨6, _⟩ => ⟨S2048x2048, .f32⟩
  | .hbm, ⟨7, _⟩ => ⟨S1x12288, .f32⟩
  | .hbm, ⟨8, _⟩ => ⟨S1x2048, .f32⟩
  | .hbm, ⟨9, _⟩ => ⟨S_, .i32⟩
  | .hbm, ⟨10, _⟩ => ⟨S_, .f32⟩
  | .hbm, ⟨11, _⟩ => ⟨S8192x5120, .f32⟩
  | .hbm, ⟨12, _⟩ => ⟨S8192x5120, .bf16⟩
  | .hbm, ⟨13, _⟩ => ⟨S8192x1024, .bf16⟩
  | .hbm, ⟨14, _⟩ => ⟨S8192x4x256, .f32⟩
  | .hbm, ⟨15, _⟩ => ⟨S8192x1024, .f32⟩
  | .hbm, ⟨16, _⟩ => ⟨S8192x1024, .bf16⟩
  | .hbm, ⟨17, _⟩ => ⟨S8192x4x256, .f32⟩
  | .hbm, ⟨18, _⟩ => ⟨S8192x1024, .f32⟩
  | .hbm, ⟨19, _⟩ => ⟨S8192x1024, .bf16⟩
  | .hbm, ⟨20, _⟩ => ⟨S1x1024, .f32⟩
  | .hbm, ⟨21, _⟩ => ⟨S2048x2048, .bf16⟩
  | .hbm, ⟨22, _⟩ => ⟨S8192x2048, .f32⟩
  | .hbm, ⟨23, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x2048, .f32⟩
  | .local _ .vmem, ⟨9, _⟩ => ⟨S512x2048, .f32⟩
  | .local _ .vmem, ⟨10, _⟩ => ⟨S1x1024, .f32⟩
  | .local _ .vmem, ⟨11, _⟩ => ⟨S2048x2048, .bf16⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .bf16⟩
  | .local _ .vmem, ⟨19, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_10 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S8192x1024 : Shape := ⟨2, ![8192, 1024]⟩
abbrev S4x8192x256 : Shape := ⟨3, ![4, 8192, 256]⟩
abbrev S8192x2048 : Shape := ⟨2, ![8192, 2048]⟩
abbrev S4x256 : Shape := ⟨2, ![4, 256]⟩
abbrev S2048x2048 : Shape := ⟨2, ![2048, 2048]⟩
abbrev S1x12288 : Shape := ⟨2, ![1, 12288]⟩
abbrev S1x2048 : Shape := ⟨2, ![1, 2048]⟩
abbrev S8192x4x256 : Shape := ⟨3, ![8192, 4, 256]⟩
abbrev S_ : Shape := ⟨0, ![]⟩
abbrev S8192x4 : Shape := ⟨2, ![8192, 4]⟩
abbrev S8192x4x1 : Shape := ⟨3, ![8192, 4, 1]⟩
abbrev S1x4x256 : Shape := ⟨3, ![1, 4, 256]⟩
abbrev S8192 : Shape := ⟨1, ![8192]⟩
abbrev S8192x1 : Shape := ⟨2, ![8192, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x8192x256, .f32⟩
  | .hbm, ⟨2, _⟩ => ⟨S4x8192x256, .f32⟩
  | .hbm, ⟨3, _⟩ => ⟨S8192x1024, .f32⟩
  | .hbm, ⟨4, _⟩ => ⟨S8192x2048, .f32⟩
  | .hbm, ⟨5, _⟩ => ⟨S4x256, .f32⟩
  | .hbm, ⟨6, _⟩ => ⟨S2048x2048, .f32⟩
  | .hbm, ⟨7, _⟩ => ⟨S1x12288, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S4x8192x256, .f32⟩
  | .hbm, ⟨16, _⟩ => ⟨S8192x4x256, .f32⟩
  | .hbm, ⟨17, _⟩ => ⟨S8192x4x256, .f32⟩
  | .hbm, ⟨18, _⟩ => ⟨S_, .f32⟩
  | .hbm, ⟨19, _⟩ => ⟨S8192x4, .f32⟩
  | .hbm, ⟨20, _⟩ => ⟨S8192x4x1, .f32⟩
  | .hbm, ⟨21, _⟩ => ⟨S_, .f32⟩
  | .hbm, ⟨22, _⟩ => ⟨S8192x4x1, .f32⟩
  | .hbm, ⟨23, _⟩ => ⟨S8192x4x1, .f32⟩
  | .hbm, ⟨24, _⟩ => ⟨S_, .f32⟩
  | .hbm, ⟨25, _⟩ => ⟨S8192x4x1, .f32⟩
  | .hbm, ⟨26, _⟩ => ⟨S8192x4x1, .f32⟩
  | .hbm, ⟨27, _⟩ => ⟨S8192x4x1, .f32⟩
  | .hbm, ⟨28, _⟩ => ⟨S8192x4x256, .f32⟩
  | .hbm, ⟨29, _⟩ => ⟨S8192x4x256, .f32⟩
  | .hbm, ⟨30, _⟩ => ⟨S1x4x256, .f32⟩
  | .hbm, ⟨31, _⟩ => ⟨S8192x4x256, .f32⟩
  | .hbm, ⟨32, _⟩ => ⟨S8192x4x256, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S_, .f32⟩
  | .hbm, ⟨64, _⟩ => ⟨S1x2048, .f32⟩
  | .hbm, ⟨65, _⟩ => ⟨S1x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel5.lean ====
abbrev S1x2048 : Shape := ⟨2, ![1, 2048]⟩
abbrev S2048x12288 : Shape := ⟨2, ![2048, 12288]⟩
abbrev S1x12288 : Shape := ⟨2, ![1, 12288]⟩
abbrev S2048x1 : Shape := ⟨2, ![2048, 1]⟩
abbrev S2048x1024 : Shape := ⟨2, ![2048, 1024]⟩
abbrev S1x1024 : Shape := ⟨2, ![1, 1024]⟩
abbrev S2048x128 : Shape := ⟨2, ![2048, 128]⟩
abbrev S128 : Shape := ⟨1, ![128]⟩
abbrev S1x128 : Shape := ⟨2, ![1, 128]⟩

abbrev nBuf : Space → Nat
  | .hbm => 5
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S2048x12288, .f32⟩
  | .hbm, ⟨2, _⟩ => ⟨S1x12288, .f32⟩
  | .hbm, ⟨3, _⟩ => ⟨S2048x1, .f32⟩
  | .hbm, ⟨4, _⟩ => ⟨S1x12288, .f32⟩
  | .local _ .vmem, ⟨0, _⟩ => ⟨S2048x1, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S2048x128, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S1x2048 : Shape := ⟨2, ![1, 2048]⟩
abbrev S2048x12288 : Shape := ⟨2, ![2048, 12288]⟩
abbrev S1x12288 : Shape := ⟨2, ![1, 12288]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S2048x12288, .f32⟩
  | .hbm, ⟨2, _⟩ => ⟨S1x12288, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x12288, .f32⟩
  | .hbm, ⟨13, _⟩ => ⟨S1x12288, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩

abbrev nD : Nat := 1
abbrev τ : Topo := Topo.v7x

variable {F : FTy → Type} [FloatOps F]
-- ==== Kernel6.lean ====
abbrev S8192x512 : Shape := ⟨2, ![8192, 512]⟩
abbrev S8192x256 : Shape := ⟨2, ![8192, 256]⟩
abbrev S8192x64 : Shape := ⟨2, ![8192, 64]⟩
abbrev S8192 : Shape := ⟨1, ![8192]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S192 : Shape := ⟨1, ![192]⟩
abbrev S_ : Shape := ⟨0, ![]⟩
abbrev S8192x4096 : Shape := ⟨2, ![8192, 4096]⟩
abbrev S8192x192 : Shape := ⟨2, ![8192, 192]⟩
abbrev S8192x5120 : Shape := ⟨2, ![8192, 5120]⟩
abbrev S32 : Shape := ⟨1, ![32]⟩
abbrev S32x1 : Shape := ⟨2, ![32, 1]⟩
abbrev S512x8x192 : Shape := ⟨3, ![512, 8, 192]⟩
abbrev S512x8x256 : Shape := ⟨3, ![512, 8, 256]⟩
abbrev S512x2048 : Shape := ⟨2, ![512, 2048]⟩
abbrev S2048x512 : Shape := ⟨2, ![2048, 512]⟩
abbrev S256x8x256 : Shape := ⟨3, ![256, 8, 256]⟩
abbrev S256x8x128 : Shape := ⟨3, ![256, 8, 128]⟩
abbrev S256x1024 : Shape := ⟨2, ![256, 1024]⟩
abbrev S1024x256 : Shape := ⟨2, ![1024, 256]⟩
abbrev S1x192 : Shape := ⟨2, ![1, 192]⟩
abbrev S1x8192 : Shape := ⟨2, ![1, 8192]⟩
abbrev S1x512 : Shape := ⟨2, ![1, 512]⟩
abbrev S1x256 : Shape := ⟨2, ![1, 256]⟩
abbrev S192x1 : Shape := ⟨2, ![192, 1]⟩
abbrev S8x256x8192 : Shape := ⟨3, ![8, 256, 8192]⟩
abbrev S8x8192x256 : Shape := ⟨3, ![8, 8192, 256]⟩
abbrev S8x32x128x256 : Shape := ⟨4, ![8, 32, 128, 256]⟩
abbrev S1024x512 : Shape := ⟨2, ![1024, 512]⟩
abbrev S1024x128 : Shape := ⟨2, ![1024, 128]⟩
abbrev S1x1024 : Shape := ⟨2, ![1, 1024]⟩
abbrev S8x256x1024 : Shape := ⟨3, ![8, 256, 1024]⟩
abbrev S8x1024x256 : Shape := ⟨3, ![8, 1024, 256]⟩
abbrev S8x4x128x256 : Shape := ⟨4, ![8, 4, 128, 256]⟩
abbrev S1024 : Shape := ⟨1, ![1024]⟩
abbrev S1024x1 : Shape := ⟨2, ![1024, 1]⟩
abbrev S2048x1024 : Shape := ⟨2, ![2048, 1024]⟩
abbrev S1024x1024 : Shape := ⟨2, ![1024, 1024]⟩
abbrev S32x1024 : Shape := ⟨2, ![32, 1024]⟩
abbrev S192x1024 : Shape := ⟨2, ![192, 1024]⟩
abbrev S64x1024 : Shape := ⟨2, ![64, 1024]⟩
abbrev S128x1024 : Shape := ⟨2, ![128, 1024]⟩
abbrev S1x256x1024 : Shape := ⟨3, ![1, 256, 1024]⟩
abbrev S128x256 : Shape := ⟨2, ![128, 256]⟩
abbrev S1x1x128x256 : Shape := ⟨4, ![1, 1, 128, 256]⟩
abbrev S1x128 : Shape := ⟨2, ![1, 128]⟩
abbrev S1x1024x256 : Shape := ⟨3, ![1, 1024, 256]⟩

abbrev nBuf : Space → Nat
  | .hbm => 52
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S8192x64, .f32⟩
  | .hbm, ⟨3, _⟩ => ⟨S8192, .i32⟩
  | .hbm, ⟨4, _⟩ => ⟨S512, .f32⟩
  | .hbm, ⟨5, _⟩ => ⟨S512x1536, .f32⟩
  | .hbm, ⟨6, _⟩ => ⟨S256, .f32⟩
  | .hbm, ⟨7, _⟩ => ⟨S256x2048, .f32⟩
  | .hbm, ⟨8, _⟩ => ⟨S192, .f32⟩
  | .hbm, ⟨9, _⟩ => ⟨S192, .f32⟩
  | .hbm, ⟨10, _⟩ => ⟨S_, .f32⟩
  | .hbm, ⟨11, _⟩ => ⟨S8192x4096, .f32⟩
  | .hbm, ⟨12, _⟩ => ⟨S_, .f32⟩
  | .hbm, ⟨13, _⟩ => ⟨S8192x192, .f32⟩
  | .hbm, ⟨14, _⟩ => ⟨S8192x5120, .f32⟩
  | .hbm, ⟨15, _⟩ => ⟨S8192x5120, .bf16⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S32x1, .f32⟩
  | .hbm, ⟨25, _⟩ => ⟨S512x8x192, .f32⟩
  | .hbm, ⟨26, _⟩ => ⟨S_, .i32⟩
  | .hbm, ⟨27, _⟩ => ⟨S_, .f32⟩
  | .hbm, ⟨28, _⟩ => ⟨S512x8x256, .f32⟩
  | .hbm, ⟨29, _⟩ => ⟨S512x2048, .f32⟩
  | .hbm, ⟨30, _⟩ => ⟨S2048x512, .f32⟩
  | .hbm, ⟨31, _⟩ => ⟨S2048x512, .bf16⟩
  | .hbm, ⟨32, _⟩ => ⟨S256x8x256, .f32⟩
  | .hbm, ⟨33, _⟩ => ⟨S256x8x128, .f32⟩
  | .hbm, ⟨34, _⟩ => ⟨S256x1024, .f32⟩
  | .hbm, ⟨35, _⟩ => ⟨S256x1024, .bf16⟩
  | .hbm, ⟨36, _⟩ => ⟨S256x8x128, .f32⟩
  | .hbm, ⟨37, _⟩ => ⟨S256x1024, .f32⟩
  | .hbm, ⟨38, _⟩ => ⟨S1024x256, .f32⟩
  | .hbm, ⟨39, _⟩ => ⟨S1024x256, .bf16⟩
  | .hbm, ⟨40, _⟩ => ⟨S1x192, .f32⟩
  | .hbm, ⟨41, _⟩ => ⟨S1x192, .f32⟩
  | .hbm, ⟨42, _⟩ => ⟨S1x8192, .i32⟩
  | .hbm, ⟨43, _⟩ => ⟨S1x512, .f32⟩
  | .hbm, ⟨44, _⟩ => ⟨S1x256, .f32⟩
  | .hbm, ⟨45, _⟩ => ⟨S192x1, .f32⟩
  | .hbm, ⟨46, _⟩ => ⟨S_, .i32⟩
  | .hbm, ⟨47, _⟩ => ⟨S_, .f32⟩
  | .hbm, ⟨48, _⟩ => ⟨S1x256, .f32⟩
  | .hbm, ⟨49, _⟩ => ⟨S8x256x8192, .bf16⟩
  | .hbm, ⟨50, _⟩ => ⟨S8x8192x256, .bf16⟩
  | .hbm, ⟨51, _⟩ => ⟨S8x32x128x256, .bf16⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S1x1024, .i32⟩
  | .local _ .vmem, ⟨7, _⟩ => ⟨S1x1024, .i32⟩
  | .local _ .vmem, ⟨8, _⟩ => ⟨S32x1, .f32⟩
  | .local _ .vmem, ⟨9, _⟩ => ⟨S1x512, .f32⟩
  | .local _ .vmem, ⟨10, _⟩ => ⟨S1x256, .f32⟩
  | .local _ .vmem, ⟨11, _⟩ => ⟨S2048x512, .bf16⟩
  | .local _ .vmem, ⟨12, _⟩ => ⟨S256x1024, .bf16⟩
  | .local _ .vmem, ⟨13, _⟩ => ⟨S1024x256, .bf16⟩
  | .local _ .vmem, ⟨14, _⟩ => ⟨S192x1, .f32⟩
  | .local _ .vmem, ⟨15, _⟩ => ⟨S1x256, .f32⟩
  | .local _ .vmem, ⟨16, _⟩ => ⟨S8x256x1024, .bf16⟩
  | .local _ .vmem, ⟨17, _⟩ => ⟨S8x256x1024, .bf16⟩
  | .local _ .vmem, ⟨18, _⟩ => ⟨S8x1024x256, .bf16⟩
  | .local _ .vmem, ⟨19, _⟩ => ⟨S8x1024x256, .bf16⟩
  | .local _ .vmem, ⟨20, _⟩ => ⟨S8x4x128x256, .bf16⟩
  | .local _ .vmem, ⟨21, _⟩ => ⟨S8x4x128x256, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_call0_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_3 : Ref sig .tc := ⟨.hbm, 46, rfl⟩
abbrev main_call1_v0 : Ref sig .tc := ⟨.hbm, 47, rfl⟩
abbrev main_v30 : Ref sig .tc := ⟨.hbm, 48, rfl⟩
abbrev main_v31_0 : Ref sig .tc := ⟨.hbm, 49, rfl⟩
abbrev main_v31_1 : Ref sig .tc := ⟨.hbm, 50, rfl⟩
abbrev main_v31_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_2 (i : grid0.Coords) : Fin 2 → Nat :=
  let arg0 : BitVec 32 := BitVec.ofNat 32 (i 0).val
  let c38_i32 : BitVec 32 := 38#32
  let c0_i32 : BitVec 32 := 0#32
  ![arg0.toNat, c38_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S192x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x4x128x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel6Ideal.lean ====
variable {F : FTy → Type} [FloatOps F] [Named F]
def κ : String → Option EReal := fun
  | "inv_192" => some ((1 / 192 : ℝ) : EReal)
  | "query_scale" => some ((((Real.sqrt 192) * (Real.log 2))⁻¹ : ℝ) : EReal)
  | _ => none
-- ==== Reference6Ideal.lean ====
abbrev S8192x512 : Shape := ⟨2, ![8192, 512]⟩
abbrev S8192x256 : Shape := ⟨2, ![8192, 256]⟩
abbrev S8192x64 : Shape := ⟨2, ![8192, 64]⟩
abbrev S8192 : Shape := ⟨1, ![8192]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S192 : Shape := ⟨1, ![192]⟩
abbrev S8192x1 : Shape := ⟨2, ![8192, 1]⟩
abbrev S32 : Shape := ⟨1, ![32]⟩
abbrev S_ : Shape := ⟨0, ![]⟩
abbrev S1x32 : Shape := ⟨2, ![1, 32]⟩
abbrev S8192x32 : Shape := ⟨2, ![8192, 32]⟩
abbrev S8192x1x32 : Shape := ⟨3, ![8192, 1, 32]⟩
abbrev S1x512 : Shape := ⟨2, ![1, 512]⟩
abbrev S8192x1536 : Shape := ⟨2, ![8192, 1536]⟩
abbrev S8192x8x192 : Shape := ⟨3, ![8192, 8, 192]⟩
abbrev S1x256 : Shape := ⟨2, ![1, 256]⟩
abbrev S8192x2048 : Shape := ⟨2, ![8192, 2048]⟩
abbrev S8192x8x256 : Shape := ⟨3, ![8192, 8, 256]⟩
abbrev S8192x8x128 : Shape := ⟨3, ![8192, 8, 128]⟩
abbrev S8192x1x64 : Shape := ⟨3, ![8192, 1, 64]⟩
abbrev S8192x8x64 : Shape := ⟨3, ![8192, 8, 64]⟩
abbrev S8192x8 : Shape := ⟨2, ![8192, 8]⟩
abbrev S8192x8x1 : Shape := ⟨3, ![8192, 8, 1]⟩
abbrev S1x1x192 : Shape := ⟨3, ![1, 1, 192]⟩
abbrev S8192x8x32 : Shape := ⟨3, ![8192, 8, 32]⟩
abbrev S8x192x8192 : Shape := ⟨3, ![8, 192, 8192]⟩
abbrev S8x256x8192 : Shape := ⟨3, ![8, 256, 8192]⟩
abbrev S8x8192x192 : Shape := ⟨3, ![8, 8192, 192]⟩
abbrev S8x8192x256 : Shape := ⟨3, ![8, 8192, 256]⟩
abbrev S32x256x8x128 : Shape := ⟨4, ![32, 256, 8, 128]⟩
abbrev S8x32x128x256 : Shape := ⟨4, ![8, 32, 128, 256]⟩

abbrev nBuf : Space → Nat
  | .hbm => 153
  | .vmem => 0
  | .smem => 0
  | _ => 0

abbrev hbmTy0_0 (i : Nat) : BufTy := match i % 128 with
  | 0 => ⟨S8192x512, .f32⟩
  | 1 => ⟨S8192x256, .f32⟩
  | 2 => ⟨S8192x64, .f32⟩
  | 3 => ⟨S8192, .i32⟩
  | 4 => ⟨S512, .f32⟩
  | 5 => ⟨S512x1536, .f32⟩
  | 6 => ⟨S256, .f32⟩
  | 7 => ⟨S256x2048, .f32⟩
  | 8 => ⟨S192, .f32⟩
  | 9 => ⟨S192, .f32⟩
  | 10 => ⟨S8192, .f32⟩
  | 11 => ⟨S8192x1, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S1x32, .f32⟩
  | 21 => ⟨S8192x32, .f32⟩
  | 22 => ⟨S8192x32, .f32⟩
  | 23 => ⟨S8192x32, .f32⟩
  | 24 => ⟨S8192x32, .f32⟩
  | 25 => ⟨S8192x1x32, .f32⟩
  | 26 => ⟨S8192x32, .f32⟩
  | 27 => ⟨S8192x1x32, .f32⟩
  | 28 => ⟨S8192x512, .f32⟩
  | 29 => ⟨S_, .f32⟩
  | 30 => ⟨S8192, .f32⟩
  | 31 => ⟨S8192x1, .f32⟩
  | 32 => ⟨S_, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S8192x1, .f32⟩
  | 39 => ⟨S8192x512, .f32⟩
  | 40 => ⟨S8192x512, .f32⟩
  | 41 => ⟨S1x512, .f32⟩
  | 42 => ⟨S8192x512, .f32⟩
  | 43 => ⟨S8192x512, .f32⟩
  | 44 => ⟨S8192x1536, .f32⟩
  | 45 => ⟨S8192x8x192, .f32⟩
  | 46 => ⟨S8192x256, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S_, .f32⟩
  | 54 => ⟨S8192x1, .f32⟩
  | 55 => ⟨S8192x1, .f32⟩
  | 56 => ⟨S8192x1, .f32⟩
  | 57 => ⟨S8192x256, .f32⟩
  | 58 => ⟨S8192x256, .f32⟩
  | 59 => ⟨S1x256, .f32⟩
  | 60 => ⟨S8192x256, .f32⟩
  | 61 => ⟨S8192x256, .f32⟩
  | 62 => ⟨S8192x2048, .f32⟩
  | 63 => ⟨S8192x8x256, .f32⟩
  | 64 => ⟨S8192x8x128, .f32⟩
  | 65 => ⟨S8192x1x64, .f32⟩
  | 66 => ⟨S8192x8x64, .f32⟩
  | 67 => ⟨S8192x8x192, .f32⟩
  | 68 => ⟨S8192x8x192, .f32⟩
  | 69 => ⟨S_, .f32⟩
  | 70 => ⟨S8192x8, .f32⟩
  | 71 => ⟨S8192x8x1, .f32⟩
  | 72 => ⟨S_, .f32⟩
  | 73 => ⟨S8192x8x1, .f32⟩
  | 74 => ⟨S8192x8x1, .f32⟩
  | 75 => ⟨S_, .f32⟩
  | 76 => ⟨S8192x8x1, .f32⟩
  | 77 => ⟨S8192x8x1, .f32⟩
  | 78 => ⟨S8192x8x1, .f32⟩
  | 79 => ⟨S8192x8x192, .f32⟩
  | 80 => ⟨S8192x8x192, .f32⟩
  | 81 => ⟨S1x1x192, .f32⟩
  | 82 => ⟨S8192x8x192, .f32⟩
  | 83 => ⟨S8192x8x192, .f32⟩
  | 84 => ⟨S8192x8x192, .f32⟩
  | 85 => ⟨S_, .f32⟩
  | 86 => ⟨S8192x8, .f32⟩
  | 87 => ⟨S8192x8x1, .f32⟩
  | 88 => ⟨S_, .f32⟩
  | 89 => ⟨S8192x8x1, .f32⟩
  | 90 => ⟨S8192x8x1, .f32⟩
  | 91 => ⟨S_, .f32⟩
  | 92 => ⟨S8192x8x1, .f32⟩
  | 93 => ⟨S8192x8x1, .f32⟩
  | 94 => ⟨S8192x8x1, .f32⟩
  | 95 => ⟨S8192x8x192, .f32⟩
  | 96 => ⟨S8192x8x192, .f32⟩
  | 97 => ⟨S1x1x192, .f32⟩
  | 98 => ⟨S8192x8x192, .f32⟩
  | 99 => ⟨S8192x8x192, .f32⟩
  | 100 => ⟨S8192x8x128, .f32⟩
  | 101 => ⟨S8192x8x128, .f32⟩
  | 102 => ⟨S8192x8x64, .f32⟩
  | 103 => ⟨S8192x8x32, .f32⟩
  | 104 => ⟨S8192x8x32, .f32⟩
  | 105 => ⟨S8192x8x32, .f32⟩
  | 106 => ⟨S8192x8x32, .f32⟩
  | 107 => ⟨S8192x8x32, .f32⟩
  | 108 => ⟨S8192x8x32, .f32⟩
  | 109 => ⟨S8192x8x32, .f32⟩
  | 110 => ⟨S8192x8x32, .f32⟩
  | 111 => ⟨S8192x8x32, .f32⟩
  | 112 => ⟨S8192x8x32, .f32⟩
  | 113 => ⟨S8192x8x32, .f32⟩
  | 114 => ⟨S8192x8x32, .f32⟩
  | 115 => ⟨S8192x8x64, .f32⟩
  | 116 => ⟨S8192x8x192, .f32⟩
  | 117 => ⟨S_, .f32⟩
  | 118 => ⟨S_, .f32⟩
  | 119 => ⟨S_, .f32⟩
  | 120 => ⟨S_, .f32⟩
  | 121 => ⟨S_, .f32⟩
  | 122 => ⟨S8192x8x192, .f32⟩
  | 123 => ⟨S8192x8x192, .f32⟩
  | 124 => ⟨S8192x8x128, .f32⟩
  | 125 => ⟨S8192x8x64, .f32⟩
  | 126 => ⟨S8192x8x32, .f32⟩
  | 127 => ⟨S8192x8x32, .f32⟩
  | _ => ⟨S8192x512, .f32⟩

abbrev hbmTy0_1 (i : Nat) : BufTy := match i % 128 with
  | 0 => ⟨S8192x8x32, .f32⟩
  | 1 => ⟨S8192x8x32, .f32⟩
  | 2 => ⟨S8192x8x32, .f32⟩
  | 3 => ⟨S8192x8x32, .f32⟩
  | 4 => ⟨S8192x8x32, .f32⟩
  | 5 => ⟨S8192x8x32, .f32⟩
  | 6 => ⟨S8192x8x32, .f32⟩
  | 7 => ⟨S8192x8x32, .f32⟩
  | 8 => ⟨S8192x8x32, .f32⟩
  | 9 => ⟨S8192x8x32, .f32⟩
  | 10 => ⟨S8192x8x64, .f32⟩
  | 11 => ⟨S8192x8x192, .f32⟩
  | 12 => ⟨S8x192x8192, .f32⟩
  | 13 => ⟨S_, .i32⟩
  | 14 => ⟨S_, .f32⟩
  | 15 => ⟨S8x256x8192, .f32⟩
  | 16 => ⟨S8x8192x192, .f32⟩
  | 17 => ⟨S_, .i32⟩
  | 18 => ⟨S_, .f32⟩
  | 19 => ⟨S8x8192x256, .f32⟩
  | 20 => ⟨S32x256x8x128, .f32⟩
  | 21 => ⟨S8x32x128x256, .f32⟩
  | 22 => ⟨S8x256x8192, .bf16⟩
  | 23 => ⟨S8x8192x256, .bf16⟩
  | 24 => ⟨S8x32x128x256, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_13 : Ref sig .tc := ⟨.hbm, 117, rfl⟩
abbrev main_v93 : Ref sig .tc := ⟨.hbm, 118, rfl⟩
abbrev main_cst_14 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_c : Ref sig .tc := ⟨.hbm, 141, rfl⟩
abbrev main_call0_v0 : Ref sig .tc := ⟨.hbm, 142, rfl⟩
abbrev main_v115 : Ref sig .tc := ⟨.hbm, 143, rfl⟩
abbrev main_v116 : Ref sig .tc := ⟨.hbm, 144, rfl⟩
abbrev main_c_15 : Ref sig .tc := ⟨.hbm, 145, rfl⟩
abbrev main_call1_v0 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩

abbrev nD : Nat := 1
abbrev τ : Topo := Topo.v7x

variable {F : FTy → Type} [FloatOps F]
-- ==== Kernel7.lean ====
abbrev S8192x1024 : Shape := ⟨2, ![8192, 1024]⟩
abbrev S5x2048 : Shape := ⟨2, ![5, 2048]⟩
abbrev S2048 : Shape := ⟨1, ![2048]⟩
abbrev S_ : Shape := ⟨0, ![]⟩
abbrev S8192x4096 : Shape := ⟨2, ![8192, 4096]⟩
abbrev S8192x5120 : Shape := ⟨2, ![8192, 5120]⟩
abbrev S1x2048 : Shape := ⟨2, ![1, 2048]⟩
abbrev S8192x128 : Shape := ⟨2, ![8192, 128]⟩
abbrev S5x128 : Shape := ⟨2, ![5, 128]⟩
abbrev S1x128 : Shape := ⟨2, ![1, 128]⟩
abbrev S8208x128 : Shape := ⟨2, ![8208, 128]⟩
abbrev S8x128 : Shape := ⟨2, ![8, 128]⟩
abbrev S256x128 : Shape := ⟨2, ![256, 128]⟩

abbrev nBuf : Space → Nat
  | .hbm => 9
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S5x2048, .f32⟩
  | .hbm, ⟨2, _⟩ => ⟨S2048, .f32⟩
  | .hbm, ⟨3, _⟩ => ⟨S_, .f32⟩
  | .hbm, ⟨4, _⟩ => ⟨S8192x4096, .f32⟩
  | .hbm, ⟨5, _⟩ => ⟨S8192x5120, .f32⟩
  | .hbm, ⟨6, _⟩ => ⟨S8192x5120, .bf16⟩
  | .hbm, ⟨7, _⟩ => ⟨S1x2048, .f32⟩
  | .hbm, ⟨8, _⟩ => ⟨S8192x1024, .bf16⟩
  | .local _ .vmem, ⟨0, _⟩ => ⟨S8192x128, .bf16⟩
  | .local _ .vmem, ⟨1, _⟩ => ⟨S8192x128, .bf16⟩
  | .local _ .vmem, ⟨2, _⟩ => ⟨S5x128, .f32⟩
  | .local _ .vmem, ⟨3, _⟩ => ⟨S5x128, .f32⟩
  | .local _ .vmem, ⟨4, _⟩ => ⟨S1x128, .f32⟩
  | .local _ .vmem, ⟨5, _⟩ => ⟨S1x128, .f32⟩
  | .local _ .vmem, ⟨6, _⟩ => ⟨S8192x128, .bf16⟩
  | .local _ .vmem, ⟨7, _⟩ => ⟨S8192x128, .bf16⟩
  | .local _ .vmem, ⟨8, _⟩ => ⟨S8208x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8192x1024 : Shape := ⟨2, ![8192, 1024]⟩
abbrev S5x2048 : Shape := ⟨2, ![5, 2048]⟩
abbrev S2048 : Shape := ⟨1, ![2048]⟩
abbrev S5x1024 : Shape := ⟨2, ![5, 1024]⟩
abbrev S1024 : Shape := ⟨1, ![1024]⟩
abbrev S_ : Shape := ⟨0, ![]⟩
abbrev S8196x1024 : Shape := ⟨2, ![8196, 1024]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S5x2048, .f32⟩
  | .hbm, ⟨2, _⟩ => ⟨S2048, .f32⟩
  | .hbm, ⟨3, _⟩ => ⟨S5x1024, .f32⟩
  | .hbm, ⟨4, _⟩ => ⟨S1024, .f32⟩
  | .hbm, ⟨5, _⟩ => ⟨S_, .i32⟩
  | .hbm, ⟨6, _⟩ => ⟨S_, .f32⟩
  | .hbm, ⟨7, _⟩ => ⟨S8196x1024, .f32⟩
  | .hbm, ⟨8, _⟩ => ⟨S8192x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel8.lean ====
abbrev S8192x1024 : Shape := ⟨2, ![8192, 1024]⟩
abbrev S5x2048 : Shape := ⟨2, ![5, 2048]⟩
abbrev S2048 : Shape := ⟨1, ![2048]⟩
abbrev S_ : Shape := ⟨0, ![]⟩
abbrev S8192x3072 : Shape := ⟨2, ![8192, 3072]⟩
abbrev S8192x5120 : Shape := ⟨2, ![8192, 5120]⟩
abbrev S1x2048 : Shape := ⟨2, ![1, 2048]⟩
abbrev S1024x8192 : Shape := ⟨2, ![1024, 8192]⟩
abbrev S8192x128 : Shape := ⟨2, ![8192, 128]⟩
abbrev S5x128 : Shape := ⟨2, ![5, 128]⟩
abbrev S1x128 : Shape := ⟨2, ![1, 128]⟩
abbrev S128x8192 : Shape := ⟨2, ![128, 8192]⟩
abbrev S8208x128 : Shape := ⟨2, ![8208, 128]⟩
abbrev S8x128 : Shape := ⟨2, ![8, 128]⟩
abbrev S256x128 : Shape := ⟨2, ![256, 128]⟩
abbrev S128x256 : Shape := ⟨2, ![128, 256]⟩

abbrev nBuf : Space → Nat
  | .hbm => 11
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S5x2048, .f32⟩
  | .hbm, ⟨2, _⟩ => ⟨S2048, .f32⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S8192x3072, .f32⟩
  | .hbm, ⟨7, _⟩ => ⟨S8192x5120, .f32⟩
  | .hbm, ⟨8, _⟩ => ⟨S8192x5120, .bf16⟩
  | .hbm, ⟨9, _⟩ => ⟨S1x2048, .f32⟩
  | .hbm, ⟨10, _⟩ => ⟨S1024x8192, .bf16⟩
  | .local _ .vmem, ⟨0, _⟩ => ⟨S8192x128, .bf16⟩
  | .local _ .vmem, ⟨1, _⟩ => ⟨S8192x128, .bf16⟩
  | .local _ .vmem, ⟨2, _⟩ => ⟨S5x128, .f32⟩
  | .local _ .vmem, ⟨3, _⟩ => ⟨S5x128, .f32⟩
  | .local _ .vmem, ⟨4, _⟩ => ⟨S1x128, .f32⟩
  | .local _ .vmem, ⟨5, _⟩ => ⟨S1x128, .f32⟩
  | .local _ .vmem, ⟨6, _⟩ => ⟨S128x8192, .bf16⟩
  | .local _ .vmem, ⟨7, _⟩ => ⟨S128x8192, .bf16⟩
  | .local _ .vmem, ⟨8, _⟩ => ⟨S8208x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S8192x1024 : Shape := ⟨2, ![8192, 1024]⟩
abbrev S5x2048 : Shape := ⟨2, ![5, 2048]⟩
abbrev S2048 : Shape := ⟨1, ![2048]⟩
abbrev S5x1024 : Shape := ⟨2, ![5, 1024]⟩
abbrev S1024 : Shape := ⟨1, ![1024]⟩
abbrev S_ : Shape := ⟨0, ![]⟩
abbrev S8196x1024 : Shape := ⟨2, ![8196, 1024]⟩
abbrev S1x1024 : Shape := ⟨2, ![1, 1024]⟩
abbrev S1024x8192 : Shape := ⟨2, ![1024, 8192]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S5x2048, .f32⟩
  | .hbm, ⟨2, _⟩ => ⟨S2048, .f32⟩
  | .hbm, ⟨3, _⟩ => ⟨S5x1024, .f32⟩
  | .hbm, ⟨4, _⟩ => ⟨S1024, .f32⟩
  | .hbm, ⟨5, _⟩ => ⟨S_, .i32⟩
  | .hbm, ⟨6, _⟩ => ⟨S_, .f32⟩
  | .hbm, ⟨7, _⟩ => ⟨S8196x1024, .f32⟩
  | .hbm, ⟨8, _⟩ => ⟨S8192x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S1024x8192, .f32⟩
  | .hbm, ⟨61, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v42 : Ref sig .tc := ⟨.hbm, 56, rfl⟩
abbrev main_cst_0 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Proof.Softmax.lean ====
/- The extended-real algebra between the two ways of writing a softmax.

   The reference takes the largest logit off before it exponentiates, and divides each power by their sum; the kernel
   exponentiates the logits as they are, to base two, and divides the weighted sum once. Over real logits the two agree,
   whatever the values that are weighted. -/
module

public import Idealize.ShloMosaic.Lib.Pointwise
public import Idealize.ShloMosaic.Lib.KernelVsHost

@[expose] public section

noncomputable section

namespace Cert.Softmax

open Idealize.ShloMosaic

/-! ## The constants -/

theorem word_192 : Ideal.ofBits .f32 0x43400000#32 = ((192 : ℝ) : EReal) := by
  simp [Ideal.ofBits, Ideal.ieee, -EReal.coe_mul]; norm_num

theorem word_2 : Ideal.ofBits .f32 0x40000000#32 = ((2 : ℝ) : EReal) := by
  simp [Ideal.ofBits, Ideal.ieee, -EReal.coe_mul]; norm_num

theorem word_bot : Ideal.ofBits .f32 0xFF800000#32 = ⊥ := by
  simp [Ideal.ofBits, Ideal.ieee, -EReal.coe_mul]

theorem word_top : Ideal.ofBits .f32 0x7F800000#32 = ⊤ := by
  simp [Ideal.ofBits, Ideal.ieee, -EReal.coe_mul]

/-! ## Sums -/

/-- A sum of reals is the real sum. -/
theorem sum_real {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A non-negative real factor goes into a sum of extended reals. -/
theorem sum_mul_real {ι : Type*} (s : Finset ι) (f : ι → EReal) {x : ℝ} (hx : 0 ≤ x) :
    (∑ k ∈ s, f k) * (x : EReal) = ∑ k ∈ s, f k * (x : EReal) := by
  classical
  induction s using Finset.induction_on with
  | empty => simp
  | insert a s ha ih =>
    rw [Finset.sum_insert ha, Finset.sum_insert ha,
      EReal.right_distrib_of_nonneg_of_ne_top (by exact_mod_cast hx) (EReal.coe_ne_top x), ih]

/-- The largest of finitely many reals, at least one, is a real. -/
theorem fold_max_real {n : ℕ} [NeZero n] (s : Fin n → ℝ) :
    ∃ M : ℝ, (Finset.univ.fold max (⊥ : EReal) fun k => (s k : EReal)) = M := by
  classical
  have h : ∀ S : Finset (Fin n), (S = ∅ ∧ S.fold max (⊥ : EReal) (fun k => (s k : EReal)) = ⊥)
      ∨ ∃ M : ℝ, S.fold max (⊥ : EReal) (fun k => (s k : EReal)) = M := by
    intro S
    induction S using Finset.induction_on with
    | empty => exact .inl ⟨rfl, rfl⟩
    | insert a S ha ih =>
      rw [Finset.fold_insert ha]
      rcases ih with ⟨_, h⟩ | ⟨M, h⟩
      · exact .inr ⟨s a, by rw [h]; exact max_eq_left bot_le⟩
      · exact .inr ⟨max (s a) M, by rw [h]; exact (EReal.coe_strictMono.monotone.map_max).symm⟩
  rcases h Finset.univ with ⟨h, _⟩ | h
  · exact absurd (h ▸ Finset.mem_univ (0 : Fin n)) (Finset.notMem_empty _)
  · exact h

/-! ## The two softmaxes -/

/-- Dividing once by the sum of the powers is weighting by the shares of the powers taken from any real origin. -/
theorem weighted {n : ℕ} [NeZero n] (v : Fin n → EReal) (s : Fin n → ℝ) (M : ℝ) :
    ∑ k, v k * Ideal.div (Ideal.exp ((s k : EReal) - (M : EReal))) (∑ j, Ideal.exp ((s j : EReal) - (M : EReal)))
      = Ideal.div (∑ k, v k * Ideal.exp (s k : EReal)) (∑ j, Ideal.exp (s j : EReal)) := by
  have hpos : ∀ f : Fin n → ℝ, 0 < ∑ j, Real.exp (f j) := fun f =>
    Finset.sum_pos (fun _ _ => Real.exp_pos _) ⟨0, Finset.mem_univ _⟩
  have hs : ∑ j, Ideal.exp (s j : EReal) = ((∑ j, Real.exp (s j) : ℝ) : EReal) := sum_real _ fun j => Real.exp (s j)
  have ht : ∑ j, Ideal.exp ((s j : EReal) - (M : EReal)) = ((∑ j, Real.exp (s j - M) : ℝ) : EReal) :=
    sum_real _ fun j => Real.exp (s j - M)
  rw [hs, ht, Ideal.div_coe (hpos s).ne', sum_mul_real _ _ (one_div_pos.2 (hpos s)).le]
  refine Finset.sum_congr rfl fun k _ => ?_
  rw [Ideal.div_coe (hpos _).ne', mul_assoc]
  refine congrArg (v k * ·) ?_
  show ((Real.exp (s k - M) : ℝ) : EReal) * ((1 / ∑ j, Real.exp (s j - M) : ℝ) : EReal)
    = ((Real.exp (s k) : ℝ) : EReal) * ((1 / ∑ j, Real.exp (s j) : ℝ) : EReal)
  rw [← EReal.coe_mul, ← EReal.coe_mul]
  refine congrArg _ ?_
  have e : ∑ j, Real.exp (s j - M) = (∑ j, Real.exp (s j)) * Real.exp (-M) := by
    rw [Finset.sum_mul]
    exact Finset.sum_congr rfl fun j _ => by rw [← Real.exp_add, sub_eq_add_neg]
  rw [e, sub_eq_add_neg, Real.exp_add]
  have h1 := (hpos s).ne'
  have h2 := (Real.exp_pos (-M)).ne'
  field_simp

/-- The reference's logit: the product of the query with the key over the square root of 192. -/
abbrev logit (q k : Fin 192 → ℝ) : ℝ := (∑ x, q x * k x) * (1 / Real.sqrt 192)

theorem logit_of_host (q k : Fin 192 → ℝ) :
    Ideal.div (∑ x, (q x : EReal) * (k x : EReal)) (Ideal.sqrt (Ideal.ofBits .f32 0x43400000#32)) = (logit q k : EReal) := by
  have hs : Ideal.sqrt ((192 : ℝ) : EReal) = ((Real.sqrt 192 : ℝ) : EReal) := if_neg (by norm_num)
  rw [word_192, hs, Ideal.div_coe (Real.sqrt_pos.2 (by norm_num)).ne']
  simp only [← EReal.coe_mul]
  rw [sum_real, ← EReal.coe_mul]

/-- The power of two of the kernel's logit, whose query is divided by the square root of 192 times the logarithm of two. -/
theorem power_of_kernel (q k : Fin 192 → ℝ) :
    Ideal.exp2 (∑ x, (k x : EReal) * Ideal.div (q x : EReal)
        (Ideal.sqrt (Ideal.ofBits .f32 0x43400000#32) * Ideal.log (Ideal.ofBits .f32 0x40000000#32)))
      = Ideal.exp (logit q k : EReal) := by
  have hs : Ideal.sqrt ((192 : ℝ) : EReal) = ((Real.sqrt 192 : ℝ) : EReal) := if_neg (by norm_num)
  have hl : Ideal.log ((2 : ℝ) : EReal) = ((Real.log 2 : ℝ) : EReal) := if_neg (by norm_num)
  have h1 : Real.sqrt 192 ≠ 0 := (Real.sqrt_pos.2 (by norm_num)).ne'
  have h2 : Real.log 2 ≠ 0 := (Real.log_pos (by norm_num)).ne'
  rw [word_192, word_2, hs, hl, ← EReal.coe_mul]
  simp only [Ideal.div_coe (mul_ne_zero h1 h2), ← EReal.coe_mul]
  rw [sum_real]
  show ((Real.rpow 2 _ : ℝ) : EReal) = ((Real.exp _ : ℝ) : EReal)
  refine congrArg _ ?_
  show (2 : ℝ) ^ (_ : ℝ) = _
  rw [Real.rpow_def_of_pos (by norm_num)]
  refine congrArg _ ?_
  unfold logit
  rw [Finset.mul_sum, Finset.sum_mul]
  refine Finset.sum_congr rfl fun x _ => ?_
  field_simp

/-- An extended real whose absolute value is below the top is a real. -/
theorem real_of_abs_lt {x : EReal} (h : max x (-x) < ⊤) : ∃ r : ℝ, x = r := by
  induction x with
  | bot => simp at h
  | top => simp at h
  | coe r => exact ⟨r, rfl⟩

end Cert.Softmax

end
-- ==== Proof.Finite.lean ====
/- What a precondition that compares absolute values with infinity says: every entry is a real number. -/
module

public import Idealize.ShloMosaic.Lib.Pipeline.Value
public import Idealize.ShloMosaic.Lib.Pipeline.ValueKit
public import Idealize.ShloMosaic.Lib.Pointwise
public import proofs.«01_k».proof.Proof.Softmax

@[expose] public section

noncomputable section

namespace Cert.Proof

open Idealize.ShloMosaic

/-- An array whose absolute values compare below infinity holds real numbers. -/
theorem real_of_finite {s : Shape} (x top : FVec Ideal s .f32) (ht : ∀ i, top i = Ideal.ofBits .f32 0x7F800000#32)
    (h : cmpf .olt (Host.absf x) top = fun _ => 1#1) (i : s.Idx) : ∃ r : ℝ, x i = r := by
  have e : Ideal.cmp .olt (max (x i) (-(x i))) (top i) = 1#1 := congrFun h i
  rw [ht, Cert.Softmax.word_top] at e
  refine Cert.Softmax.real_of_abs_lt ?_
  by_contra hn
  rw [show Ideal.cmp .olt (max (x i) (-(x i))) ⊤ = BitVec.ofBool (decide (max (x i) (-(x i)) < ⊤)) from rfl,
    decide_eq_false hn] at e
  exact absurd e (by decide)

end Cert.Proof

end
-- ==== Proof.AttnTile.lean ====
/- One grid point of the attention call.

   The body holds one head: 8192 keys in 32 chunks of 256, the values of each chunk, and 1024 queries in two halves of
   512, all of them transposed. For either half it takes, chunk by chunk, the logits, their powers of two, the
   product of the chunk's values with the powers, and the sum of the powers over the chunk; it adds the products and the
   sums up and divides. This module names those steps for a chunk number `j` and a half `t`, shows that what the body
   stores is made of them, and reads each step at an index over the extended reals. -/
module

public import proofs.«01_k».proof.Proof.Gen.KernelIdeal.Value
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.KernelIdeal.Attn

open Cert.KernelIdeal Cert.KernelIdeal.Gen Idealize.ShloMosaic Idealize.ShloMosaic.TcCoe

section Steps

variable {F : FTy → Type} [FloatOps F]

theorem key_inb (j : ℕ) : ∀ a, (![0, 256 * (j % 32), 0] : Fin 3 → ℕ) a + S1x256x256.size a ≤ S1x8192x256.size a := by
  intro a
  match a with
  | ⟨0, _⟩ => exact Nat.le_refl 1
  | ⟨1, _⟩ => show 256 * (j % 32) + 256 ≤ 8192; omega
  | ⟨2, _⟩ => exact Nat.le_refl 256

theorem query_inb (t : ℕ) : ∀ a, (![0, 0, 512 * (t % 2)] : Fin 3 → ℕ) a + S1x256x512.size a ≤ S1x256x1024.size a := by
  intro a
  match a with
  | ⟨0, _⟩ => exact Nat.le_refl 1
  | ⟨1, _⟩ => exact Nat.le_refl 256
  | ⟨2, _⟩ => show 512 * (t % 2) + 512 ≤ 1024; omega

theorem value_inb (j : ℕ) : ∀ a, (![0, j % 32, 0, 0] : Fin 4 → ℕ) a + S1x1x128x256.size a ≤ S1x32x128x256.size a := by
  intro a
  match a with
  | ⟨0, _⟩ => exact Nat.le_refl 1
  | ⟨1, _⟩ => show j % 32 + 1 ≤ 32; omega
  | ⟨2, _⟩ => exact Nat.le_refl 128
  | ⟨3, _⟩ => exact Nat.le_refl 256

/-- Chunk `j` of the keys. -/
def keys (x1 : Vec F S1x8192x256 .bf16) (j : ℕ) : FVec F S256x256 .bf16 :=
  shapeCast S256x256 (View.ld x1 (Rect.unit (s := S1x8192x256) ![0, 256 * (j % 32), 0] S1x256x256.size (key_inb j))) shapeCasts_S1x256x256_S256x256

/-- Half `t` of the queries, transposed. -/
def queries (x0 : Vec F S1x256x1024 .bf16) (t : ℕ) : FVec F S256x512 .bf16 :=
  shapeCast S256x512 (View.ld x0 (Rect.unit (s := S1x256x1024) ![0, 0, 512 * (t % 2)] S1x256x512.size (query_inb t))) shapeCasts_S1x256x512_S256x512

/-- The values of chunk `j`, transposed. -/
def values (x2 : Vec F S1x32x128x256 .bf16) (j : ℕ) : FVec F S128x256 .bf16 :=
  shapeCast S128x256 (View.ld x2 (Rect.unit (s := S1x32x128x256) ![0, j % 32, 0, 0] S1x1x128x256.size (value_inb j))) shapeCasts_S1x1x128x256_S128x256

/-- The powers of two of the logits of chunk `j`, keys in rows and queries in columns. -/
def powers (x0 : Vec F S1x256x1024 .bf16) (x1 : Vec F S1x8192x256 .bf16) (t j : ℕ) : FVec F S256x512 .f32 :=
  exp2 (matmul dot_S256x256_S256x512_S256x512_1_0_0_1_n_n none (keys x1 j) (queries x0 t) (constant S256x512 .f32 0x00000000#32))

/-- The values of chunk `j` weighted by its powers. -/
def weighted (x0 : Vec F S1x256x1024 .bf16) (x1 : Vec F S1x8192x256 .bf16) (x2 : Vec F S1x32x128x256 .bf16) (t j : ℕ) :
    FVec F S128x512 .f32 :=
  matmul dot_S128x256_S256x512_S128x512_1_0_0_1_n_n none (values x2 j) (truncf .bf16 (powers x0 x1 t j) bitsLt_bf16_f32)
    (constant S128x512 .f32 0x00000000#32)

/-- The sum of the powers of chunk `j`, one for each query. -/
def mass (x0 : Vec F S1x256x1024 .bf16) (x1 : Vec F S1x8192x256 .bf16) (t j : ℕ) : FVec F S1x512 .f32 :=
  shapeCast S1x512 (multiReduction .add [0] S512 (powers x0 x1 t j) 0x00000000#32 reduces_S256x512_S512 (.inl rfl) rfl)
    shapeCasts_S512_S1x512

/-- The weighted values of the chunks up to `j`. -/
def weightedTo (x0 : Vec F S1x256x1024 .bf16) (x1 : Vec F S1x8192x256 .bf16) (x2 : Vec F S1x32x128x256 .bf16) (t : ℕ) :
    ℕ → FVec F S128x512 .f32
  | 0 => weighted x0 x1 x2 t 0
  | j + 1 => addf (weightedTo x0 x1 x2 t j) (weighted x0 x1 x2 t (j + 1))

/-- The sums of the chunks up to `j`. -/
def massTo (x0 : Vec F S1x256x1024 .bf16) (x1 : Vec F S1x8192x256 .bf16) (t : ℕ) : ℕ → FVec F S1x512 .f32
  | 0 => mass x0 x1 t 0
  | j + 1 => addf (massTo x0 x1 t j) (mass x0 x1 t (j + 1))

/-- What the body stores for half `t`. -/
def half (x0 : Vec F S1x256x1024 .bf16) (x1 : Vec F S1x8192x256 .bf16) (x2 : Vec F S1x32x128x256 .bf16) (t : ℕ) :
    FVec F S512x128 .bf16 :=
  truncf .bf16 (transpose S512x128 [1, 0] (divf (weightedTo x0 x1 x2 t 31)
    (broadcastTo S128x512 (massTo x0 x1 t 31) broadcasts_S1x512_S128x512)) transposes_S128x512_p1_0_S512x128) bitsLt_bf16_f32

/-- The body's two stores to its first output are the two halves. -/
theorem stored (x0 : Vec F S1x256x1024 .bf16) (x1 : Vec F S1x8192x256 .bf16) (x2 : Vec F S1x32x128x256 .bf16)
    (x3 : Vec F S32x2048 .f32) (x4 : Vec F S32x8192 .f32) (x5 : Vec F S128x2048 .f32) :
    out0_6 x0 x1 x2 x3 x4 x5 = View.canon [⟨r0_70, half x0 x1 x2 1⟩, ⟨r0_69, half x0 x1 x2 0⟩] := rfl

end Steps

/-! ## The steps at an index, over the extended reals -/

/-- Key `k` of chunk `j`, as a key of the head. -/
abbrev keyOf (j : Fin 32) (k : Fin 256) : Fin 8192 := ⟨j.val * 256 + k.val, by have := j.isLt; have := k.isLt; omega⟩

/-- Query `r` of half `t`, as a query of the block. -/
abbrev queryOf (t : Fin 2) (r : Fin 512) : Fin 1024 := ⟨t.val * 512 + r.val, by have := t.isLt; have := r.isLt; omega⟩

theorem keys_cast (x : FVec Ideal S1x256x256 .bf16) (k c : Fin 256) :
    shapeCast S256x256 x shapeCasts_S1x256x256_S256x256 (ix2 k c) = x (ix3 0 k c) := by
  pointwise

theorem keys_apply (x1 : Vec Ideal S1x8192x256 .bf16) (j : Fin 32) (k c : Fin 256) :
    keys x1 j (ix2 k c) = x1 (ix3 0 (keyOf j k) c) := by
  refine (keys_cast _ k c).trans (View.ld_unit_apply_of x1 _ _ _ _ _ fun a => ?_)
  have := j.isLt
  match a with
  | ⟨0, _⟩ => rfl
  | ⟨1, _⟩ => show j.val * 256 + k.val = 256 * (j.val % 32) + k.val; omega
  | ⟨2, _⟩ => show c.val = 0 + c.val; omega

theorem queries_cast (x : FVec Ideal S1x256x512 .bf16) (c : Fin 256) (r : Fin 512) :
    shapeCast S256x512 x shapeCasts_S1x256x512_S256x512 (ix2 c r) = x (ix3 0 c r) := by
  pointwise

theorem queries_apply (x0 : Vec Ideal S1x256x1024 .bf16) (t : Fin 2) (c : Fin 256) (r : Fin 512) :
    queries x0 t (ix2 c r) = x0 (ix3 0 c (queryOf t r)) := by
  refine (queries_cast _ c r).trans (View.ld_unit_apply_of x0 _ _ _ _ _ fun a => ?_)
  have := t.isLt
  match a with
  | ⟨0, _⟩ => rfl
  | ⟨1, _⟩ => show c.val = 0 + c.val; omega
  | ⟨2, _⟩ => show t.val * 512 + r.val = 512 * (t.val % 2) + r.val; omega

theorem values_cast (x : FVec Ideal S1x1x128x256 .bf16) (d : Fin 128) (k : Fin 256) :
    shapeCast S128x256 x shapeCasts_S1x1x128x256_S128x256 (ix2 d k) = x (ix4 0 0 d k) := by
  pointwise

theorem values_apply (x2 : Vec Ideal S1x32x128x256 .bf16) (j : Fin 32) (d : Fin 128) (k : Fin 256) :
    values x2 j (ix2 d k) = x2 (ix4 0 j d k) := by
  refine (values_cast _ d k).trans (View.ld_unit_apply_of x2 _ _ _ _ _ fun a => ?_)
  have := j.isLt
  match a with
  | ⟨0, _⟩ => rfl
  | ⟨1, _⟩ => show j.val = j.val % 32 + 0; omega
  | ⟨2, _⟩ => show d.val = 0 + d.val; omega
  | ⟨3, _⟩ => show k.val = 0 + k.val; omega

/-- The power of two of the logit of query `r` at key `k`. -/
def power (x0 : Vec Ideal S1x256x1024 .bf16) (x1 : Vec Ideal S1x8192x256 .bf16) (r : Fin 1024) (k : Fin 8192) : EReal :=
  Ideal.exp2 (∑ c : Fin 256, x1 (ix3 0 k c) * x0 (ix3 0 c r))

theorem powers_apply (x0 : Vec Ideal S1x256x1024 .bf16) (x1 : Vec Ideal S1x8192x256 .bf16) (t : Fin 2) (j : Fin 32)
    (k : Fin 256) (r : Fin 512) : powers x0 x1 t j (ix2 k r) = power x0 x1 (queryOf t r) (keyOf j k) := by
  unfold power
  pointwise [powers]
  simp only [keys_apply, queries_apply, zero_add]
  rfl

theorem weighted_apply (x0 : Vec Ideal S1x256x1024 .bf16) (x1 : Vec Ideal S1x8192x256 .bf16)
    (x2 : Vec Ideal S1x32x128x256 .bf16) (t : Fin 2) (j : Fin 32) (d : Fin 128) (r : Fin 512) :
    weighted x0 x1 x2 t j (ix2 d r)
      = ∑ k : Fin 256, x2 (ix4 0 j d k) * power x0 x1 (queryOf t r) (keyOf j k) := by
  pointwise [weighted]
  simp only [values_apply, powers_apply, zero_add]

theorem mass_apply (x0 : Vec Ideal S1x256x1024 .bf16) (x1 : Vec Ideal S1x8192x256 .bf16) (t : Fin 2) (j : Fin 32)
    (r : Fin 512) : mass x0 x1 t j (ix2 0 r) = ∑ k : Fin 256, power x0 x1 (queryOf t r) (keyOf j k) := by
  pointwise [mass]
  simp only [powers_apply, zero_add]

theorem weightedTo_apply (x0 : Vec Ideal S1x256x1024 .bf16) (x1 : Vec Ideal S1x8192x256 .bf16)
    (x2 : Vec Ideal S1x32x128x256 .bf16) (t : ℕ) (y : S128x512.Idx) (n : ℕ) :
    weightedTo x0 x1 x2 t n y = ∑ j ∈ Finset.range (n + 1), weighted x0 x1 x2 t j y := by
  induction n with
  | zero => rw [Finset.sum_range_one]; rfl
  | succ n ih => rw [Finset.sum_range_succ, ← ih]; rfl

theorem massTo_apply (x0 : Vec Ideal S1x256x1024 .bf16) (x1 : Vec Ideal S1x8192x256 .bf16) (t : ℕ) (y : S1x512.Idx)
    (n : ℕ) : massTo x0 x1 t n y = ∑ j ∈ Finset.range (n + 1), mass x0 x1 t j y := by
  induction n with
  | zero => rw [Finset.sum_range_one]; rfl
  | succ n ih => rw [Finset.sum_range_succ, ← ih]; rfl

/-- What query `r` of the block gets in column `d`: the values weighted by the powers, over the sum of the powers. -/
def attended (x0 : Vec Ideal S1x256x1024 .bf16) (x1 : Vec Ideal S1x8192x256 .bf16) (x2 : Vec Ideal S1x32x128x256 .bf16)
    (r : Fin 1024) (d : Fin 128) : EReal :=
  Ideal.div (∑ j : Fin 32, ∑ k : Fin 256, x2 (ix4 0 j d k) * power x0 x1 r (keyOf j k))
    (∑ k : Fin 8192, power x0 x1 r k)

theorem half_apply (x0 : Vec Ideal S1x256x1024 .bf16) (x1 : Vec Ideal S1x8192x256 .bf16)
    (x2 : Vec Ideal S1x32x128x256 .bf16) (t : Fin 2) (r : Fin 512) (d : Fin 128) :
    half x0 x1 x2 t (ix2 r d) = attended x0 x1 x2 (queryOf t r) d := by
  unfold attended
  pointwise [half]
  rw [weightedTo_apply, massTo_apply, Finset.sum_range, Finset.sum_range, Fin.sum_univ_tiles 32 256 (by norm_num : 32 * 256 = 8192) (power x0 x1 (queryOf t r))]
  simp only [weighted_apply, mass_apply]

/-- The block the body leaves in its first output. -/
theorem out_apply (x0 : Vec Ideal S1x256x1024 .bf16) (x1 : Vec Ideal S1x8192x256 .bf16)
    (x2 : Vec Ideal S1x32x128x256 .bf16) (x3 : Vec Ideal S32x2048 .f32) (x4 : Vec Ideal S32x8192 .f32)
    (x5 : Vec Ideal S128x2048 .f32) (y : S1024x128.Idx) :
    out0_6 x0 x1 x2 x3 x4 x5 y = attended x0 x1 x2 (y 0) (y 1) := by
  rw [stored]
  refine View.canon_apply_of_pieces (Val := Elt Ideal) (e := .bf16) (fun y : S1024x128.Idx => attended x0 x1 x2 (y 0) (y 1)) _ (fun p hp x => ?_) y
    (cover0_6 _ _ y)
  have place : ∀ (o : ℕ) (inb) (x : S512x128.Idx), ((Rect.unit (s := S1024x128) ![o, 0] S512x128.size inb).emb x 0).val = o + (x 0).val
      ∧ ((Rect.unit (s := S1024x128) ![o, 0] S512x128.size inb).emb x 1).val = (x 1).val := fun o inb x =>
    ⟨Rect.idx_unit_val _ _ inb x 0, (Rect.idx_unit_val _ _ inb x 1).trans (Nat.zero_add _)⟩
  simp only [List.mem_cons, List.mem_singleton, List.not_mem_nil, or_false] at hp
  rcases hp with rfl | rfl
  · refine ((congrArg (half x0 x1 x2 1) (ix2_eta x).symm).trans (half_apply x0 x1 x2 1 (x 0) (x 1))).trans ?_
    refine congrArg₂ (attended x0 x1 x2) (Fin.ext ?_) (Fin.ext ?_)
    · exact (place 512 inb_S1024x128_S512x128_512_0 x).1.symm
    · exact (place 512 inb_S1024x128_S512x128_512_0 x).2.symm
  · refine ((congrArg (half x0 x1 x2 0) (ix2_eta x).symm).trans (half_apply x0 x1 x2 0 (x 0) (x 1))).trans ?_
    refine congrArg₂ (attended x0 x1 x2) (Fin.ext ?_) (Fin.ext ?_)
    · exact (place 0 inb_S1024x128_S512x128_0_0 x).1.symm
    · exact (place 0 inb_S1024x128_S512x128_0_0 x).2.symm

end Cert.KernelIdeal.Attn
-- ==== Proof.AttnHost.lean ====
/- The operands of the attention call.

   Before the call the queries are divided by a scale, transposed and padded with zeros from 192 to 256 rows, the keys are
   transposed and padded likewise, and the values are transposed and cut into chunks of 256 keys. This module reads each
   of the three arrays at an index. -/
module

public import proofs.«01_k».proof.Proof.Gen.KernelIdeal.Frame
public import Idealize.ShloMosaic.Lib.Pointwise
public import Idealize.ShloMosaic.Lib.KernelVsHost
public import Idealize.ShloMosaic.Lib.Pipeline.Value

@[expose] public section

set_option maxRecDepth 16384

noncomputable section

namespace Cert.KernelIdeal.Attn

open Cert.KernelIdeal Cert.KernelIdeal.Gen Idealize.ShloMosaic Idealize.ShloMosaic.TcCoe

/-- The number that the queries are divided by: the square root of 192 times the logarithm of 2. -/
def scale : FVec Ideal S_ .f32 := mulf (Host.sqrt (constant S_ .f32 0x43400000#32)) (Host.log (constant S_ .f32 0x40000000#32))

/-- The queries as the call takes them. -/
def queryOperand (q : FVec Ideal S8192x8x192 .f32) : FVec Ideal S8x256x8192 .bf16 :=
  truncf .bf16 (pad S8x256x8192 ![0, 0, 0] ![0, 64, 0] ![0, 0, 0]
    (transpose S8x192x8192 [1, 2, 0] (Host.divf q (broadcastInDim S8192x8x192 ![] bcast_S_S8192x8x192 scale)) transposes_S8192x8x192_S8x192x8192_1_2_0)
    (sitofp .f32 (constantI S_ 32 0#32)) pads_S8x192x8192_S8x256x8192_000_0640_000 h_S_) bitsLt_bf16_f32

/-- The keys as the call takes them. -/
def keyOperand (k : FVec Ideal S8192x8x192 .f32) : FVec Ideal S8x8192x256 .bf16 :=
  truncf .bf16 (pad S8x8192x256 ![0, 0, 0] ![0, 0, 64] ![0, 0, 0]
    (transpose S8x8192x192 [1, 0, 2] k transposes_S8192x8x192_S8x8192x192_1_0_2)
    (sitofp .f32 (constantI S_ 32 0#32)) pads_S8x8192x192_S8x8192x256_000_000_0640 h_S_) bitsLt_bf16_f32

/-- The values as the call takes them. -/
def valueOperand (v : FVec Ideal S8192x8x128 .f32) : FVec Ideal S8x32x128x256 .bf16 :=
  truncf .bf16 (transpose S8x32x128x256 [0, 2, 1, 3]
    (shapeCast S8x128x32x256 (transpose S8x128x8192 [1, 2, 0] v transposes_S8192x8x128_S8x128x8192_1_2_0) shapeCasts_S8x128x8192_S8x128x32x256)
    transposes_S8x128x32x256_S8x32x128x256_0_2_1_3) bitsLt_bf16_f32

section Entry

variable (m : (ℓ : Loc nD τ sig) → Buf (Elt Ideal) ℓ) (c : Dev nD)

theorem entry_queries : V m c main_v7 = queryOperand (m ((c : Thread nD τ).loc main_arg0)) := by
  show StableHlo.after (hostOps0 ++ (hostOps0_1 ++ (hostOps0_2 ++ (hostOps0_3 ++ (hostOps0_4 ++ []))))) _ (Proc.devRef .tc main_v7) = _
  simp only [List.cons_append, List.nil_append]
  after_results <;> rfl

theorem entry_keys : V m c main_v10 = keyOperand (m ((c : Thread nD τ).loc main_arg1)) := by
  show StableHlo.after (hostOps0 ++ (hostOps0_1 ++ (hostOps0_2 ++ (hostOps0_3 ++ (hostOps0_4 ++ []))))) _ (Proc.devRef .tc main_v10) = _
  simp only [List.cons_append, List.nil_append]
  after_results <;> rfl

theorem entry_values : V m c main_v14 = valueOperand (m ((c : Thread nD τ).loc main_arg2)) := by
  show StableHlo.after (hostOps0 ++ (hostOps0_1 ++ (hostOps0_2 ++ (hostOps0_3 ++ (hostOps0_4 ++ []))))) _ (Proc.devRef .tc main_v14) = _
  simp only [List.cons_append, List.nil_append]
  after_results <;> rfl

end Entry

/-- The number that fills the padding is zero. -/
theorem padding : (FloatOps.sitofp FTy.f32 0#32 : Ideal .f32) = 0 := sitofp_zero

theorem queryOperand_apply (q : FVec Ideal S8192x8x192 .f32) (h : Fin 8) (c : Fin 256) (r : Fin 8192) :
    queryOperand q (ix3 h c r) = if hc : c.val < 192 then Ideal.div (q (ix3 r h ⟨c.val, hc⟩)) (scale ix0) else 0 := by
  pointwise [queryOperand]
  rw [padding]

theorem keyOperand_apply (k : FVec Ideal S8192x8x192 .f32) (h : Fin 8) (r : Fin 8192) (c : Fin 256) :
    keyOperand k (ix3 h r c) = if hc : c.val < 192 then k (ix3 r h ⟨c.val, hc⟩) else 0 := by
  pointwise [keyOperand]
  rw [padding]

theorem valueOperand_apply (v : FVec Ideal S8192x8x128 .f32) (h : Fin 8) (j : Fin 32) (d : Fin 128) (k : Fin 256) :
    valueOperand v (ix4 h j d k) = v (ix3 ⟨j.val * 256 + k.val, by have := j.isLt; have := k.isLt; omega⟩ h d) := by
  pointwise [valueOperand]

end Cert.KernelIdeal.Attn
-- ==== Proof.AttnValue.lean ====
/- The results of the attention call, as functions of its operands.

   The grid has 64 points, eight blocks of 1024 queries for each of the eight heads; a point writes its block of the
   attention's output and a slab of each of the three weight matrices. The blocks tile the arrays, so each result is one
   function of the operands. -/
module

public import proofs.«01_k».proof.Proof.AttnTile
public import proofs.«01_k».proof.Proof.AttnHost

@[expose] public section

set_option maxRecDepth 16384

noncomputable section

namespace Cert.KernelIdeal.Attn

open Cert.KernelIdeal Cert.KernelIdeal.Gen Idealize.ShloMosaic Idealize.ShloMosaic.TcCoe
open Idealize.ShloMosaic.Pipeline (Dat)

/-- The power of two of the logit of query `r` at key `k` in head `h`. -/
def weight (Q : FVec Ideal S8x256x8192 .bf16) (K : FVec Ideal S8x8192x256 .bf16) (h : Fin 8) (r k : Fin 8192) : EReal :=
  Ideal.exp2 (∑ c : Fin 256, K (ix3 h k c) * Q (ix3 h c r))

/-- The attention of query `r` in column `d` of head `h`. -/
def head (Q : FVec Ideal S8x256x8192 .bf16) (K : FVec Ideal S8x8192x256 .bf16) (W : FVec Ideal S8x32x128x256 .bf16)
    (h : Fin 8) (r : Fin 8192) (d : Fin 128) : EReal :=
  Ideal.div (∑ j : Fin 32, ∑ k : Fin 256, W (ix4 h j d k) * weight Q K h r (keyOf j k)) (∑ k : Fin 8192, weight Q K h r k)

abbrev headOf (n : Fin 1024) : Fin 8 := ⟨n.val / 128, by have := n.isLt; omega⟩
abbrev columnOf (n : Fin 1024) : Fin 128 := ⟨n.val % 128, by omega⟩

/-- The output of the attention, heads side by side. -/
def attention (Q : FVec Ideal S8x256x8192 .bf16) (K : FVec Ideal S8x8192x256 .bf16) (W : FVec Ideal S8x32x128x256 .bf16) :
    FVec Ideal S8192x1024 .bf16 := fun i => head Q K W (headOf (i 1)) (i 0) (columnOf (i 1))

/-! ## Where the blocks lie -/

theorem index0 : ∀ t : Fin cfg0.N, win0_0.index t 0 = t.val / 8 ∧ win0_0.index t 1 = 0 ∧ win0_0.index t 2 = t.val % 8 :=
  (by decide +kernel : ∀ t : Fin grid0.N, win0_0.index t 0 = t.val / 8 ∧ win0_0.index t 1 = 0 ∧ win0_0.index t 2 = t.val % 8)

theorem index1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)

theorem index2 : ∀ t : Fin cfg0.N, win0_2.index t 0 = t.val / 8 ∧ win0_2.index t 1 = 0 ∧ win0_2.index t 2 = 0 ∧ win0_2.index t 3 = 0 :=
  (by decide +kernel : ∀ t : Fin grid0.N, win0_2.index t 0 = t.val / 8 ∧ win0_2.index t 1 = 0 ∧ win0_2.index t 2 = 0 ∧ win0_2.index t 3 = 0)

theorem index6 : ∀ t : Fin cfg0.N, win0_6.index t 0 = t.val % 8 ∧ win0_6.index t 1 = t.val / 8 :=
  (by decide +kernel : ∀ t : Fin grid0.N, win0_6.index t 0 = t.val % 8 ∧ win0_6.index t 1 = t.val / 8)

/-- The slabs of the three weight matrices go in step with the point, in and out. -/
theorem index_slab : ∀ t : Fin cfg0.N, (win0_7.index t 0 = t.val ∧ win0_7.index t 1 = 0) ∧ (win0_8.index t 0 = t.val ∧ win0_8.index t 1 = 0)
      ∧ (win0_9.index t 0 = t.val ∧ win0_9.index t 1 = 0) :=
  (by decide +kernel : ∀ t : Fin grid0.N, (win0_7.index t 0 = t.val ∧ win0_7.index t 1 = 0) ∧ (win0_8.index t 0 = t.val ∧ win0_8.index t 1 = 0)
      ∧ (win0_9.index t 0 = t.val ∧ win0_9.index t 1 = 0))

theorem points (t : Fin cfg0.N) : t.val < 64 := t.isLt

variable (m : (ℓ : Loc nD τ sig) → Buf (Elt Ideal) ℓ) (ρ : Dev nD → PrngReg)

/-! ## The blocks of the operands -/

theorem block0 (c : Dev nD) (t : Fin cfg0.N) (a : Fin 256) (r : Fin 1024) :
    iblk m c 0 t (ix3 0 a r) = V m c main_v7 (ix3 ⟨t.val / 8, by have := points t; omega⟩ a
      ⟨t.val % 8 * 1024 + r.val, by have := r.isLt; omega⟩) := by
  have e := index0 t
  refine congrArg (V m c main_v7) (funext fun x => Fin.ext ?_)
  match x with
  | ⟨0, _⟩ => exact (win0_0.rect_emb_val t _ 0).trans (by rw [e.1]; show t.val / 8 * 1 + 0 = t.val / 8; omega)
  | ⟨1, _⟩ => exact (win0_0.rect_emb_val t _ 1).trans (by rw [e.2.1]; show 0 * 256 + a.val = a.val; omega)
  | ⟨2, _⟩ => exact (win0_0.rect_emb_val t _ 2).trans (by rw [e.2.2]; rfl)

theorem block1 (c : Dev nD) (t : Fin cfg0.N) (k : Fin 8192) (a : Fin 256) :
    iblk m c 1 t (ix3 0 k a) = V m c main_v10 (ix3 ⟨t.val / 8, by have := points t; omega⟩ k a) := by
  have e := index1 t
  refine congrArg (V m c main_v10) (funext fun x => Fin.ext ?_)
  match x with
  | ⟨0, _⟩ => exact (win0_1.rect_emb_val t _ 0).trans (by rw [e.1]; show t.val / 8 * 1 + 0 = t.val / 8; omega)
  | ⟨1, _⟩ => exact (win0_1.rect_emb_val t _ 1).trans (by rw [e.2.1]; show 0 * 8192 + k.val = k.val; omega)
  | ⟨2, _⟩ => exact (win0_1.rect_emb_val t _ 2).trans (by rw [e.2.2]; show 0 * 256 + a.val = a.val; omega)

theorem block2 (c : Dev nD) (t : Fin cfg0.N) (j : Fin 32) (d : Fin 128) (k : Fin 256) :
    iblk m c 2 t (ix4 0 j d k) = V m c main_v14 (ix4 ⟨t.val / 8, by have := points t; omega⟩ j d k) := by
  have e := index2 t
  refine congrArg (V m c main_v14) (funext fun x => Fin.ext ?_)
  match x with
  | ⟨0, _⟩ => exact (win0_2.rect_emb_val t _ 0).trans (by rw [e.1]; show t.val / 8 * 1 + 0 = t.val / 8; omega)
  | ⟨1, _⟩ => exact (win0_2.rect_emb_val t _ 1).trans (by rw [e.2.1]; show 0 * 32 + j.val = j.val; omega)
  | ⟨2, _⟩ => exact (win0_2.rect_emb_val t _ 2).trans (by rw [e.2.2.1]; show 0 * 128 + d.val = d.val; omega)
  | ⟨3, _⟩ => exact (win0_2.rect_emb_val t _ 3).trans (by rw [e.2.2.2]; show 0 * 256 + k.val = k.val; omega)

theorem block_attended (c : Dev nD) (t : Fin cfg0.N) (r : Fin 1024) (d : Fin 128) :
    attended (iblk m c 0 t) (iblk m c 1 t) (iblk m c 2 t) r d
      = head (V m c main_v7) (V m c main_v10) (V m c main_v14) ⟨t.val / 8, by have := points t; omega⟩
          ⟨t.val % 8 * 1024 + r.val, by have := r.isLt; omega⟩ d := by
  unfold attended head power weight
  simp only [block0, block1, block2]

/-! ## The attention's output -/

theorem flushed_attention (c : Dev nD) (t : Fin cfg0.N) :
    (dats m 0 c).flushed 6 t = ((cfg0.win 6).blk t).view.read (Elt Ideal)
      (attention (V m c main_v7) (V m c main_v10) (V m c main_v14)) := by
  rw [Value.flushed6]
  funext y
  have e := index6 t
  have ht := points t
  have h0 : (((win0_6.rect t).emb y 0 : Fin 8192) : ℕ) = t.val % 8 * 1024 + (y 0).val :=
    (win0_6.rect_emb_val t y 0).trans (by rw [e.1]; rfl)
  have h1 : (((win0_6.rect t).emb y 1 : Fin 1024) : ℕ) = t.val / 8 * 128 + (y 1).val :=
    (win0_6.rect_emb_val t y 1).trans (by rw [e.2]; rfl)
  have y1 : (y 1 : ℕ) < 128 := (y 1).isLt
  show out0_6 (iblk m c 0 t) (iblk m c 1 t) (iblk m c 2 t) (iblk m c 3 t) (iblk m c 4 t) (iblk m c 5 t) (y : S1024x128.Idx)
    = attention (V m c main_v7) (V m c main_v10) (V m c main_v14) ((win0_6.rect t).emb y)
  rw [out_apply]
  refine (block_attended m c t (y 0) (y 1)).trans ?_
  unfold attention
  refine congr (congrArg₂ (head _ _ _) (Fin.ext ?_) (Fin.ext h0.symm)) (Fin.ext ?_)
  · show t.val / 8 = ((win0_6.rect t).emb y 1 : Fin 1024).val / 128
    rw [h1]; omega
  · show (y 1).val = ((win0_6.rect t).emb y 1 : Fin 1024).val % 128
    rw [h1]; omega

theorem mem_block6 (t : Fin cfg0.N) (i : S8192x1024.Idx) (h0 : t.val % 8 = (i 0).val / 1024) (h1 : t.val / 8 = (i 1).val / 128) :
    i ∈ ((cfg0.win 6).blk t).view.set := by
  show i ∈ ((View.whole main_v15_0).slice (win0_6.rect t)).set
  rw [View.set_slice_whole, Rect.mem_set_unit]
  have e := index6 t
  intro a
  match a with
  | ⟨0, _⟩ =>
    show win0_6.index t 0 * 1024 ≤ (i 0).val ∧ (i 0).val < win0_6.index t 0 * 1024 + 1024
    rw [e.1]; omega
  | ⟨1, _⟩ =>
    show win0_6.index t 1 * 128 ≤ (i 1).val ∧ (i 1).val < win0_6.index t 1 * 128 + 128
    rw [e.2]; omega

theorem cover6 (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  refine ⟨⟨(i 1).val / 128 * 8 + (i 0).val / 1024, by show _ < 64; omega⟩, flush0_6 _, mem_block6 _ i ?_ ?_⟩
  · show ((i 1).val / 128 * 8 + (i 0).val / 1024) % 8 = _; omega
  · show ((i 1).val / 128 * 8 + (i 0).val / 1024) / 8 = _; omega

theorem result_attention (c : Dev nD) : (dats m 0 c).arrAt 6 cfg0.N
    = attention (V m c main_v7) (V m c main_v10) (V m c main_v14) :=
  (dats m 0 c).arrAt_eq_of_cover 6 _ (fun t _ => flushed_attention m c t) cover6

/-! ## The weight matrices -/

/-- A weight matrix in the narrower format: over the extended reals, the same numbers. -/
abbrev narrowed (s : Shape) (w : FVec Ideal s .f32) : FVec Ideal s .bf16 := truncf .bf16 w bitsLt_bf16_f32

theorem zeros2 : (![0, 0] : Fin 2 → ℕ) = fun _ => 0 := funext fun a => by fin_cases a <;> rfl

theorem flushed_w7 (c : Dev nD) (t : Fin cfg0.N) : (dats m 0 c).flushed 7 t = ((cfg0.win 7).blk t).view.read (Elt Ideal)
    (narrowed S2048x2048 (V m c main_arg3)) := by
  rw [Value.flushed7]
  unfold out0_7
  rw [View.canon_unit_zero zeros2, View.ld_unit_zero zeros2]
  rfl

theorem flushed_w8 (c : Dev nD) (t : Fin cfg0.N) : (dats m 0 c).flushed 8 t = ((cfg0.win 8).blk t).view.read (Elt Ideal)
    (narrowed S2048x8192 (V m c main_arg4)) := by
  rw [Value.flushed8]
  unfold out0_8
  rw [View.canon_unit_zero zeros2, View.ld_unit_zero zeros2]
  rfl

theorem flushed_w9 (c : Dev nD) (t : Fin cfg0.N) : (dats m 0 c).flushed 9 t = ((cfg0.win 9).blk t).view.read (Elt Ideal)
    (narrowed S8192x2048 (V m c main_arg5)) := by
  rw [Value.flushed9]
  unfold out0_9
  rw [View.canon_unit_zero zeros2, View.ld_unit_zero zeros2]
  rfl

theorem cover7 (i : S2048x2048.Idx) : ∃ t : Fin cfg0.N, (cfg0.win 7).flush t = true ∧ i ∈ ((cfg0.win 7).blk t).view.set := by
  have h0 : (i 0).val < 2048 := (i 0).isLt
  have h1 : (i 1).val < 2048 := (i 1).isLt
  have ht : (i 0).val / 32 < cfg0.N := by show _ < 64; omega
  refine ⟨⟨(i 0).val / 32, ht⟩, flush0_7 _, ?_⟩
  show i ∈ ((View.whole main_v15_1).slice (win0_7.rect ⟨(i 0).val / 32, ht⟩)).set
  rw [View.set_slice_whole, Rect.mem_set_unit]
  have e := (index_slab ⟨(i 0).val / 32, ht⟩).1
  intro a
  match a with
  | ⟨0, _⟩ => show win0_7.index ⟨(i 0).val / 32, ht⟩ 0 * 32 ≤ (i 0).val ∧ (i 0).val < win0_7.index ⟨(i 0).val / 32, ht⟩ 0 * 32 + 32; rw [e.1]; dsimp only; omega
  | ⟨1, _⟩ => show win0_7.index ⟨(i 0).val / 32, ht⟩ 1 * 2048 ≤ (i 1).val ∧ (i 1).val < win0_7.index ⟨(i 0).val / 32, ht⟩ 1 * 2048 + 2048; rw [e.2]; omega

theorem cover8 (i : S2048x8192.Idx) : ∃ t : Fin cfg0.N, (cfg0.win 8).flush t = true ∧ i ∈ ((cfg0.win 8).blk t).view.set := by
  have h0 : (i 0).val < 2048 := (i 0).isLt
  have h1 : (i 1).val < 8192 := (i 1).isLt
  have ht : (i 0).val / 32 < cfg0.N := by show _ < 64; omega
  refine ⟨⟨(i 0).val / 32, ht⟩, flush0_8 _, ?_⟩
  show i ∈ ((View.whole main_v15_2).slice (win0_8.rect ⟨(i 0).val / 32, ht⟩)).set
  rw [View.set_slice_whole, Rect.mem_set_unit]
  have e := (index_slab ⟨(i 0).val / 32, ht⟩).2.1
  intro a
  match a with
  | ⟨0, _⟩ => show win0_8.index ⟨(i 0).val / 32, ht⟩ 0 * 32 ≤ (i 0).val ∧ (i 0).val < win0_8.index ⟨(i 0).val / 32, ht⟩ 0 * 32 + 32; rw [e.1]; dsimp only; omega
  | ⟨1, _⟩ => show win0_8.index ⟨(i 0).val / 32, ht⟩ 1 * 8192 ≤ (i 1).val ∧ (i 1).val < win0_8.index ⟨(i 0).val / 32, ht⟩ 1 * 8192 + 8192; rw [e.2]; omega

theorem cover9 (i : S8192x2048.Idx) : ∃ t : Fin cfg0.N, (cfg0.win 9).flush t = true ∧ i ∈ ((cfg0.win 9).blk t).view.set := by
  have h0 : (i 0).val < 8192 := (i 0).isLt
  have h1 : (i 1).val < 2048 := (i 1).isLt
  have ht : (i 0).val / 128 < cfg0.N := by show _ < 64; omega
  refine ⟨⟨(i 0).val / 128, ht⟩, flush0_9 _, ?_⟩
  show i ∈ ((View.whole main_v15_3).slice (win0_9.rect ⟨(i 0).val / 128, ht⟩)).set
  rw [View.set_slice_whole, Rect.mem_set_unit]
  have e := (index_slab ⟨(i 0).val / 128, ht⟩).2.2
  intro a
  match a with
  | ⟨0, _⟩ => show win0_9.index ⟨(i 0).val / 128, ht⟩ 0 * 128 ≤ (i 0).val ∧ (i 0).val < win0_9.index ⟨(i 0).val / 128, ht⟩ 0 * 128 + 128; rw [e.1]; dsimp only; omega
  | ⟨1, _⟩ => show win0_9.index ⟨(i 0).val / 128, ht⟩ 1 * 2048 ≤ (i 1).val ∧ (i 1).val < win0_9.index ⟨(i 0).val / 128, ht⟩ 1 * 2048 + 2048; rw [e.2]; omega

theorem result_w7 (c : Dev nD) : (dats m 0 c).arrAt 7 cfg0.N = narrowed S2048x2048 (m ((c : Thread nD τ).loc main_arg3)) := by
  rw [← V_main_arg3 m c]
  exact (dats m 0 c).arrAt_eq_of_cover 7 _ (fun t _ => flushed_w7 m c t) cover7

theorem result_w8 (c : Dev nD) : (dats m 0 c).arrAt 8 cfg0.N = narrowed S2048x8192 (m ((c : Thread nD τ).loc main_arg4)) := by
  rw [← V_main_arg4 m c]
  exact (dats m 0 c).arrAt_eq_of_cover 8 _ (fun t _ => flushed_w8 m c t) cover8

theorem result_w9 (c : Dev nD) : (dats m 0 c).arrAt 9 cfg0.N = narrowed S8192x2048 (m ((c : Thread nD τ).loc main_arg5)) := by
  rw [← V_main_arg5 m c]
  exact (dats m 0 c).arrAt_eq_of_cover 9 _ (fun t _ => flushed_w9 m c t) cover9

end Cert.KernelIdeal.Attn
-- ==== Proof.AttnReference.lean ====
/- The reference's attention, read at an index. -/
module

public import proofs.«01_k».proof.Proof.Gen.ReferenceIdeal.Run
public import Idealize.ShloMosaic.Lib.Pointwise
public import Idealize.ShloMosaic.Lib.KernelVsHost

@[expose] public section

set_option maxRecDepth 16384

noncomputable section

namespace Cert.ReferenceIdeal.Attn

open Cert.ReferenceIdeal Cert.ReferenceIdeal.Gen Cert.ReferenceIdeal.Facts Idealize.ShloMosaic Idealize.ShloMosaic.TcCoe

/-- The scaled products of the queries with the keys. -/
def logits (q k : FVec Ideal S8192x8x192 .f32) : FVec Ideal S8x8192x8192 .f32 :=
  Host.divf (Host.dotGeneral dot_S8192x8x192_S8192x8x192_S8x8192x8192_2_2_0_0_1_1 none q k)
    (broadcastInDim S8x8192x8192 ![] bcast_S_S8x8192x8192 (Host.sqrt (constant S_ .f32 0x43400000#32)))

/-- The largest logit of each query. -/
def peaks (L : FVec Ideal S8x8192x8192 .f32) : FVec Ideal S8x8192 .f32 :=
  maximumf (broadcastInDim S8x8192 ![] bcast_S_S8x8192 (constant S_ .f32 0xFF800000#32))
    (Host.reduce FloatOps.maximumf L (constant S_ .f32 0xFF800000#32) reducesTo_S8x8192x8192_S8x8192_d2 h_S_)

/-- The exponentials of the logits, the largest one taken off. -/
def powers (L : FVec Ideal S8x8192x8192 .f32) : FVec Ideal S8x8192x8192 .f32 :=
  Host.exp (subf L (broadcastInDim S8x8192x8192 ![0, 1, 2] bcast_S8x8192x1_S8x8192x8192_0_1_2
    (broadcastInDim S8x8192x1 ![0, 1] bcast_S8x8192_S8x8192x1_0_1 (peaks L))))

/-- Each exponential's share of its query's sum. -/
def shares (P : FVec Ideal S8x8192x8192 .f32) : FVec Ideal S8x8192x8192 .f32 :=
  Host.divf P (broadcastInDim S8x8192x8192 ![0, 1, 2] bcast_S8x8192x1_S8x8192x8192_0_1_2
    (broadcastInDim S8x8192x1 ![0, 1] bcast_S8x8192_S8x8192x1_0_1
      (Host.reduceAdd P (constant S_ .f32 0x00000000#32) reducesTo_S8x8192x8192_S8x8192_d2 h_S_)))

/-- The values weighted by the shares, the heads side by side. -/
def output (v : FVec Ideal S8192x8x128 .f32) (A : FVec Ideal S8x8192x8192 .f32) : FVec Ideal S8192x1024 .bf16 :=
  truncf .bf16 (shapeCast _ (transpose S8192x8x128 [2, 0, 1]
    (Host.dotGeneral dot_S8192x8x128_S8x8192x8192_S8x128x8192_0_2_2_1_1_0 none v A)
    transposes_S8x128x8192_S8192x8x128_2_0_1) shapeCasts_S8192x8x128_S8192x1024) bitsLt_bf16_f32

theorem logits_apply (q k : FVec Ideal S8192x8x192 .f32) (h : Fin 8) (r c : Fin 8192) :
    logits q k (ix3 h r c) = Ideal.div (∑ x : Fin 192, q (ix3 r h x) * k (ix3 c h x))
      (Host.sqrt (constant S_ .f32 0x43400000#32 : FVec Ideal S_ .f32) ix0) := by
  pointwise [logits]

/-- The maximum over the last axis of a rank-three array, at any sizes. -/
theorem reduce_last {a b n : ℕ} (h : (⟨3, ![a, b, n]⟩ : Shape).ReducesTo [2] ⟨2, ![a, b]⟩)
    (x : FVec Ideal ⟨3, ![a, b, n]⟩ .f32) (init : FVec Ideal S_ .f32) (hu : 0 < S_.numel) (p : Fin a) (r : Fin b) :
    Host.reduce FloatOps.maximumf x init h hu (ix2 p r)
      = Finset.univ.fold max (init (Shape.Idx.first hu)) fun k : Fin n => x (ix3 p r k) := by
  rw [Host.reduce_eq_fold, Shape.ReducesTo.fold_fiber_r3_a2]
  rfl

theorem max_apply {t : Shape} (x y : FVec Ideal t .f32) (i : t.Idx) : maximumf x y i = max (x i) (y i) := by
  pointwise

theorem peaks_apply (L : FVec Ideal S8x8192x8192 .f32) (h : Fin 8) (r : Fin 8192) :
    peaks L (ix2 h r) = max (Ideal.ofBits .f32 0xFF800000#32)
      (Finset.univ.fold max (Ideal.ofBits .f32 0xFF800000#32) fun c : Fin 8192 => L (ix3 h r c)) := by
  unfold peaks
  rw [max_apply, reduce_last]
  rfl

theorem powers_apply (L : FVec Ideal S8x8192x8192 .f32) (h : Fin 8) (r c : Fin 8192) :
    powers L (ix3 h r c) = Ideal.exp (L (ix3 h r c) - peaks L (ix2 h r)) := by
  pointwise [powers]

theorem shares_apply (P : FVec Ideal S8x8192x8192 .f32) (h : Fin 8) (r c : Fin 8192) :
    shares P (ix3 h r c) = Ideal.div (P (ix3 h r c)) (∑ k : Fin 8192, P (ix3 h r k)) := by
  pointwise [shares]

theorem output_apply (v : FVec Ideal S8192x8x128 .f32) (A : FVec Ideal S8x8192x8192 .f32) (r : Fin 8192) (n : Fin 1024) :
    output v A (ix2 r n) = ∑ k : Fin 8192, v (ix3 k ⟨n.val / 128, by have := n.isLt; omega⟩ ⟨n.val % 128, by omega⟩)
      * A (ix3 ⟨n.val / 128, by have := n.isLt; omega⟩ r k) := by
  pointwise [output]

end Cert.ReferenceIdeal.Attn

end
-- ==== Proof.AttnClaim.lean ====
/- The attention of the kernel is the attention of the reference, over finite queries and keys. -/
module

public import proofs.«01_k».proof.Proof.AttnValue
public import proofs.«01_k».proof.Proof.AttnReference
public import proofs.«01_k».proof.Proof.Softmax

@[expose] public section

set_option maxRecDepth 16384

noncomputable section

namespace Cert.KernelIdeal.Attn

open Cert.KernelIdeal Cert.KernelIdeal.Gen Idealize.ShloMosaic Idealize.ShloMosaic.TcCoe Cert.Softmax

variable (q k : FVec Ideal S8192x8x192 .f32) (v : FVec Ideal S8192x8x128 .f32)
variable (q' k' : S8192x8x192.Idx → ℝ)

theorem scale_apply : scale ix0 = Ideal.sqrt (Ideal.ofBits .f32 0x43400000#32) * Ideal.log (Ideal.ofBits .f32 0x40000000#32) := rfl

/-- The padded rows add nothing to a logit. -/
theorem weight_eq (hq : ∀ i, q i = (q' i : EReal)) (hk : ∀ i, k i = (k' i : EReal)) (h : Fin 8) (r c : Fin 8192) :
    weight (queryOperand q) (keyOperand k) h r c
      = Ideal.exp (logit (fun x => q' (ix3 r h x)) (fun x => k' (ix3 c h x)) : EReal) := by
  unfold weight
  rw [← power_of_kernel, Fin.sum_univ_two_halves 192 64 rfl]
  refine congrArg Ideal.exp2 (Eq.trans (congrArg₂ (· + ·) ?_ (?_ : _ = (0 : EReal))) (add_zero _))
  · refine Finset.sum_congr rfl fun x _ => ?_
    rw [keyOperand_apply, queryOperand_apply, dif_pos x.isLt, dif_pos x.isLt, hq, hk, scale_apply]
  · refine Finset.sum_eq_zero fun x _ => ?_
    rw [keyOperand_apply, dif_neg (by show ¬ (192 + x.val < 192); omega), zero_mul]

/-- The chunks of the values, read in order, are the values. -/
theorem weighted_eq (w : Fin 8192 → EReal) (h : Fin 8) (d : Fin 128) :
    ∑ j : Fin 32, ∑ c : Fin 256, valueOperand v (ix4 h j d c) * w (keyOf j c) = ∑ c : Fin 8192, v (ix3 c h d) * w c := by
  rw [Fin.sum_univ_tiles 32 256 rfl (fun c => v (ix3 c h d) * w c)]
  refine Finset.sum_congr rfl fun j _ => Finset.sum_congr rfl fun c _ => ?_
  rw [valueOperand_apply]

theorem attention_eq (hq : ∀ i, q i = (q' i : EReal)) (hk : ∀ i, k i = (k' i : EReal)) :
    attention (queryOperand q) (keyOperand k) (valueOperand v)
      = Cert.ReferenceIdeal.Attn.output v (Cert.ReferenceIdeal.Attn.shares (Cert.ReferenceIdeal.Attn.powers
          (Cert.ReferenceIdeal.Attn.logits q k))) := by
  funext i
  obtain ⟨r, n, rfl⟩ : ∃ (r : Fin 8192) (n : Fin 1024), i = ix2 r n := ⟨i 0, i 1, by idx_ext⟩
  rw [Cert.ReferenceIdeal.Attn.output_apply]
  have hl : ∀ (h : Fin 8) (c : Fin 8192), Cert.ReferenceIdeal.Attn.logits q k (ix3 h r c)
      = (logit (fun x => q' (ix3 r h x)) (fun x => k' (ix3 c h x)) : EReal) := fun h c => by
    rw [Cert.ReferenceIdeal.Attn.logits_apply, ← logit_of_host]
    simp only [hq, hk]
    rfl
  obtain ⟨M, hM⟩ := fold_max_real fun c : Fin 8192 => logit (fun x => q' (ix3 r (headOf n) x)) (fun x => k' (ix3 c (headOf n) x))
  have hp : Cert.ReferenceIdeal.Attn.peaks (Cert.ReferenceIdeal.Attn.logits q k) (ix2 (headOf n) r) = M := by
    rw [Cert.ReferenceIdeal.Attn.peaks_apply, word_bot]
    simp only [hl]
    rw [hM]
    exact max_eq_right bot_le
  simp only [Cert.ReferenceIdeal.Attn.shares_apply, Cert.ReferenceIdeal.Attn.powers_apply, hl, hp]
  refine Eq.trans ?_ (Cert.Softmax.weighted _ _ M).symm
  show head (queryOperand q) (keyOperand k) (valueOperand v) (headOf n) r (columnOf n) = _
  unfold head
  rw [weighted_eq v (weight (queryOperand q) (keyOperand k) (headOf n) r)]
  simp only [weight_eq q k q' k' hq hk]

end Cert.KernelIdeal.Attn

end
-- ==== Proof.AttnProof.lean ====
/- The claims about the attention call. -/
module

public import proofs.«01_k».proof.Proof.Finite
public import proofs.«01_k».proof.Defs
public import proofs.«01_k».proof.Proof.Gen.Kernel.Frame
public import proofs.«01_k».proof.Proof.Gen.KernelIdeal.Value
public import proofs.«01_k».proof.Proof.AttnClaim

@[expose] public section

set_option maxRecDepth 16384

noncomputable section

namespace Cert.Proof.Attn

open Idealize.ShloMosaic Idealize.SL.Sem

theorem facts_finite_qk : Cert.Pre_finite_qk.Facts := ⟨by decide⟩

instance : Cert.Pre_finite_qk.Facts := facts_finite_qk

theorem frame_kernel : Cert.quiescent_Kernel := fun m ρ _ => Cert.Kernel.Gen.frame m ρ
theorem frame_ideal : Cert.quiescent_KernelIdeal := fun m ρ _ => Cert.KernelIdeal.Gen.frame m ρ
theorem frame_ideal_finite : Cert.quiescent_KernelIdeal_pre_finite_qk := fun m ρ _ => Cert.KernelIdeal.Gen.frame m ρ

theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem frame_reference_finite : Cert.quiescent_ReferenceIdeal_pre_finite_qk := fun m ρ _ => frame_reference m ρ trivial

theorem preserves : Cert.preserves_Kernel_KernelIdeal := trivial

theorem algebraic : Cert.algebraic_KernelIdeal_ReferenceIdeal_pre_finite_qk := by
  intro m g m' g' hpre hargs
  refine ⟨_, _, _, _, Cert.KernelIdeal.Value.run_blocks m g, ?_⟩
  refine (θ_run Cert.ReferenceIdeal.defs _ _).mono (fun r h c => ?_) (Cert.ReferenceIdeal.Value.run (F := Ideal) m' g')
  obtain ⟨h0, h1, h2, h3, hrest⟩ := h c
  obtain ⟨a0, a1, a2, a3, a4, a5⟩ := hargs c
  refine ⟨h0.trans ?_, h1.trans ?_, h2.trans ?_, h3.trans ?_, hrest⟩
  · choose q' hq using Cert.Proof.real_of_finite _ _ (fun _ => rfl) (hpre c).1
    choose k' hk using Cert.Proof.real_of_finite _ _ (fun _ => rfl) (hpre c).2
    rw [a0, a1, a2, Cert.KernelIdeal.Attn.result_attention, Cert.KernelIdeal.Attn.entry_queries,
      Cert.KernelIdeal.Attn.entry_keys, Cert.KernelIdeal.Attn.entry_values]
    exact (Cert.KernelIdeal.Attn.attention_eq _ _ _ q' k' hq hk).symm
  · rw [a3]; exact (Cert.KernelIdeal.Attn.result_w7 m c).symm
  · rw [a4]; exact (Cert.KernelIdeal.Attn.result_w8 m c).symm
  · rw [a5]; exact (Cert.KernelIdeal.Attn.result_w9 m c).symm

end Cert.Proof.Attn

end
-- ==== Proof.FfnFrame.lean ====
/-
  The feed-forward kernel's run. The kernel walks eight row blocks of 1024 rows; each row block takes eight steps, one
  per 1024 hidden columns. At a row block's first step it starts a copy of that block of the residual rows into a
  buffer of its own, at the seven later steps it adds the step's product to the result's block, and at the last step it
  waits for the copy and adds the gated sum to the copied rows. So a copy is in flight between the steps of a row
  block, and the invariant between steps says which block is on its way.

  Everything here holds for any reading of the floating-point types.
-/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.Frame
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers as the region finds them -/

/-- A core's buffers when the grid starts: after the three host casts. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

theorem hmain : Pipeline.HMain (Ix := Unit) (Name := ℕ) (U := Pipeline.UD sig nD τ) (Lvl := ℕ) cfgs 0 defs₀
    Variants.none m (main (F := F)) (V m) :=
  Pipeline.hmain_prefixes cfgs 0 defs₀ Variants.none m main [hostOps0] (by simp only [List.Forall]; exact hostOps0_sub)
    (by simp only [List.Forall]; exact hostOps0_fresh) main_chain

/-- A buffer that no cast writes is found as launched. -/
theorem V_kept (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.unary_writes,
      Finset.mem_singleton]
    exact ⟨StableHlo.devRef_ne_of_ne h0, StableHlo.devRef_ne_of_ne h1, StableHlo.devRef_ne_of_ne h2⟩))

/-- Window `w`'s block at step `t`. -/
def blockAt (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The residual rows: their blocks, the buffer they are copied to, the copy's counter -/

abbrev rowsM : Memref sig .tc .hbm S8192x2048 .f32 := Memref.whole main_arg3
abbrev bufM : Memref sig .tc .vmem S1024x2048 .f32 := Memref.whole cc0_scratch0
abbrev cell : SemLoc sig := .dma cc0_scratch1.sem

abbrev rowOff (b : Fin 8) : Fin 2 → Nat := ![1024 * b.val, 0]
theorem rowOff_inb (b : Fin 8) : ∀ a, rowOff b a + S1024x2048.size a ≤ S8192x2048.size a := by
  have := b.isLt; intro a; fin_cases a
  · show 1024 * b.val + 1024 ≤ 8192; omega
  · show 0 + 2048 ≤ 2048; omega
/-- Row block `b` of the residual rows. -/
def rowsB (b : Fin 8) : Memref sig .tc .hbm S1024x2048 .f32 :=
  rowsM.slice (Rect.unit (s := S8192x2048) (rowOff b) S1024x2048.size (rowOff_inb b)) (fun _ => rfl)

/-- The row block the first step at grid coordinates `i` copies is block `i 0`. -/
@[sl_canon] theorem rowsB_issue (i : grid0.Coords) (hh hs) :
    (rowsM.slice (Rect.unit (s := S8192x2048) (k0_off1 i) S1024x2048.size hh) hs) = rowsB (i 0) :=
  Memref.slice_unit_congr _ (k0_off1_eq i) _ _ _ (fun _ => rfl)
@[sl_canon] theorem rowsB_wait (i : grid0.Coords) (hh hs) :
    (rowsM.slice (Rect.unit (s := S8192x2048) (k0_off2 i) S1024x2048.size hh) hs) = rowsB (i 0) :=
  Memref.slice_unit_congr _ (k0_off2_eq i) _ _ _ (fun _ => rfl)

section Body

variable (c : Dev nD) (X : Buf (Elt F) (rowsM.view.loc (c : Thread nD τ)))

abbrev bufP (f : Buf (Elt F) (bufM.view.loc (c : Thread nD τ))) : sProp 𝕄 :=
  bufM.view.loc (c : Thread nD τ) ↦[bufM.view.set]{fullShare} f
abbrev rowsP : sProp 𝕄 := rowsM.view.loc (c : Thread nD τ) ↦{fullShare} X

/-- Row block `b`'s words. -/
abbrev rowsRead (b : Fin 8) : Vec F S1024x2048 .f32 := ReadAs.same.apply ((rowsB b).view.read (Elt F) X)
/-- Row block `b` on its way to the kernel's buffer, the rest of the rows held beside it. -/
def flying (b : Fin 8) : sProp 𝕄 :=
  iprop((∃ f, Transfers.Flight countersEmb (c : Thread nD τ) cell () 262144
      iprop((bufM.view.loc (c : Thread nD τ) ↦[bufM.view.set]{fullShare}
          bufM.view.writes (Elt F) f [⟨Rect.whole S1024x2048, rowsRead c X b⟩])
        ∗ (rowsM.view.loc (c : Thread nD τ) ↦[(rowsB b).view.set]{fullShare} X)))
    ∗ (rowsM.view.loc (c : Thread nD τ) ↦[Finset.univ \ (rowsB b).view.set]{fullShare} X))

/-- A row block's first step: the copy starts, the result's block is the step's product. -/
theorem first_run (i : grid0.Coords) (h1 : k0_cond1 i = 1#1) (h2 : ¬ k0_cond2 i = 1#1) (h3 : ¬ k0_cond3 i = 1#1)
    (a0 : Memref sig .tc .vmem S1024x2048 .bf16) (w0 : a0.IsWhole) (a1 : Memref sig .tc .vmem S2048x1024 .bf16)
    (w1 : a1.IsWhole) (a2 : Memref sig .tc .vmem S1024x2048 .bf16) (w2 : a2.IsWhole)
    (a3 : Memref sig .tc .vmem S1x2048 .f32) (w3 : a3.IsWhole) (a4 : Memref sig .tc .vmem S1024x2048 .f32)
    (w4 : a4.IsWhole) (x0 : Vec F S1024x2048 .bf16) (x1 : Vec F S2048x1024 .bf16) (x2 : Vec F S1024x2048 .bf16)
    (f : Buf (Elt F) (bufM.view.loc (c : Thread nD τ))) (W : Waits sig Unit) (K : PUnit → sProp 𝕄) :
    iprop(owns (c : Thread nD τ) a0 fullShare x0 ∗ owns (c : Thread nD τ) a1 fullShare x1
        ∗ owns (c : Thread nD τ) a2 fullShare x2 ∗ (∃ d, owns (c : Thread nD τ) a4 fullShare d)
        ∗ bufP c f ∗ semVal ((c : Thread nD τ), cell) 0 ∗ rowsP c X ∗ owes (c : Thread nD τ) 0 W
        ∗ (iprop(owns (c : Thread nD τ) a0 fullShare x0 ∗ owns (c : Thread nD τ) a1 fullShare x1
        ∗ owns (c : Thread nD τ) a2 fullShare x2 ∗ owns (c : Thread nD τ) a4 fullShare (k0_pay1 x0 x1 x2)
            ∗ flying c X (i 0) ∗ ∃ W', owes (c : Thread nD τ) 0 W') -∗ K ⟨⟩))
      ⊢ wp frame (wpE (defs₀ (F := F)) Variants.none c none) Set.univ
          (cc0_ffn i a0 w0 a1 w1 a2 w2 rowsM (Memref.isWhole_whole _) a3 w3 a4 w4 bufM (Memref.isWhole_whole _)
            cc0_scratch1) K := by
  simp only [cc0_ffn_eq_skeleton]; unfold cc0_ffn_skel
  unfold owns flying
  iintro ⟨⟨%f0, %hf0, H0⟩, ⟨%f1, %hf1, H1⟩, ⟨%f2, %hf2, H2⟩, ⟨%d4, %f4, -, H4⟩, HB, HC, HR, HW, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_full, View.readAt_full a0.view, View.readAt_full a1.view, View.readAt_full a2.view]
  isplitl [HC HR]
  · isplitl [HC]
    · iexists f; iexact HC
    iexact HR
  iexists _; iexact HW

/-- A step between: the step's product is added to the result's block, the copy goes on. -/
theorem middle_run (i : grid0.Coords) (h1 : ¬ k0_cond1 i = 1#1) (h2 : k0_cond2 i = 1#1) (h3 : ¬ k0_cond3 i = 1#1)
    (a0 : Memref sig .tc .vmem S1024x2048 .bf16) (w0 : a0.IsWhole) (a1 : Memref sig .tc .vmem S2048x1024 .bf16)
    (w1 : a1.IsWhole) (a2 : Memref sig .tc .vmem S1024x2048 .bf16) (w2 : a2.IsWhole)
    (a3 : Memref sig .tc .vmem S1x2048 .f32) (w3 : a3.IsWhole) (a4 : Memref sig .tc .vmem S1024x2048 .f32)
    (w4 : a4.IsWhole) (x0 : Vec F S1024x2048 .bf16) (x1 : Vec F S2048x1024 .bf16) (x2 : Vec F S1024x2048 .bf16)
    (x4 : Vec F S1024x2048 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a4 fullShare x4
        ∗ (iprop(owns (c : Thread nD τ) a0 fullShare x0 ∗ owns (c : Thread nD τ) a1 fullShare x1
        ∗ owns (c : Thread nD τ) a2 fullShare x2 ∗ owns (c : Thread nD τ) a4 fullShare (k0_pay2 x4 x0 x1 x2)) -∗ K ⟨⟩))
      ⊢ wp frame (wpE (defs₀ (F := F)) Variants.none c none) Set.univ
          (cc0_ffn i a0 w0 a1 w1 a2 w2 rowsM (Memref.isWhole_whole _) a3 w3 a4 w4 bufM (Memref.isWhole_whole _)
            cc0_scratch1) K := by
  simp only [cc0_ffn_eq_skeleton]; unfold cc0_ffn_skel
  unfold owns
  iintro ⟨⟨%f0, %hf0, H0⟩, ⟨%f1, %hf1, H1⟩, ⟨%f2, %hf2, H2⟩, ⟨%f4, %hf4, H4⟩, Hk⟩
  subst hf0 hf1 hf2 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H4
  ipureintro
  rw [View.read_writes_full, View.readAt_full a4.view, View.readAt_full a0.view, View.readAt_full a1.view,
    View.readAt_full a2.view]

/-- A row block's last step: the last product is added, the copy is waited for, and the result's block becomes the
    copied rows plus the gated sum. -/
theorem last_run (i : grid0.Coords) (h1 : ¬ k0_cond1 i = 1#1) (h2 : k0_cond2 i = 1#1) (h3 : k0_cond3 i = 1#1)
    (a0 : Memref sig .tc .vmem S1024x2048 .bf16) (w0 : a0.IsWhole) (a1 : Memref sig .tc .vmem S2048x1024 .bf16)
    (w1 : a1.IsWhole) (a2 : Memref sig .tc .vmem S1024x2048 .bf16) (w2 : a2.IsWhole)
    (a3 : Memref sig .tc .vmem S1x2048 .f32) (w3 : a3.IsWhole) (a4 : Memref sig .tc .vmem S1024x2048 .f32)
    (w4 : a4.IsWhole) (x0 : Vec F S1024x2048 .bf16) (x1 : Vec F S2048x1024 .bf16) (x2 : Vec F S1024x2048 .bf16)
    (x3 : Vec F S1x2048 .f32) (x4 : Vec F S1024x2048 .f32) (W : Waits sig Unit) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ flying c X (i 0) ∗ owes (c : Thread nD τ) 0 W
        ∗ (iprop(owns (c : Thread nD τ) a0 fullShare x0 ∗ owns (c : Thread nD τ) a1 fullShare x1
        ∗ owns (c : Thread nD τ) a2 fullShare x2 ∗ owns (c : Thread nD τ) a3 fullShare x3
            ∗ owns (c : Thread nD τ) a4 fullShare (k0_pay3 (rowsRead c X (i 0)) x3 (k0_pay2 x4 x0 x1 x2))
            ∗ (∃ f, bufP c f) ∗ semVal ((c : Thread nD τ), cell) 0 ∗ rowsP c X
            ∗ ∃ W', owes (c : Thread nD τ) 0 W') -∗ K ⟨⟩))
      ⊢ wp frame (wpE (defs₀ (F := F)) Variants.none c none) Set.univ
          (cc0_ffn i a0 w0 a1 w1 a2 w2 rowsM (Memref.isWhole_whole _) a3 w3 a4 w4 bufM (Memref.isWhole_whole _)
            cc0_scratch1) K := by
  simp only [cc0_ffn_eq_skeleton]; unfold cc0_ffn_skel
  unfold owns flying
  iintro ⟨⟨%f0, %hf0, H0⟩, ⟨%f1, %hf1, H1⟩, ⟨%f2, %hf2, H2⟩, ⟨%f3, %hf3, H3⟩, ⟨%f4, %hf4, H4⟩, ⟨⟨%f, HC⟩, HR⟩, HW, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    have e12 : last_run.sl.v12 c X i = rowsRead c X (i 0) := by
      delta last_run.sl.v12
      exact View.readCov_full bufM.view (off' := fun _ => 0) _ (fun a => by simp) _ _
    have e14 : last_run.sl.v14 c a0 a1 a2 a4 f0 f1 f2 f4 = k0_pay2 (a4.view.read (Elt F) f4) (a0.view.read (Elt F) f0)
        (a1.view.read (Elt F) f1) (a2.view.read (Elt F) f2) := by
      delta last_run.sl.v14 last_run.sl.H4_1
      rw [View.readCov_full, View.readAt_full a4.view, View.readAt_full a0.view, View.readAt_full a1.view,
        View.readAt_full a2.view]
    rw [e12, e14, View.read_writes_full, View.readAt_full a3.view]
  isplitl [HC_dst]
  · iexists _; iexact HC_dst
  isplitl [HC]
  · iexact HC
  isplitl [HR]
  · iexact HR
  iexists _; iexact HW

end Body

/-! ## Steps and grid coordinates: step `t` is hidden block `t % 8` of row block `t / 8` -/

theorem cond1_iff : ∀ t : Fin cfg0.N, k0_cond1 (grid0.coords t) = 1#1 ↔ t.val % 8 = 0 := by decide +kernel
theorem cond2_iff : ∀ t : Fin cfg0.N, k0_cond2 (grid0.coords t) = 1#1 ↔ t.val % 8 ≠ 0 := by decide +kernel
theorem cond3_iff : ∀ t : Fin cfg0.N, k0_cond3 (grid0.coords t) = 1#1 ↔ t.val % 8 = 7 := by decide +kernel
/-- The row block of step `t`. -/
abbrev rowOf (t : ℕ) : Fin 8 := Fin.ofNat 8 (t / 8)
theorem coords_val : ∀ t : Fin cfg0.N, (grid0.coords t 0).val = t.val / 8 := by decide +kernel
theorem coords_row (t : Fin cfg0.N) : grid0.coords t 0 = rowOf t.val :=
  Fin.ext ((coords_val t).trans (Nat.mod_eq_of_lt (Nat.div_lt_of_lt_mul t.isLt)).symm)
theorem live4 : ∀ i, cfg0.idle 4 i = false := by decide +kernel

/-! ## What the staging buffers hold -/

/-- The sum of the row block's products up to step `n`. -/
def sumAt (c : Dev nD) : (n : ℕ) → n < cfg0.N → Vec F S1024x2048 .f32
  | 0, h => k0_pay1 (blockAt m c 0 ⟨0, h⟩) (blockAt m c 1 ⟨0, h⟩) (blockAt m c 2 ⟨0, h⟩)
  | n + 1, h =>
    if (n + 1) % 8 = 0 then k0_pay1 (blockAt m c 0 ⟨n + 1, h⟩) (blockAt m c 1 ⟨n + 1, h⟩) (blockAt m c 2 ⟨n + 1, h⟩)
    else k0_pay2 (sumAt c n (Nat.lt_of_succ_lt h)) (blockAt m c 0 ⟨n + 1, h⟩) (blockAt m c 1 ⟨n + 1, h⟩)
      (blockAt m c 2 ⟨n + 1, h⟩)

theorem sumAt_first (c : Dev nD) (t : Fin cfg0.N) (h : t.val % 8 = 0) :
    sumAt m c t.val t.isLt = k0_pay1 (blockAt m c 0 t) (blockAt m c 1 t) (blockAt m c 2 t) := by
  obtain ⟨n, hn⟩ := t
  cases n with
  | zero => rfl
  | succ n => exact if_pos h

theorem sumAt_later (c : Dev nD) (t : Fin cfg0.N) (h : t.val % 8 ≠ 0) :
    sumAt m c t.val t.isLt = k0_pay2 (sumAt m c (t.val - 1) (by have := t.isLt; omega)) (blockAt m c 0 t)
      (blockAt m c 1 t) (blockAt m c 2 t) := by
  obtain ⟨n, hn⟩ := t
  cases n with
  | zero => exact absurd rfl h
  | succ n => exact if_neg h

/-- The residual rows as the region finds them. -/
abbrev X1 (c : Dev nD) : Buf (Elt F) (rowsM.view.loc (c : Thread nD τ)) := V m c main_arg3

/-- The result's block after step `t`: the sum so far, or at the row block's last step the finished rows. -/
def outAt (c : Dev nD) (t : Fin cfg0.N) : Vec F S1024x2048 .f32 :=
  if t.val % 8 = 7 then k0_pay3 (rowsRead c (X1 m c) (rowOf t.val)) (blockAt m c 3 t) (sumAt m c t.val t.isLt)
  else sumAt m c t.val t.isLt

/-- Between row blocks: the copy's buffer, its counter and the residual rows in hand. -/
def idleP (c : Dev nD) : sProp 𝕄 :=
  iprop((∃ f, bufP c f) ∗ (∃ r, prngReg c r) ∗ semVal ((c : Thread nD τ), cell) 0 ∗ rowsP c (X1 m c))
/-- Within a row block: its rows on their way. -/
def busyP (c : Dev nD) (b : Fin 8) : sProp 𝕄 := iprop((∃ r, prngReg c r) ∗ flying c (X1 m c) b)
/-- The invariant before step `n`. -/
def Phi (c : Dev nD) (n : ℕ) : sProp 𝕄 := if n % 8 = 0 then idleP m c else busyP m c (rowOf n)

def dats (_ : Fin 1) (c : Dev nD) : Dat τ (Elt F) Unit ℕ (Pipeline.UD sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => outAt m c t
    | ⟨_ + 5, h⟩ => absurd h (Nat.not_lt.2 (Nat.le_add_left _ _))
  Φ t := Phi m c t.val
  q _ := fullShare
  owed _ := 0

theorem A_eq (c : Dev nD) (w : Fin cfg0.W) : (dats m 0 c).A w = V m c (Pipeline.arrRef spec0 w) := by dsimp only [dats]
theorem after0_0 (c t) : (dats m 0 c).after 0 t = blockAt m c 0 t := by dsimp only [dats]
theorem after0_1 (c t) : (dats m 0 c).after 1 t = blockAt m c 1 t := by dsimp only [dats]
theorem after0_2 (c t) : (dats m 0 c).after 2 t = blockAt m c 2 t := by dsimp only [dats]
theorem after0_3 (c t) : (dats m 0 c).after 3 t = blockAt m c 3 t := by dsimp only [dats]
theorem after0_4 (c t) : (dats m 0 c).after 4 t = outAt m c t := by dsimp only [dats]
theorem Phi_eq (c : Dev nD) (t : Fin (cfg0.N + 1)) : (dats m 0 c).Φ t = Phi m c t.val := by dsimp only [dats]

theorem before0_0 (c : Dev nD) (t d) : (dats m 0 c).before 0 t d = blockAt m c 0 t :=
  ((dats m 0 c).before_in_eq_fetched 0 rfl (fun _ => rfl) (fun _ _ _ => rfl)
    (fun t => by rw [after0_0]; unfold Dat.blockOf blockAt; rw [A_eq]; try rfl) t d).trans
    (by unfold Dat.fetched Dat.blockOf blockAt; rw [A_eq]; try rfl)
theorem before0_1 (c : Dev nD) (t d) : (dats m 0 c).before 1 t d = blockAt m c 1 t :=
  ((dats m 0 c).before_in_eq_fetched 1 rfl (fun _ => rfl) (fun _ _ _ => rfl)
    (fun t => by rw [after0_1]; unfold Dat.blockOf blockAt; rw [A_eq]; try rfl) t d).trans
    (by unfold Dat.fetched Dat.blockOf blockAt; rw [A_eq]; try rfl)
theorem before0_2 (c : Dev nD) (t d) : (dats m 0 c).before 2 t d = blockAt m c 2 t :=
  ((dats m 0 c).before_in_eq_fetched 2 rfl (fun _ => rfl) (fun _ _ _ => rfl)
    (fun t => by rw [after0_2]; unfold Dat.blockOf blockAt; rw [A_eq]; try rfl) t d).trans
    (by unfold Dat.fetched Dat.blockOf blockAt; rw [A_eq]; try rfl)
theorem before0_3 (c : Dev nD) (t d) : (dats m 0 c).before 3 t d = blockAt m c 3 t :=
  ((dats m 0 c).before_in_eq_fetched 3 rfl (fun _ => rfl) (fun _ _ _ => rfl)
    (fun t => by rw [after0_3]; unfold Dat.blockOf blockAt; rw [A_eq]; try rfl) t d).trans
    (by unfold Dat.fetched Dat.blockOf blockAt; rw [A_eq]; try rfl)

/-- At a later step of a row block the result's block holds the sum so far. -/
theorem before0_4 (c : Dev nD) (t : Fin cfg0.N) (h : t.val % 8 ≠ 0) (d) :
    (dats m 0 c).before 4 t d = sumAt m c (t.val - 1) (by have := t.isLt; omega) := by
  have h0 : t.val ≠ 0 := fun e => h (by rw [e])
  have h7 : (t.val - 1) % 8 ≠ 7 := by omega
  rw [(dats m 0 c).before_out_kept 4 rfl t h0
    (Bool.eq_false_iff.mpr fun e => h7 ((flush0_4 ⟨t.val - 1, _⟩).mp e)) live4 (fun _ _ => rfl) d, after0_4]
  exact if_neg h7

/-! ## The body at each step -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_eq, Phi_eq, Fin.val_castSucc, Fin.val_succ]
  simp only [before0_0, before0_1, before0_2, before0_3, after0_0, after0_1, after0_2, after0_3, after0_4]
  unfold Dat.owesAt Pipeline.owesWithin
  rw [show (dats m 0 c).owed t.castSucc = 0 from rfl, show (dats m 0 c).owed t.succ = 0 from rfl]
  by_cases h0 : t.val % 8 = 0
  · have h7 : t.val % 8 ≠ 7 := by omega
    have hr : rowOf (t.val + 1) = rowOf t.val := by unfold rowOf; congr 1; omega
    rw [show Phi m c t.val = idleP m c from if_pos h0,
      show Phi m c (t.val + 1) = busyP m c (rowOf t.val) from (if_neg (by omega)).trans (by rw [hr]),
      show outAt m c t = _ from if_neg h7, sumAt_first m c t h0]
    unfold idleP busyP
    iintro ⟨⟨⟨%f, HB⟩, HP, HC, HX⟩, ⟨%W, -, HW⟩, ⟨%d0, H0⟩, ⟨%d1, H1⟩, ⟨%d2, H2⟩, ⟨%d3, H3⟩, ⟨%d4, H4⟩⟩
    iapply (first_run c (X1 m c) (grid0.coords t) ((cond1_iff t).mpr h0) (fun e => (cond2_iff t).mp e h0)
      (fun e => h7 ((cond3_iff t).mp e)) _ _ _ _ _ _ _ _ _ _ (blockAt m c 0 t) (blockAt m c 1 t) (blockAt m c 2 t) f W _)
    isplitl [H0]; · iexact H0
    isplitl [H1]; · iexact H1
    isplitl [H2]; · iexact H2
    isplitl [H4]; · iexists _; iexact H4
    isplitl [HB]; · iexact HB
    isplitl [HC]; · iexact HC
    isplitl [HX]; · iexact HX
    isplitl [HW]; · iexact HW
    rw [coords_row]
    iintro ⟨H0, H1, H2, H4, HF, ⟨%W', HW'⟩⟩
    isplitl [HP HF]
    · isplitl [HP]; · iexact HP
      iexact HF
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4
  simp only [before0_4 m c t h0]
  by_cases h7 : t.val % 8 = 7
  · rw [show Phi m c t.val = busyP m c (rowOf t.val) from if_neg h0,
      show Phi m c (t.val + 1) = idleP m c from if_pos (by omega),
      show outAt m c t = _ from if_pos h7, sumAt_later m c t h0]
    unfold idleP busyP
    iintro ⟨⟨HP, HF⟩, ⟨%W, -, HW⟩, ⟨%d0, H0⟩, ⟨%d1, H1⟩, ⟨%d2, H2⟩, ⟨%d3, H3⟩, ⟨%d4, H4⟩⟩
    iapply (last_run c (X1 m c) (grid0.coords t) (fun e => h0 ((cond1_iff t).mp e)) ((cond2_iff t).mpr h0)
      ((cond3_iff t).mpr h7) _ _ _ _ _ _ _ _ _ _ (blockAt m c 0 t) (blockAt m c 1 t) (blockAt m c 2 t)
      (blockAt m c 3 t) (sumAt m c (t.val - 1) _) W _)
    rw [coords_row]
    isplitl [H0]; · iexact H0
    isplitl [H1]; · iexact H1
    isplitl [H2]; · iexact H2
    isplitl [H3]; · iexact H3
    isplitl [H4]; · iexact H4
    isplitl [HF]; · iexact HF
    isplitl [HW]; · iexact HW
    iintro ⟨H0, H1, H2, H3, H4, HB, HC, HX, ⟨%W', HW'⟩⟩
    isplitl [HP HB HC HX]
    · isplitl [HB]; · iexact HB
      isplitl [HP]; · iexact HP
      isplitl [HC]; · iexact HC
      iexact HX
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4
  · have hr : rowOf (t.val + 1) = rowOf t.val := by unfold rowOf; congr 1; omega
    rw [show Phi m c t.val = busyP m c (rowOf t.val) from if_neg h0,
      show Phi m c (t.val + 1) = busyP m c (rowOf t.val) from (if_neg (by omega)).trans (by rw [hr]),
      show outAt m c t = _ from if_neg h7, sumAt_later m c t h0]
    iintro ⟨HF, ⟨%W, -, HW⟩, ⟨%d0, H0⟩, ⟨%d1, H1⟩, ⟨%d2, H2⟩, ⟨%d3, H3⟩, ⟨%d4, H4⟩⟩
    iapply (middle_run c (grid0.coords t) (fun e => h0 ((cond1_iff t).mp e)) ((cond2_iff t).mpr h0)
      (fun e => h7 ((cond3_iff t).mp e)) _ _ _ _ _ _ _ _ _ _ (blockAt m c 0 t) (blockAt m c 1 t) (blockAt m c 2 t)
      (sumAt m c (t.val - 1) _) _)
    isplitl [H0]; · iexact H0
    isplitl [H1]; · iexact H1
    isplitl [H2]; · iexact H2
    isplitl [H4]; · iexact H4
    iintro ⟨H0, H1, H2, H4⟩
    isplitl [HF]; · iexact HF
    isplitl [HW]
    · iexists W; isplitr; · ipureintro; exact fun _ _ => Or.inl trivial
      iexact HW
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  rw [live4]
  exact triple_restated (sound_body m c t) rfl .rfl fun _ => .rfl

/-! ## The run -/

abbrev osem0 : Fin 1 → SemLoc sig := fun _ => cell
theorem ownSemFacts0 : Pipeline.OwnSemFacts spec0 osem0 := by decide
def H0 : Finset (Ref sig .tc) := {main_arg3}
theorem H0_sub : H0 ⊆ Pipeline.restRefs sig spec0 := by decide

theorem own_eq (c : Dev nD) : (Pipeline.ΦD osem0 spec0 H0 (V m) c : sProp 𝕄) = idleP m c := by
  rw [Pipeline.ΦD_eq, scopedRest0_eq, Pipeline.ownSems0_eq_of_list c osem0 [0] (by decide) (by decide),
    BI.bigSep_eq_bigSepL_of_eq [main_arg3] (by decide) (by decide)]
  unfold idleP bufP
  rw [show bufM.view.set = Finset.univ from View.set_whole _]
  rfl

set_option backward.isDefEq.respectTransparency.types false in
set_option maxHeartbeats 800000 in
theorem run : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub
    m ρ main (hbody := fun c => (body_obligation m c).loose) (hshare := fun c => (dats m 0 c).share_full fun _ => rfl)
    (howed := fun _ _ => rfl) (V := V m) (hmain := hmain m) (hA := A_eq m)
    (hin := fun c => by rw [own_eq, Phi_eq]; exact .rfl) (hout := fun c => by rw [own_eq, Phi_eq]; exact .rfl)

end Cert.Proof.Ffn

end
-- ==== Proof.FfnValue.lean ====
/-
  The feed-forward call's result over the extended reals. The block the kernel writes for 1024 rows is a sum over eight
  blocks of the hidden columns, one added at each step; the eight blocks tile the hidden columns, and the eight row
  blocks tile the rows, so the result is one function of the call's arguments.
-/
module

public import proofs.«01_k».proof.Proof.FfnFrame
public import Idealize.ShloMosaic.Lib.Pipeline.Value
public import Idealize.ShloMosaic.Lib.Pipeline.ValueKit.Tiles
public import Idealize.ShloMosaic.Lib.Pointwise

@[expose] public section

set_option maxRecDepth 16384

noncomputable section

namespace Cert.Proof.Ffn

open Cert.Kernel2Ideal Cert.Kernel2Ideal.Gen
open Idealize.ShloMosaic Idealize.ShloMosaic.TcCoe Idealize.SL.Sem
open Idealize.ShloMosaic.Pipeline (Dat)

/-- A hidden value: the product of a row and a column of the first matrix, cut off below zero, squared. -/
def hidden (f g : Fin 2048 → EReal) : EReal := max (∑ d : Fin 2048, f d * g d) 0 * max (∑ d : Fin 2048, f d * g d) 0

/-- What one hidden column adds to the result at row `r` and column `n`. -/
def term (h : FVec Ideal S8192x2048 .f32) (w1 : FVec Ideal S2048x8192 .f32) (w2 : FVec Ideal S8192x2048 .f32)
    (r : Fin 8192) (n : Fin 2048) (k : Fin 8192) : EReal :=
  hidden (fun d => h (ix2 r d)) (fun d => w1 (ix2 d k)) * w2 (ix2 k n)

/-- The layer's feed-forward part: the residual rows plus the gated product. -/
def ffn (h : FVec Ideal S8192x2048 .f32) (w1 : FVec Ideal S2048x8192 .f32) (w2 : FVec Ideal S8192x2048 .f32)
    (x1 : FVec Ideal S8192x2048 .f32) (md : FVec Ideal S1x12288 .f32) (r : Fin 8192) (n : Fin 2048) : EReal :=
  x1 (ix2 r n) + md (ix2 0 ⟨10240 + n.val, by have := n.isLt; omega⟩) * ∑ k : Fin 8192, term h w1 w2 r n k

/-! ## One step's product -/

theorem pay1_apply (x0 : Vec Ideal S1024x2048 .bf16) (x1 : Vec Ideal S2048x1024 .bf16) (x2 : Vec Ideal S1024x2048 .bf16)
    (r : Fin 1024) (n : Fin 2048) : k0_pay1 x0 x1 x2 (ix2 r n)
      = ∑ k : Fin 1024, hidden (fun d => x0 (ix2 r d)) (fun d => x1 (ix2 d k)) * x2 (ix2 k n) := by
  unfold hidden
  pointwise [k0_pay1]

theorem pay2_apply (x4 : Vec Ideal S1024x2048 .f32) (x0 : Vec Ideal S1024x2048 .bf16) (x1 : Vec Ideal S2048x1024 .bf16)
    (x2 : Vec Ideal S1024x2048 .bf16) (r : Fin 1024) (n : Fin 2048) : k0_pay2 x4 x0 x1 x2 (ix2 r n)
      = x4 (ix2 r n) + ∑ k : Fin 1024, hidden (fun d => x0 (ix2 r d)) (fun d => x1 (ix2 d k)) * x2 (ix2 k n) := by
  unfold hidden
  pointwise [k0_pay2]

theorem pay3_apply (x : Vec Ideal S1024x2048 .f32) (x3 : Vec Ideal S1x2048 .f32) (x4 : Vec Ideal S1024x2048 .f32)
    (r : Fin 1024) (n : Fin 2048) : k0_pay3 x x3 x4 (ix2 r n) = x (ix2 r n) + x3 (ix2 0 n) * x4 (ix2 r n) := by
  pointwise [k0_pay3]

/-! ## Where the blocks lie -/

theorem index0 : ∀ t : Fin cfg0.N, win0_0.index t 0 = t.val / 8 ∧ win0_0.index t 1 = 0 :=
  (by decide +kernel : ∀ t : Fin grid0.N, win0_0.index t 0 = t.val / 8 ∧ win0_0.index t 1 = 0)
theorem index1 : ∀ t : Fin cfg0.N, win0_1.index t 0 = 0 ∧ win0_1.index t 1 = t.val % 8 :=
  (by decide +kernel : ∀ t : Fin grid0.N, win0_1.index t 0 = 0 ∧ win0_1.index t 1 = t.val % 8)
theorem index2 : ∀ t : Fin cfg0.N, win0_2.index t 0 = t.val % 8 ∧ win0_2.index t 1 = 0 :=
  (by decide +kernel : ∀ t : Fin grid0.N, win0_2.index t 0 = t.val % 8 ∧ win0_2.index t 1 = 0)
theorem index3 : ∀ t : Fin cfg0.N, win0_3.index t 0 = 0 ∧ win0_3.index t 1 = 5 :=
  (by decide +kernel : ∀ t : Fin grid0.N, win0_3.index t 0 = 0 ∧ win0_3.index t 1 = 5)
theorem index4 : ∀ t : Fin cfg0.N, win0_4.index t 0 = t.val / 8 ∧ win0_4.index t 1 = 0 :=
  (by decide +kernel : ∀ t : Fin grid0.N, win0_4.index t 0 = t.val / 8 ∧ win0_4.index t 1 = 0)

theorem points (t : Fin cfg0.N) : t.val < 64 := t.isLt

variable (m : (ℓ : Loc nD τ sig) → Buf (Elt Ideal) ℓ) (ρ : Dev nD → PrngReg)

/-- Row `r` of row block `b`. -/
abbrev rowIn (b : Fin 8) (r : Fin 1024) : Fin 8192 := ⟨b.val * 1024 + r.val, by have := r.isLt; have := b.isLt; omega⟩

/-- The casts of the host keep the numbers. -/
theorem entry0 (c : Dev nD) (i : S8192x2048.Idx) : (V m c main_v0 i : EReal) = m ((c : Thread nD τ).loc main_arg0) i := by
  have e : V m c main_v0 = truncf (F := Ideal) .bf16 (m ((c : Thread nD τ).loc main_arg0)) bitsLt_bf16_f32 := by
    show StableHlo.after (hostOps0 ++ []) _ (Proc.devRef .tc main_v0) = _
    simp only [List.append_nil]
    after_results <;> rfl
  exact congrFun e i
theorem entry1 (c : Dev nD) (i : S2048x8192.Idx) : (V m c main_v1 i : EReal) = m ((c : Thread nD τ).loc main_arg1) i := by
  have e : V m c main_v1 = truncf (F := Ideal) .bf16 (m ((c : Thread nD τ).loc main_arg1)) bitsLt_bf16_f32 := by
    show StableHlo.after (hostOps0 ++ []) _ (Proc.devRef .tc main_v1) = _
    simp only [List.append_nil]
    after_results <;> rfl
  exact congrFun e i
theorem entry2 (c : Dev nD) (i : S8192x2048.Idx) : (V m c main_v2 i : EReal) = m ((c : Thread nD τ).loc main_arg2) i := by
  have e : V m c main_v2 = truncf (F := Ideal) .bf16 (m ((c : Thread nD τ).loc main_arg2)) bitsLt_bf16_f32 := by
    show StableHlo.after (hostOps0 ++ []) _ (Proc.devRef .tc main_v2) = _
    simp only [List.append_nil]
    after_results <;> rfl
  exact congrFun e i

theorem block0 (c : Dev nD) (t : Fin cfg0.N) (r : Fin 1024) (d : Fin 2048) :
    (blockAt m c 0 t (ix2 r d) : EReal) = m ((c : Thread nD τ).loc main_arg0) (ix2 (rowIn (rowOf t.val) r) d) := by
  have e := index0 t
  have ht := points t
  refine (congrArg (V m c main_v0) (funext fun x => Fin.ext ?_)).trans (entry0 m c _)
  match x with
  | ⟨0, _⟩ => exact (win0_0.rect_emb_val t _ 0).trans (by rw [e.1]; show t.val / 8 * 1024 + r.val = t.val / 8 % 8 * 1024 + r.val; omega)
  | ⟨1, _⟩ => exact (win0_0.rect_emb_val t _ 1).trans (by rw [e.2]; show 0 * 2048 + d.val = d.val; omega)

/-- Hidden column `k` of hidden block `j`. -/
abbrev columnIn (j : Fin 8) (k : Fin 1024) : Fin 8192 := ⟨j.val * 1024 + k.val, by have := k.isLt; have := j.isLt; omega⟩
/-- The hidden block of step `t`. -/
abbrev hiddenOf (t : ℕ) : Fin 8 := Fin.ofNat 8 t

theorem block1 (c : Dev nD) (t : Fin cfg0.N) (d : Fin 2048) (k : Fin 1024) :
    (blockAt m c 1 t (ix2 d k) : EReal) = m ((c : Thread nD τ).loc main_arg1) (ix2 d (columnIn (hiddenOf t.val) k)) := by
  have e := index1 t
  refine (congrArg (V m c main_v1) (funext fun x => Fin.ext ?_)).trans (entry1 m c _)
  match x with
  | ⟨0, _⟩ => exact (win0_1.rect_emb_val t _ 0).trans (by rw [e.1]; show 0 * 2048 + d.val = d.val; omega)
  | ⟨1, _⟩ => exact (win0_1.rect_emb_val t _ 1).trans (by rw [e.2]; rfl)

theorem block2 (c : Dev nD) (t : Fin cfg0.N) (k : Fin 1024) (n : Fin 2048) :
    (blockAt m c 2 t (ix2 k n) : EReal) = m ((c : Thread nD τ).loc main_arg2) (ix2 (columnIn (hiddenOf t.val) k) n) := by
  have e := index2 t
  refine (congrArg (V m c main_v2) (funext fun x => Fin.ext ?_)).trans (entry2 m c _)
  match x with
  | ⟨0, _⟩ => exact (win0_2.rect_emb_val t _ 0).trans (by rw [e.1]; rfl)
  | ⟨1, _⟩ => exact (win0_2.rect_emb_val t _ 1).trans (by rw [e.2]; show 0 * 2048 + n.val = n.val; omega)

theorem block3 (c : Dev nD) (t : Fin cfg0.N) (n : Fin 2048) :
    blockAt m c 3 t (ix2 0 n) = m ((c : Thread nD τ).loc main_arg4) (ix2 0 ⟨10240 + n.val, by have := n.isLt; omega⟩) := by
  have e := index3 t
  refine (congrArg (V m c main_arg4) (funext fun x => Fin.ext ?_)).trans
    (congrFun (V_kept m c main_arg4 (by decide) (by decide) (by decide)) _)
  match x with
  | ⟨0, _⟩ => exact (win0_3.rect_emb_val t _ 0).trans (by rw [e.1]; rfl)
  | ⟨1, _⟩ => exact (win0_3.rect_emb_val t _ 1).trans (by rw [e.2]; rfl)

theorem rows_apply (c : Dev nD) (b : Fin 8) (r : Fin 1024) (n : Fin 2048) :
    rowsRead c (X1 m c) b (ix2 r n) = m ((c : Thread nD τ).loc main_arg3) (ix2 (rowIn b r) n) := by
  refine (congrArg (V m c main_arg3) (funext fun x => Fin.ext ?_)).trans
    (congrFun (V_kept m c main_arg3 (by decide) (by decide) (by decide)) _)
  match x with
  | ⟨0, _⟩ => show 1024 * b.val + 1 * r.val = b.val * 1024 + r.val; omega
  | ⟨1, _⟩ => show 0 + 1 * n.val = n.val; omega

/-! ## The sum over a row block's steps -/

section Sum

variable (c : Dev nD)

/-- What hidden block `j` adds at row `r` of row block `b`, column `n`. -/
def part (b : Fin 8) (r : Fin 1024) (n : Fin 2048) (j : Fin 8) : EReal :=
  ∑ k : Fin 1024, term (m ((c : Thread nD τ).loc main_arg0)) (m ((c : Thread nD τ).loc main_arg1))
    (m ((c : Thread nD τ).loc main_arg2)) (rowIn b r) n (columnIn j k)

theorem step_part (t : Fin cfg0.N) (r : Fin 1024) (n : Fin 2048) :
    (∑ k : Fin 1024, hidden (fun d => blockAt m c 0 t (ix2 r d)) (fun d => blockAt m c 1 t (ix2 d k))
      * blockAt m c 2 t (ix2 k n) : EReal) = part m c (rowOf t.val) r n (hiddenOf t.val) :=
  Finset.sum_congr rfl fun k _ => by
    unfold term
    exact congrArg₂ (· * ·) (congrArg₂ hidden (funext fun d => block0 m c t r d) (funext fun d => block1 m c t d k))
      (block2 m c t k n)

/-- After step `s` of row block `b` the block holds the parts of the hidden blocks up to `s`. -/
theorem sumAt_apply (b : Fin 8) (r : Fin 1024) (n : Fin 2048) : ∀ (s : ℕ) (hs : s < 8) (h : b.val * 8 + s < cfg0.N),
    sumAt m c (b.val * 8 + s) h (ix2 r n) = ∑ j ∈ Finset.range (s + 1), part m c b r n (Fin.ofNat 8 j)
  | 0, hs, h => by
    have hb : rowOf (b.val * 8 + 0) = b := Fin.ext (by show (b.val * 8 + 0) / 8 % 8 = b.val; have := b.isLt; omega)
    have hj : hiddenOf (b.val * 8 + 0) = Fin.ofNat 8 0 := Fin.ext (by show (b.val * 8 + 0) % 8 = 0 % 8; omega)
    rw [sumAt_first m c ⟨b.val * 8 + 0, h⟩ (by show (b.val * 8 + 0) % 8 = 0; omega), pay1_apply, step_part,
      Finset.sum_range_one, hb, hj]
  | s + 1, hs, h => by
    have hb : rowOf (b.val * 8 + (s + 1)) = b := Fin.ext (by show (b.val * 8 + (s + 1)) / 8 % 8 = b.val; have := b.isLt; omega)
    have hj : hiddenOf (b.val * 8 + (s + 1)) = Fin.ofNat 8 (s + 1) := Fin.ext (by show (b.val * 8 + (s + 1)) % 8 = (s + 1) % 8; omega)
    rw [sumAt_later m c ⟨b.val * 8 + (s + 1), h⟩ (by show (b.val * 8 + (s + 1)) % 8 ≠ 0; omega), pay2_apply, step_part,
      Finset.sum_range_succ, hb, hj]
    exact congrArg (· + _) (sumAt_apply b r n s (by omega) (by omega))

/-- The eight parts together are the sum over all hidden columns. -/
theorem parts_sum (b : Fin 8) (r : Fin 1024) (n : Fin 2048) :
    ∑ j ∈ Finset.range 8, part m c b r n (Fin.ofNat 8 j)
      = ∑ k : Fin 8192, term (m ((c : Thread nD τ).loc main_arg0)) (m ((c : Thread nD τ).loc main_arg1))
        (m ((c : Thread nD τ).loc main_arg2)) (rowIn b r) n k := by
  rw [Fin.sum_univ_tiles 8 1024 rfl, Finset.sum_range]
  refine Finset.sum_congr rfl fun j _ => ?_
  rw [show Fin.ofNat 8 j.val = j from Fin.ext (Nat.mod_eq_of_lt j.isLt)]
  rfl

/-- The block written back for a row block is the layer's feed-forward part there. -/
theorem out_apply (t : Fin cfg0.N) (h7 : t.val % 8 = 7) (r : Fin 1024) (n : Fin 2048) : outAt m c t (ix2 r n)
    = ffn (m ((c : Thread nD τ).loc main_arg0)) (m ((c : Thread nD τ).loc main_arg1)) (m ((c : Thread nD τ).loc main_arg2))
        (m ((c : Thread nD τ).loc main_arg3)) (m ((c : Thread nD τ).loc main_arg4)) (rowIn (rowOf t.val) r) n := by
  have ht := points t
  have hs : sumAt m c t.val t.isLt (ix2 r n) = ∑ k : Fin 8192, term (m ((c : Thread nD τ).loc main_arg0))
      (m ((c : Thread nD τ).loc main_arg1)) (m ((c : Thread nD τ).loc main_arg2)) (rowIn (rowOf t.val) r) n k := by
    have e : t.val = (rowOf t.val).val * 8 + 7 := by show t.val = t.val / 8 % 8 * 8 + 7; omega
    have hn : (rowOf t.val).val * 8 + 7 < cfg0.N := e ▸ t.isLt
    have q : ∀ (a b : ℕ) (ha : a < cfg0.N) (hb : b < cfg0.N), a = b → sumAt m c a ha = sumAt m c b hb := by
      rintro a b ha hb rfl; rfl
    rw [q _ _ t.isLt hn e, sumAt_apply m c (rowOf t.val) r n 7 (by omega) hn, parts_sum]
  unfold outAt ffn
  rw [if_pos h7, pay3_apply, rows_apply, block3, hs]

end Sum

/-! ## The result -/

/-- The whole result. -/
def result (c : Dev nD) : FVec Ideal S8192x2048 .f32 := fun i =>
  ffn (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

theorem flushed_result (c : Dev nD) (t : Fin cfg0.N) (hf : (cfg0.win 4).flush t = true) :
    (dats m 0 c).flushed 4 t = ((cfg0.win 4).blk t).view.read (Elt Ideal) (result m c) := by
  have h7 := (flush0_4 t).mp hf
  have e := index4 t
  have ht := points t
  funext y
  show (dats m 0 c).after 4 t (y : S1024x2048.Idx) = result m c ((win0_4.rect t).emb y)
  rw [after0_4]
  refine ((congrArg (outAt m c t) (ix2_eta y).symm).trans (out_apply m c t h7 (y 0) (y 1))).trans ?_
  unfold result
  refine congrArg₂ (ffn _ _ _ _ _) (Fin.ext ?_) (Fin.ext ?_)
  · refine ((win0_4.rect_emb_val t y 0).trans ?_).symm
    rw [e.1]; show t.val / 8 * 1024 + (y 0).val = t.val / 8 % 8 * 1024 + (y 0).val; omega
  · refine ((win0_4.rect_emb_val t y 1).trans ?_).symm
    rw [e.2]; show 0 * 2048 + (y 1).val = (y 1).val; omega

theorem cover (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  have ht : (i 0).val / 1024 * 8 + 7 < cfg0.N := by show _ < 64; omega
  refine ⟨⟨(i 0).val / 1024 * 8 + 7, ht⟩, (flush0_4 _).mpr (by show ((i 0).val / 1024 * 8 + 7) % 8 = 7; omega), ?_⟩
  show i ∈ ((View.whole main_v3).slice (win0_4.rect ⟨(i 0).val / 1024 * 8 + 7, ht⟩)).set
  rw [View.set_slice_whole, Rect.mem_set_unit]
  have e := index4 ⟨(i 0).val / 1024 * 8 + 7, ht⟩
  intro a
  match a with
  | ⟨0, _⟩ =>
    show win0_4.index ⟨(i 0).val / 1024 * 8 + 7, ht⟩ 0 * 1024 ≤ (i 0).val ∧ (i 0).val < win0_4.index ⟨(i 0).val / 1024 * 8 + 7, ht⟩ 0 * 1024 + 1024
    rw [e.1]; dsimp only; omega
  | ⟨1, _⟩ =>
    show win0_4.index ⟨(i 0).val / 1024 * 8 + 7, ht⟩ 1 * 2048 ≤ (i 1).val ∧ (i 1).val < win0_4.index ⟨(i 0).val / 1024 * 8 + 7, ht⟩ 1 * 2048 + 2048
    rw [e.2]; omega

theorem result_eq (c : Dev nD) : (dats m 0 c).arrAt 4 cfg0.N = result m c :=
  (dats m 0 c).arrAt_eq_of_cover 4 _ (fun t hf => flushed_result m c t hf) cover

end Cert.Proof.Ffn

end
-- ==== Proof.FfnProof.lean ====
/-
  The claims about the feed-forward call: it runs, its arguments end as they began and its counters at zero, and over the
  extended reals its result is the reference's, at any arguments.
-/
module

public import proofs.«01_k».proof.Defs
public import proofs.«01_k».proof.Proof.FfnValue
public import proofs.«01_k».proof.Proof.Gen.Kernel2
public import proofs.«01_k».proof.Proof.Gen.Reference2Ideal.Run

@[expose] public section

set_option maxRecDepth 16384

noncomputable section

namespace Cert.Reference2Ideal.Ffn

open Cert.Reference2Ideal Cert.Reference2Ideal.Gen Idealize.ShloMosaic Idealize.ShloMosaic.TcCoe

/-- The squared cut-off product of the rows with the first matrix. -/
def hiddens (h : FVec Ideal S8192x2048 .f32) (w1 : FVec Ideal S2048x8192 .f32) : FVec Ideal S8192x8192 .f32 :=
  mulf (maximumf (Host.dotGeneral dot_S8192x2048_S2048x8192_S8192x8192_1_0_0_1_n_n none h w1)
      (broadcastInDim S8192x8192 ![] bcast_S_S8192x8192 (constant S_ .f32 0x00000000#32)))
    (maximumf (Host.dotGeneral dot_S8192x2048_S2048x8192_S8192x8192_1_0_0_1_n_n none h w1)
      (broadcastInDim S8192x8192 ![] bcast_S_S8192x8192 (constant S_ .f32 0x00000000#32)))

/-- The gated product added to the residual rows. -/
def gated (H : FVec Ideal S8192x8192 .f32) (w2 : FVec Ideal S8192x2048 .f32) (x1 : FVec Ideal S8192x2048 .f32)
    (md : FVec Ideal S1x12288 .f32) : FVec Ideal S8192x2048 .f32 :=
  addf x1 (mulf (broadcastInDim S8192x2048 ![0, 1] bcast_S1x2048_S8192x2048_0_1
      (extractStridedSlice S1x2048 ![0, 10240] md slices_S1x12288_S1x2048_0_10240))
    (Host.dotGeneral dot_S8192x8192_S8192x2048_S8192x2048_1_0_0_1_n_n none H w2))

theorem hiddens_apply (h : FVec Ideal S8192x2048 .f32) (w1 : FVec Ideal S2048x8192 .f32) (r k : Fin 8192) :
    hiddens h w1 (ix2 r k) = Cert.Proof.Ffn.hidden (fun d => h (ix2 r d)) (fun d => w1 (ix2 d k)) := by
  unfold Cert.Proof.Ffn.hidden
  pointwise [hiddens]

theorem gated_apply (H : FVec Ideal S8192x8192 .f32) (w2 : FVec Ideal S8192x2048 .f32) (x1 : FVec Ideal S8192x2048 .f32)
    (md : FVec Ideal S1x12288 .f32) (r : Fin 8192) (n : Fin 2048) : gated H w2 x1 md (ix2 r n)
      = x1 (ix2 r n) + md (ix2 0 ⟨10240 + n.val, by have := n.isLt; omega⟩) * ∑ k : Fin 8192, H (ix2 r k) * w2 (ix2 k n) := by
  pointwise [gated]

/-- The reference's result at row `r` and column `n`. -/
theorem result_apply (h : FVec Ideal S8192x2048 .f32) (w1 : FVec Ideal S2048x8192 .f32) (w2 : FVec Ideal S8192x2048 .f32)
    (x1 : FVec Ideal S8192x2048 .f32) (md : FVec Ideal S1x12288 .f32) (r : Fin 8192) (n : Fin 2048) :
    gated (hiddens h w1) w2 x1 md (ix2 r n) = Cert.Proof.Ffn.ffn h w1 w2 x1 md r n := by
  rw [gated_apply]
  simp only [hiddens_apply]
  rfl

end Cert.Reference2Ideal.Ffn

namespace Cert.Proof.Ffn

open Idealize.ShloMosaic Idealize.ShloMosaic.TcCoe Idealize.SL.Sem

/-- The run at any reading of the floating-point types, with the arguments at the end. -/
theorem run_args {F : FTy → Type} [FloatOps F] (m : (ℓ : Loc Cert.Kernel2Ideal.nD Cert.Kernel2Ideal.τ Cert.Kernel2Ideal.sig) → Buf (Elt F) ℓ)
    (ρ : Dev Cert.Kernel2Ideal.nD → PrngReg) :
    θ_run Cert.Kernel2Ideal.defs (onTc (τ := Cert.Kernel2Ideal.τ) (Cert.Kernel2Ideal.main (F := F))) ⟨m, fun _ => 0, ρ⟩ (fun r =>
      (∀ c : Dev Cert.Kernel2Ideal.nD,
        r.2.mem ((c.tc : Thread Cert.Kernel2Ideal.nD Cert.Kernel2Ideal.τ).loc Cert.Kernel2Ideal.main_v3) = (dats m 0 c).arrAt 4 Cert.Kernel2Ideal.cfg0.N
        ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
        ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
        ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
        ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0) :=
  (θ_run Cert.Kernel2Ideal.defs _ _).mono (fun r h => ⟨fun c => ⟨(h.1 c).1 4,
    ((h.1 c).2 Cert.Kernel2Ideal.main_arg0 (Pipeline.mem_restRefs_of Cert.Kernel2Ideal.main_arg0 (by decide) (by decide))).trans (V_kept m c _ (by decide) (by decide) (by decide)),
    ((h.1 c).2 Cert.Kernel2Ideal.main_arg1 (Pipeline.mem_restRefs_of Cert.Kernel2Ideal.main_arg1 (by decide) (by decide))).trans (V_kept m c _ (by decide) (by decide) (by decide)),
    ((h.1 c).2 Cert.Kernel2Ideal.main_arg2 (Pipeline.mem_restRefs_of Cert.Kernel2Ideal.main_arg2 (by decide) (by decide))).trans (V_kept m c _ (by decide) (by decide) (by decide)),
    ((h.1 c).2 Cert.Kernel2Ideal.main_arg3 (Pipeline.mem_restRefs_of Cert.Kernel2Ideal.main_arg3 (by decide) (by decide))).trans (V_kept m c _ (by decide) (by decide) (by decide)),
    ((h.1 c).1 3).trans (((dats m 0 c).arrAt_in 3 rfl _).trans ((A_eq m c 3).trans (V_kept m c Cert.Kernel2Ideal.main_arg4 (by decide) (by decide) (by decide))))⟩, h.2⟩)
    (run m ρ)

theorem frame {F : FTy → Type} [FloatOps F] (m : (ℓ : Loc Cert.Kernel2Ideal.nD Cert.Kernel2Ideal.τ Cert.Kernel2Ideal.sig) → Buf (Elt F) ℓ)
    (ρ : Dev Cert.Kernel2Ideal.nD → PrngReg) :
    θ_run Cert.Kernel2Ideal.defs (onTc (τ := Cert.Kernel2Ideal.τ) (Cert.Kernel2Ideal.main (F := F))) ⟨m, fun _ => 0, ρ⟩ (fun r =>
      (∀ c : Dev Cert.Kernel2Ideal.nD,
        r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
        ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
        ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
        ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0) :=
  (θ_run Cert.Kernel2Ideal.defs _ _).mono (fun _ h => ⟨fun c => (h.1 c).2, h.2⟩) (run_args m ρ)

/-! The two texts of the kernel agree, so one run serves both. -/

theorem table_same {F : FTy → Type} [FloatOps F] : (Cert.Kernel2.defs₀ (F := F)) = Cert.Kernel2Ideal.defs₀ := by
  unfold Cert.Kernel2.defs₀ Cert.Kernel2Ideal.defs₀
  refine congrArg Defs.onTc (funext fun l => funext fun x => ?_)
  match l, x with
  | 0, (t, s) => rfl
  | ⟨_ + 1, h⟩, _ => exact absurd h (Nat.not_lt.2 (Nat.le_add_left _ _))

theorem defs_same {F : FTy → Type} [FloatOps F] : (Cert.Kernel2.defs (F := F)) = Cert.Kernel2Ideal.defs := by
  unfold Cert.Kernel2.defs Cert.Kernel2Ideal.defs
  rw [table_same]
  rfl

theorem frame_kernel : Cert.quiescent_Kernel2 := fun m ρ _ => by
  have e := frame (F := Bits) m ρ
  rw [← defs_same] at e
  exact e

theorem frame_ideal : Cert.quiescent_Kernel2Ideal := fun m ρ _ => frame (F := Ideal) m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves : Cert.preserves_Kernel2_Kernel2Ideal := trivial

theorem algebraic : Cert.algebraic_Kernel2Ideal_Reference2Ideal := by
  intro m g m' g' _ hargs
  refine ⟨fun c => result m c, (θ_run Cert.Kernel2Ideal.defs _ _).mono
    (fun r h c => ⟨(h.1 c).1.trans (result_eq m c), (h.1 c).2⟩) (run_args (F := Ideal) m g), ?_⟩
  refine (θ_run Cert.Reference2Ideal.defs _ _).mono (fun r h c => ⟨(h c).1.trans ?_, (h c).2⟩)
    (Cert.Reference2Ideal.Value.run (F := Ideal) m' g')
  obtain ⟨a0, a1, a2, a3, a4⟩ := hargs c
  rw [a0, a1, a2, a3, a4]
  show Cert.Reference2Ideal.Ffn.gated (Cert.Reference2Ideal.Ffn.hiddens _ _) _ _ _ = result m c
  funext i
  exact (congrArg _ (ix2_eta i).symm).trans (Cert.Reference2Ideal.Ffn.result_apply _ _ _ _ _ (i 0) (i 1))

end Cert.Proof.Ffn

end
-- ==== Proof.Norm.lean ====
/-
  The modulated root-mean-square norm of a row, over the extended reals: each value times the reciprocal root of the row's
  mean square (a small constant added), times a gain, times one plus a scale, plus a shift. The two projections share it.
-/
module

public import Idealize.ShloMosaic.PureOps.Ideal

@[expose] public section

noncomputable section

namespace Cert.Proof.Norm

open Idealize.ShloMosaic

/-- The reciprocal root of the mean square of 2048 values, the small constant added before the root. -/
def scale (x : Fin 2048 → EReal) : EReal :=
  Ideal.rsqrt (Ideal.div (∑ e : Fin 2048, x e * x e) (Ideal.ofBits FTy.f32 0x45000000#32) + Ideal.ofBits FTy.f32 0x358637BD#32)

/-- The modulated norm at column `d`. -/
def modulated (x g sc sh : Fin 2048 → EReal) (d : Fin 2048) : EReal := x d * scale x * g d * (1 + sc d) + sh d

end Cert.Proof.Norm

end
-- ==== Proof.InprojValue.lean ====
/-
  The input projection's two results over the extended reals. For each block of 1024 rows the kernel writes the rows'
  modulated norm once, at the first of five column blocks, and multiplies it with the packed weights of every column
  block; so each result is one function of the call's arguments.
-/
module

public import proofs.«01_k».proof.Proof.Norm
public import proofs.«01_k».proof.Proof.Gen.Kernel3Ideal.Value
public import Idealize.ShloMosaic.Lib.Pipeline.Value
public import Idealize.ShloMosaic.Lib.Pipeline.ValueKit
public import Idealize.ShloMosaic.Lib.Pointwise

@[expose] public section

set_option maxRecDepth 16384

noncomputable section

namespace Cert.Proof.Inproj

open Cert.Kernel3Ideal Cert.Kernel3Ideal.Gen
open Idealize.ShloMosaic Idealize.ShloMosaic.TcCoe Idealize.SL.Sem
open Idealize.ShloMosaic.Pipeline (Dat)

/-- Column `n` of the packed projection reads this column of the weights, or none: first the columns from 832 on, then the
    first 832, then 64 empty ones, then the 16 gate columns, then 112 empty ones. -/
def weight (w : FVec Ideal S2048x4944 .f32) (n : Fin 5120) (d : Fin 2048) : EReal :=
  if h : n.val < 4096 then w (ix2 d ⟨832 + n.val, by omega⟩)
  else if h : n.val - 4096 < 832 then w (ix2 d ⟨n.val - 4096, by omega⟩)
  else if _h : n.val - 4096 - 832 < 64 then 0
  else if h : n.val - 4096 - 832 - 64 < 16 then w (ix2 d ⟨4928 + (n.val - 4096 - 832 - 64), by omega⟩)
  else 0

/-- Row `r` of the input, normed and modulated by the first two parts of the modulation, at column `d`. -/
def normed (x : FVec Ideal S8192x2048 .f32) (g : FVec Ideal S1x2048 .f32) (md : FVec Ideal S1x12288 .f32)
    (r : Fin 8192) (d : Fin 2048) : EReal :=
  Norm.modulated (fun e => x (ix2 r e)) (fun e => g (ix2 0 e)) (fun e => md (ix2 0 ⟨2048 + e.val, by have := e.isLt; omega⟩))
    (fun e => md (ix2 0 ⟨e.val, by have := e.isLt; omega⟩)) d

/-- The packed projection at row `r` and column `n`. -/
def proj (x : FVec Ideal S8192x2048 .f32) (g : FVec Ideal S1x2048 .f32) (md : FVec Ideal S1x12288 .f32)
    (w : FVec Ideal S2048x4944 .f32) (r : Fin 8192) (n : Fin 5120) : EReal :=
  ∑ d : Fin 2048, normed x g md r d * weight w n d

/-! ## The steps -/

section Steps

theorem rows_pay_apply (x : Vec Ideal S1024x2048 .f32) (g sc sh : Vec Ideal S1x2048 .f32) (r : Fin 1024) (d : Fin 2048) :
    k0_pay1 x g sc sh (ix2 r d)
      = Norm.modulated (fun e => x (ix2 r e)) (fun e => g (ix2 0 e)) (fun e => sc (ix2 0 e)) (fun e => sh (ix2 0 e)) d := by
  unfold Norm.modulated Norm.scale
  pointwise [k0_pay1]

theorem kept_pay_apply (x : Vec Ideal S1024x2048 .f32) (g sc sh : Vec Ideal S1x2048 .f32) (r : Fin 1024) (d : Fin 2048) :
    k0_pay2 x g sc sh (ix2 r d) = k0_pay1 x g sc sh (ix2 r d) := by
  generalize hx : k0_pay1 x g sc sh = y
  unfold k0_pay2
  rw [hx]
  pointwise []

theorem product_apply (x w : Vec Ideal S1024x2048 .bf16) (r : Fin 1024) (d : Fin 1024) :
    k0_pay5 x w (ix2 r d) = ∑ e : Fin 2048, x (ix2 r e) * w (ix2 d e) := by
  pointwise [k0_pay5, k0_pay4]

theorem first_product_apply (x : Vec Ideal S1024x2048 .f32) (g sc sh : Vec Ideal S1x2048 .f32) (w : Vec Ideal S1024x2048 .bf16)
    (r : Fin 1024) (d : Fin 1024) : k0_pay3 x g sc sh w (ix2 r d) = ∑ e : Fin 2048, k0_pay1 x g sc sh (ix2 r e) * w (ix2 d e) := by
  generalize hx : k0_pay1 x g sc sh = y
  unfold k0_pay3
  rw [hx]
  pointwise []

theorem gates_pay_apply (x w : Vec Ideal S1024x2048 .bf16) (r : Fin 1024) (d : Fin 128) :
    k0_pay6 x w (ix2 r d) = ∑ e : Fin 2048, x (ix2 r e) * w (ix2 ⟨896 + d.val, by omega⟩ e) := by
  pointwise [k0_pay6, k0_pay4]

end Steps

variable (m : (ℓ : Loc nD τ sig) → Buf (Elt Ideal) ℓ)

section Runs

variable (c : Dev nD) (t : Fin cfg0.N)

theorem first (h0 : t.val % 5 = 0) : (outsAt0 m c t.val t.isLt).1
    = k0_pay3 (iblk m c 0 t) (iblk m c 1 t) (iblk m c 2 t) (iblk m c 3 t) (iblk m c 4 t) := by
  rw [outsAt0_A m c t h0 (by omega)]
  frame_out

theorem first_rows (h0 : t.val % 5 = 0) : (outsAt0 m c t.val t.isLt).2.2
    = k0_pay2 (iblk m c 0 t) (iblk m c 1 t) (iblk m c 2 t) (iblk m c 3 t) := by
  rw [outsAt0_A m c t h0 (by omega)]
  frame_out

/-- The rows as the step before left them. -/
abbrev before : Vec Ideal S1024x2048 .bf16 := (outsAt0 m c (t.val - 1) (Nat.lt_of_le_of_lt (Nat.sub_le _ _) t.isLt)).2.2

theorem later (h0 : ¬t.val % 5 = 0) : (outsAt0 m c t.val t.isLt).1 = k0_pay5 (before m c t) (iblk m c 4 t) := by
  by_cases h4 : t.val % 5 = 4
  · rw [outsAt0_C m c t h0 (by omega) h4]
    frame_out
    exact congrArg (k0_pay5 · _) (Memref.IsWhole.read_unread _ _)
  · rw [outsAt0_B m c t h0 (by omega) h4]
    frame_out
    exact congrArg (k0_pay5 · _) (Memref.IsWhole.read_unread _ _)

theorem later_rows (h0 : ¬t.val % 5 = 0) : (outsAt0 m c t.val t.isLt).2.2 = before m c t := by
  by_cases h4 : t.val % 5 = 4
  · rw [outsAt0_C m c t h0 (by omega) h4]
    rfl
  · rw [outsAt0_B m c t h0 (by omega) h4]
    rfl

theorem last_gates (h4 : t.val % 5 = 4) : (outsAt0 m c t.val t.isLt).2.1 = k0_pay6 (before m c t) (iblk m c 4 t) := by
  rw [outsAt0_C m c t (by omega) (by omega) h4]
  frame_out
  exact congrArg (k0_pay6 · _) (Memref.IsWhole.read_unread _ _)

end Runs

/-! ## The packed weights -/

theorem pieces_apply (a : FVec Ideal S4096x2048 .f32) (b : FVec Ideal S832x2048 .f32) (z : FVec Ideal S64x2048 .f32)
    (e : FVec Ideal S16x2048 .f32) (z' : FVec Ideal S112x2048 .f32) (n : Fin 5120) (d : Fin 2048) :
    concatenate S5120x2048 0 [⟨S4096x2048, a⟩, ⟨S832x2048, b⟩, ⟨S64x2048, z⟩, ⟨S16x2048, e⟩, ⟨S112x2048, z'⟩]
      concatenates_S4096x2048_S832x2048_S64x2048_S16x2048_S112x2048_S5120x2048_d0 (ix2 n d)
    = if h : n.val < 4096 then a (ix2 ⟨n.val, h⟩ d)
      else if h : n.val - 4096 < 832 then b (ix2 ⟨n.val - 4096, h⟩ d)
      else if h : n.val - 4096 - 832 < 64 then z (ix2 ⟨n.val - 4096 - 832, h⟩ d)
      else if h : n.val - 4096 - 832 - 64 < 16 then e (ix2 ⟨n.val - 4096 - 832 - 64, h⟩ d)
      else z' (ix2 ⟨n.val - 4096 - 832 - 64 - 16, by omega⟩ d) := by
  pointwise []

/-- The columns from 832 on, as rows. -/
def high (w : FVec Ideal S2048x4944 .f32) : FVec Ideal S4096x2048 .f32 :=
  extractStridedSlice S4096x2048 ![832, 0] (transpose S4944x2048 [1, 0] w transposes_S2048x4944_S4944x2048_1_0) slices_S4944x2048_S4096x2048_832_0
/-- The first 832 columns, as rows. -/
def low (w : FVec Ideal S2048x4944 .f32) : FVec Ideal S832x2048 .f32 :=
  extractStridedSlice S832x2048 ![0, 0] (transpose S4944x2048 [1, 0] w transposes_S2048x4944_S4944x2048_1_0) slices_S4944x2048_S832x2048_0_0
/-- The gate columns, as rows. -/
def gate (w : FVec Ideal S2048x4944 .f32) : FVec Ideal S16x2048 .f32 :=
  extractStridedSlice S16x2048 ![4928, 0] (transpose S4944x2048 [1, 0] w transposes_S2048x4944_S4944x2048_1_0) slices_S4944x2048_S16x2048_4928_0
/-- The empty rows between. -/
def gap : FVec Ideal S64x2048 .f32 := broadcastInDim S64x2048 ![] bcast_S_S64x2048 (constant S_ .f32 0x00000000#32)
/-- The empty rows at the end. -/
def rest : FVec Ideal S112x2048 .f32 := broadcastInDim S112x2048 ![] bcast_S_S112x2048 (constant S_ .f32 0x00000000#32)

theorem high_apply (w : FVec Ideal S2048x4944 .f32) (n : Fin 4096) (d : Fin 2048) :
    high w (ix2 n d) = w (ix2 d ⟨832 + n.val, by omega⟩) := by pointwise [high]
theorem low_apply (w : FVec Ideal S2048x4944 .f32) (n : Fin 832) (d : Fin 2048) :
    low w (ix2 n d) = w (ix2 d ⟨n.val, by omega⟩) := by pointwise [low]
theorem gate_apply (w : FVec Ideal S2048x4944 .f32) (n : Fin 16) (d : Fin 2048) :
    gate w (ix2 n d) = w (ix2 d ⟨4928 + n.val, by omega⟩) := by pointwise [gate]
theorem gap_apply (n : Fin 64) (d : Fin 2048) : gap (ix2 n d) = 0 := by pointwise [gap]
theorem rest_apply (n : Fin 112) (d : Fin 2048) : rest (ix2 n d) = 0 := by pointwise [rest]

/-- The weights as the call takes them. -/
def packed (w : FVec Ideal S2048x4944 .f32) : FVec Ideal S5120x2048 .bf16 :=
  truncf .bf16 (concatenate S5120x2048 0 [⟨S4096x2048, high w⟩, ⟨S832x2048, low w⟩, ⟨S64x2048, gap⟩, ⟨S16x2048, gate w⟩, ⟨S112x2048, rest⟩]
    concatenates_S4096x2048_S832x2048_S64x2048_S16x2048_S112x2048_S5120x2048_d0) bitsLt_bf16_f32

theorem entry4 (c : Dev nD) : V m c main_v7 = packed (m ((c : Thread nD τ).loc main_arg3)) := by
  show StableHlo.after (hostOps0 ++ []) _ (Proc.devRef .tc main_v7) = _
  simp only [List.append_nil]
  after_results <;> rfl

theorem packed_apply (w : FVec Ideal S2048x4944 .f32) (n : Fin 5120) (d : Fin 2048) : packed w (ix2 n d) = weight w n d := by
  refine (pieces_apply (high w) (low w) gap (gate w) rest n d).trans ?_
  unfold weight
  simp only [high_apply, low_apply, gap_apply, gate_apply, rest_apply]

/-! ## Where the blocks lie -/

theorem index0 : ∀ t : Fin cfg0.N, win0_0.index t 0 = t.val / 5 ∧ win0_0.index t 1 = 0 :=
  (by decide +kernel : ∀ t : Fin grid0.N, win0_0.index t 0 = t.val / 5 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 1 :=
  (by decide +kernel : ∀ t : Fin grid0.N, win0_2.index t 0 = 0 ∧ win0_2.index t 1 = 1)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val % 5 ∧ win0_4.index t 1 = 0 :=
  (by decide +kernel : ∀ t : Fin grid0.N, win0_4.index t 0 = t.val % 5 ∧ win0_4.index t 1 = 0)
theorem index5 : ∀ t : Fin cfg0.N, win0_5.index t 0 = t.val / 5 ∧ win0_5.index t 1 = t.val % 5 :=
  (by decide +kernel : ∀ t : Fin grid0.N, win0_5.index t 0 = t.val / 5 ∧ win0_5.index t 1 = t.val % 5)
theorem index6 : ∀ t : Fin cfg0.N, win0_6.index t 0 = t.val / 5 ∧ win0_6.index t 1 = 0 :=
  (by decide +kernel : ∀ t : Fin grid0.N, win0_6.index t 0 = t.val / 5 ∧ win0_6.index t 1 = 0)

theorem points (t : Fin cfg0.N) : t.val < 40 := t.isLt

/-- The row of step `t`'s row block. -/
abbrev rowIn (t : Fin cfg0.N) (r : Fin 1024) : Fin 8192 := ⟨t.val / 5 * 1024 + r.val, by have := points t; have := r.isLt; omega⟩
/-- The column of step `t`'s column block. -/
abbrev columnIn (t : Fin cfg0.N) (n : Fin 1024) : Fin 5120 := ⟨t.val % 5 * 1024 + n.val, by have := n.isLt; omega⟩

section Blocks

variable (c : Dev nD) (t : Fin cfg0.N)

theorem block0 (r : Fin 1024) (d : Fin 2048) :
    iblk m c 0 t (ix2 r d) = m ((c : Thread nD τ).loc main_arg0) (ix2 (rowIn t r) d) := by
  have e := index0 t
  refine (congrArg (V m c main_arg0) (funext fun x => Fin.ext ?_)).trans (congrFun (V_main_arg0 m c) _)
  match x with
  | ⟨0, _⟩ => exact (win0_0.rect_emb_val t _ 0).trans (by rw [e.1]; rfl)
  | ⟨1, _⟩ => exact (win0_0.rect_emb_val t _ 1).trans (by rw [e.2]; show 0 * 2048 + d.val = d.val; omega)

theorem block1 (d : Fin 2048) : iblk m c 1 t (ix2 0 d) = m ((c : Thread nD τ).loc main_arg1) (ix2 0 d) := by
  have e := index1 t
  refine (congrArg (V m c main_arg1) (funext fun x => Fin.ext ?_)).trans (congrFun (V_main_arg1 m c) _)
  match x with
  | ⟨0, _⟩ => exact (win0_1.rect_emb_val t _ 0).trans (by rw [e.1]; rfl)
  | ⟨1, _⟩ => exact (win0_1.rect_emb_val t _ 1).trans (by rw [e.2]; show 0 * 2048 + d.val = d.val; omega)

theorem block2 (d : Fin 2048) : iblk m c 2 t (ix2 0 d)
    = m ((c : Thread nD τ).loc main_arg2) (ix2 0 ⟨2048 + d.val, by have := d.isLt; omega⟩) := by
  have e := index2 t
  refine (congrArg (V m c main_arg2) (funext fun x => Fin.ext ?_)).trans (congrFun (V_main_arg2 m c) _)
  match x with
  | ⟨0, _⟩ => exact (win0_2.rect_emb_val t _ 0).trans (by rw [e.1]; rfl)
  | ⟨1, _⟩ => exact (win0_2.rect_emb_val t _ 1).trans (by rw [e.2]; rfl)

theorem block3 (d : Fin 2048) : iblk m c 3 t (ix2 0 d)
    = m ((c : Thread nD τ).loc main_arg2) (ix2 0 ⟨d.val, by have := d.isLt; omega⟩) := by
  have e := index3 t
  refine (congrArg (V m c main_arg2) (funext fun x => Fin.ext ?_)).trans (congrFun (V_main_arg2 m c) _)
  match x with
  | ⟨0, _⟩ => exact (win0_3.rect_emb_val t _ 0).trans (by rw [e.1]; rfl)
  | ⟨1, _⟩ => exact (win0_3.rect_emb_val t _ 1).trans (by rw [e.2]; show 0 * 2048 + d.val = d.val; omega)

theorem block4 (n : Fin 1024) (d : Fin 2048) :
    iblk m c 4 t (ix2 n d) = weight (m ((c : Thread nD τ).loc main_arg3)) (columnIn t n) d := by
  have e := index4 t
  refine (congrArg (V m c main_v7) (funext fun x => Fin.ext ?_)).trans
    ((congrFun (entry4 m c) _).trans (packed_apply _ (columnIn t n) d))
  match x with
  | ⟨0, _⟩ => exact (win0_4.rect_emb_val t _ 0).trans (by rw [e.1]; rfl)
  | ⟨1, _⟩ => exact (win0_4.rect_emb_val t _ 1).trans (by rw [e.2]; show 0 * 2048 + d.val = d.val; omega)

/-- The rows the first step of a row block writes. -/
theorem rows_value (r : Fin 1024) (d : Fin 2048) : k0_pay1 (iblk m c 0 t) (iblk m c 1 t) (iblk m c 2 t) (iblk m c 3 t) (ix2 r d)
    = normed (m ((c : Thread nD τ).loc main_arg0)) (m ((c : Thread nD τ).loc main_arg1)) (m ((c : Thread nD τ).loc main_arg2))
      (rowIn t r) d := by
  refine (rows_pay_apply (iblk m c 0 t) (iblk m c 1 t) (iblk m c 2 t) (iblk m c 3 t) r d).trans ?_
  unfold normed
  rw [show (fun e => iblk m c 0 t (ix2 r e)) = _ from funext fun e => block0 m c t r e,
    show (fun e => iblk m c 1 t (ix2 0 e)) = _ from funext fun e => block1 m c t e,
    show (fun e => iblk m c 2 t (ix2 0 e)) = _ from funext fun e => block2 m c t e,
    show (fun e => iblk m c 3 t (ix2 0 e)) = _ from funext fun e => block3 m c t e]

end Blocks

/-! ## The rows through a row block's steps -/

section Kept

variable (c : Dev nD)

/-- After every step of a row block the kept rows are the block's normed rows. -/
theorem kept_rows (b : ℕ) : ∀ (s : ℕ) (_ : s < 5) (h : b * 5 + s < cfg0.N) (r : Fin 1024) (d : Fin 2048),
    ((outsAt0 m c (b * 5 + s) h).2.2 (ix2 r d) : EReal) = normed (m ((c : Thread nD τ).loc main_arg0))
      (m ((c : Thread nD τ).loc main_arg1)) (m ((c : Thread nD τ).loc main_arg2)) (rowIn ⟨b * 5 + s, h⟩ r) d
  | 0, _, h, r, d => by
    refine (congrFun (first_rows m c ⟨b * 5 + 0, h⟩ (by show (b * 5 + 0) % 5 = 0; omega)) _).trans ?_
    exact (kept_pay_apply _ _ _ _ r d).trans (rows_value m c ⟨b * 5 + 0, h⟩ r d)
  | s + 1, hs, h, r, d => by
    refine (congrFun (later_rows m c ⟨b * 5 + (s + 1), h⟩ (by show ¬(b * 5 + (s + 1)) % 5 = 0; omega)) _).trans ?_
    refine (kept_rows b s (by omega) (by omega) r d).trans ?_
    exact congrArg (fun q => normed _ _ _ q d) (Fin.ext (by
      show (b * 5 + s) / 5 * 1024 + r.val = (b * 5 + (s + 1)) / 5 * 1024 + r.val
      rw [show (b * 5 + s) / 5 = b by omega, show (b * 5 + (s + 1)) / 5 = b by omega]))

theorem before_rows (t : Fin cfg0.N) (h0 : ¬t.val % 5 = 0) (r : Fin 1024) (d : Fin 2048) :
    (before m c t (ix2 r d) : EReal) = normed (m ((c : Thread nD τ).loc main_arg0))
      (m ((c : Thread nD τ).loc main_arg1)) (m ((c : Thread nD τ).loc main_arg2)) (rowIn t r) d := by
  have ht := points t
  have q : ∀ (a b : ℕ) (ha : a < cfg0.N) (hb : b < cfg0.N), a = b → (outsAt0 m c a ha).2.2 = (outsAt0 m c b hb).2.2 := by
    rintro a b ha hb rfl; rfl
  have hn : t.val / 5 * 5 + (t.val % 5 - 1) < cfg0.N := by show _ < 40; omega
  refine (congrFun (q _ (t.val / 5 * 5 + (t.val % 5 - 1)) _ hn (by omega)) _).trans ?_
  refine (kept_rows m c (t.val / 5) (t.val % 5 - 1) (by omega) hn r d).trans ?_
  exact congrArg (fun q => normed _ _ _ q d) (Fin.ext (by
    show (t.val / 5 * 5 + (t.val % 5 - 1)) / 5 * 1024 + r.val = t.val / 5 * 1024 + r.val
    rw [show (t.val / 5 * 5 + (t.val % 5 - 1)) / 5 = t.val / 5 by omega]))

/-- The block of step `t`. -/
theorem block_value (t : Fin cfg0.N) (r : Fin 1024) (n : Fin 1024) : ((outsAt0 m c t.val t.isLt).1 (ix2 r n) : EReal)
    = proj (m ((c : Thread nD τ).loc main_arg0)) (m ((c : Thread nD τ).loc main_arg1)) (m ((c : Thread nD τ).loc main_arg2))
      (m ((c : Thread nD τ).loc main_arg3)) (rowIn t r) (columnIn t n) := by
  by_cases h0 : t.val % 5 = 0
  · refine (congrFun (first m c t h0) _).trans ((first_product_apply _ _ _ _ _ r n).trans ?_)
    exact Finset.sum_congr rfl fun d _ => congrArg₂ (· * ·) (rows_value m c t r d) (block4 m c t n d)
  · refine (congrFun (later m c t h0) _).trans ((product_apply _ _ r n).trans ?_)
    exact Finset.sum_congr rfl fun d _ => congrArg₂ (· * ·) (before_rows m c t h0 r d) (block4 m c t n d)

/-- The gate columns, written at the last step of a row block. -/
theorem gates_value (t : Fin cfg0.N) (h4 : t.val % 5 = 4) (r : Fin 1024) (n : Fin 128) :
    ((outsAt0 m c t.val t.isLt).2.1 (ix2 r n) : EReal)
    = proj (m ((c : Thread nD τ).loc main_arg0)) (m ((c : Thread nD τ).loc main_arg1)) (m ((c : Thread nD τ).loc main_arg2))
      (m ((c : Thread nD τ).loc main_arg3)) (rowIn t r) ⟨4992 + n.val, by have := n.isLt; omega⟩ := by
  refine (congrFun (last_gates m c t h4) _).trans ((gates_pay_apply _ _ r n).trans ?_)
  refine Finset.sum_congr rfl fun d _ => congrArg₂ (· * ·) (before_rows m c t (by omega) r d)
    ((block4 m c t _ d).trans (congrArg (fun q => weight _ q d) (Fin.ext ?_)))
  show t.val % 5 * 1024 + (896 + n.val) = 4992 + n.val
  omega

end Kept

/-! ## The results -/

/-- The whole packed projection. -/
def result (c : Dev nD) : FVec Ideal S8192x5120 .bf16 := fun i =>
  proj (m ((c : Thread nD τ).loc main_arg0)) (m ((c : Thread nD τ).loc main_arg1)) (m ((c : Thread nD τ).loc main_arg2))
    (m ((c : Thread nD τ).loc main_arg3)) (i 0) (i 1)

/-- The gates: its last 128 columns. -/
def gates (c : Dev nD) : FVec Ideal S8192x128 .f32 := fun i =>
  proj (m ((c : Thread nD τ).loc main_arg0)) (m ((c : Thread nD τ).loc main_arg1)) (m ((c : Thread nD τ).loc main_arg2))
    (m ((c : Thread nD τ).loc main_arg3)) (i 0) ⟨4992 + (i 1).val, by have : (i 1).val < 128 := (i 1).isLt; omega⟩

theorem flushed_result (c : Dev nD) (t : Fin cfg0.N) :
    (dats m 0 c).flushed 5 t = ((cfg0.win 5).blk t).view.read (Elt Ideal) (result m c) := by
  have e := index5 t
  rw [Value.flushed5]
  funext y
  show (outsAt0 m c t.val t.isLt).1 (y : S1024x1024.Idx) = result m c ((win0_5.rect t).emb y)
  refine ((congrArg (outsAt0 m c t.val t.isLt).1 (ix2_eta y).symm).trans (block_value m c t (y 0) (y 1))).trans ?_
  unfold result
  refine congrArg₂ (proj _ _ _ _) (Fin.ext ?_) (Fin.ext ?_)
  · exact ((win0_5.rect_emb_val t y 0).trans (by rw [e.1]; rfl)).symm
  · exact ((win0_5.rect_emb_val t y 1).trans (by rw [e.2]; rfl)).symm

theorem flushed_gates (c : Dev nD) (t : Fin cfg0.N) (hf : (cfg0.win 6).flush t = true) :
    (dats m 0 c).flushed 6 t = ((cfg0.win 6).blk t).view.read (Elt Ideal) (gates m c) := by
  have h4 := (flush0_6 t).mp hf
  have e := index6 t
  rw [Value.flushed6]
  funext y
  show (outsAt0 m c t.val t.isLt).2.1 (y : S1024x128.Idx) = gates m c ((win0_6.rect t).emb y)
  refine ((congrArg (outsAt0 m c t.val t.isLt).2.1 (ix2_eta y).symm).trans (gates_value m c t h4 (y 0) (y 1))).trans ?_
  unfold gates
  refine congrArg₂ (proj _ _ _ _) (Fin.ext ?_) (Fin.ext ?_)
  · exact ((win0_6.rect_emb_val t y 0).trans (by rw [e.1]; rfl)).symm
  · show 4992 + (y 1).val = 4992 + ((win0_6.rect t).emb y 1).val
    rw [win0_6.rect_emb_val t y 1, e.2]
    show 4992 + (y 1).val = 4992 + (0 * 128 + (y 1).val)
    omega

theorem result_eq (c : Dev nD) : (dats m 0 c).arrAt 5 cfg0.N = result m c :=
  (dats m 0 c).arrAt_eq_of_cover 5 _ (fun t _ => flushed_result m c t) (fun i => (Value.covered_iff5 i).2
    ⟨Nat.zero_le _, (i 0).isLt, Nat.zero_le _, (i 1).isLt⟩)

theorem gates_eq (c : Dev nD) : (dats m 0 c).arrAt 6 cfg0.N = gates m c :=
  (dats m 0 c).arrAt_eq_of_cover 6 _ (fun t hf => flushed_gates m c t hf) (fun i => (Value.covered_iff6 i).2
    ⟨Nat.zero_le _, (i 0).isLt, Nat.zero_le _, (i 1).isLt⟩)

end Cert.Proof.Inproj

end
-- ==== Proof.InprojProof.lean ====
/-
  The claims about the input projection: it runs, its arguments end as they began and its counters at zero, and over the
  extended reals its two results are the reference's, at any arguments.
-/
module

public import proofs.«01_k».proof.Defs
public import proofs.«01_k».proof.Proof.InprojValue
public import proofs.«01_k».proof.Proof.Gen.Kernel3
public import proofs.«01_k».proof.Proof.Gen.Kernel3.Frame
public import proofs.«01_k».proof.Proof.Gen.Reference3Ideal.Run

@[expose] public section

set_option maxRecDepth 16384

noncomputable section

namespace Cert.Reference3Ideal.Inproj

open Cert.Reference3Ideal Cert.Reference3Ideal.Gen Idealize.ShloMosaic Idealize.ShloMosaic.TcCoe
open Cert.Proof.Inproj (normed proj weight)

/-- The rows' modulated norm. -/
def rows (x : FVec Ideal S8192x2048 .f32) (g : FVec Ideal S1x2048 .f32) (md : FVec Ideal S1x12288 .f32) : FVec Ideal S8192x2048 .f32 :=
  addf (mulf (mulf (mulf x (broadcastInDim S8192x2048 ![0, 1] bcast_S8192x1_S8192x2048_0_1
        (Host.rsqrt (addf (Host.divf (broadcastInDim S8192x1 ![0] bcast_S8192_S8192x1_0
            (Host.reduceAdd (mulf x x) (constant S_ .f32 0x00000000#32) reducesTo_S8192x2048_S8192_d1 h_S_))
            (broadcastInDim S8192x1 ![] bcast_S_S8192x1 (constant S_ .f32 0x45000000#32)))
          (broadcastInDim S8192x1 ![] bcast_S_S8192x1 (constant S_ .f32 0x358637BD#32))))))
      (broadcastInDim S8192x2048 ![0, 1] bcast_S1x2048_S8192x2048_0_1 g))
    (broadcastInDim S8192x2048 ![0, 1] bcast_S1x2048_S8192x2048_0_1 (addf (broadcastInDim S1x2048 ![] bcast_S_S1x2048 (constant S_ .f32 0x3F800000#32))
      (extractStridedSlice S1x2048 ![0, 2048] md slices_S1x12288_S1x2048_0_2048))))
    (broadcastInDim S8192x2048 ![0, 1] bcast_S1x2048_S8192x2048_0_1 (extractStridedSlice S1x2048 ![0, 0] md slices_S1x12288_S1x2048_0_0))

/-- The rows times the weights. -/
def product (y : FVec Ideal S8192x2048 .f32) (w : FVec Ideal S2048x4944 .f32) : FVec Ideal S8192x4944 .f32 :=
  Host.dotGeneral dot_S8192x2048_S2048x4944_S8192x4944_1_0_0_1_n_n none y w

/-- The last 16 columns of the product, filled up with zeros to 128. -/
def lasts (p : FVec Ideal S8192x4944 .f32) : FVec Ideal S8192x128 .f32 :=
  concatenate S8192x128 1 [⟨S8192x16, extractStridedSlice S8192x16 ![0, 4928] p slices_S8192x4944_S8192x16_0_4928⟩,
    ⟨S8192x112, broadcastInDim S8192x112 ![] bcast_S_S8192x112 (constant S_ .f32 0x00000000#32)⟩] concatenates_S8192x16_S8192x112_S8192x128_d1

/-- The product's columns in the packed order. -/
def ordered (p : FVec Ideal S8192x4944 .f32) : FVec Ideal S8192x5120 .bf16 :=
  truncf .bf16 (concatenate S8192x5120 1 [⟨S8192x4096, extractStridedSlice S8192x4096 ![0, 832] p slices_S8192x4944_S8192x4096_0_832⟩,
    ⟨S8192x832, extractStridedSlice S8192x832 ![0, 0] p slices_S8192x4944_S8192x832_0_0⟩,
    ⟨S8192x64, broadcastInDim S8192x64 ![] bcast_S_S8192x64 (constant S_ .f32 0x00000000#32)⟩,
    ⟨S8192x128, lasts p⟩] concatenates_S8192x4096_S8192x832_S8192x64_S8192x128_S8192x5120_d1) bitsLt_bf16_f32

theorem rows_apply (x : FVec Ideal S8192x2048 .f32) (g : FVec Ideal S1x2048 .f32) (md : FVec Ideal S1x12288 .f32)
    (r : Fin 8192) (d : Fin 2048) : rows x g md (ix2 r d) = normed x g md r d := by
  unfold normed Cert.Proof.Norm.modulated Cert.Proof.Norm.scale
  pointwise [rows]

theorem product_apply (y : FVec Ideal S8192x2048 .f32) (w : FVec Ideal S2048x4944 .f32) (r : Fin 8192) (n : Fin 4944) :
    product y w (ix2 r n) = ∑ d : Fin 2048, y (ix2 r d) * w (ix2 d n) := by
  pointwise [product]

theorem lasts_apply (p : FVec Ideal S8192x4944 .f32) (r : Fin 8192) (n : Fin 128) : lasts p (ix2 r n)
    = if h : n.val < 16 then p (ix2 r ⟨4928 + n.val, by omega⟩) else 0 := by
  pointwise [lasts]

theorem ordered_apply (p : FVec Ideal S8192x4944 .f32) (r : Fin 8192) (n : Fin 5120) : ordered p (ix2 r n)
    = if h : n.val < 4096 then p (ix2 r ⟨832 + n.val, by omega⟩)
      else if h : n.val - 4096 < 832 then p (ix2 r ⟨n.val - 4096, by omega⟩)
      else if _h : n.val - 4096 - 832 < 64 then 0
      else lasts p (ix2 r ⟨n.val - 4096 - 832 - 64, by omega⟩) := by
  pointwise [ordered]

/-- The reference's first result at row `r` and column `n`. -/
theorem result_apply (x : FVec Ideal S8192x2048 .f32) (g : FVec Ideal S1x2048 .f32) (md : FVec Ideal S1x12288 .f32)
    (w : FVec Ideal S2048x4944 .f32) (r : Fin 8192) (n : Fin 5120) :
    ordered (product (rows x g md) w) (ix2 r n) = proj x g md w r n := by
  rw [ordered_apply]
  unfold proj weight
  split_ifs with h1 h2 h3 h4
  · simp only [product_apply, rows_apply]
  · simp only [product_apply, rows_apply]
  · simp only [mul_zero, Finset.sum_const_zero]
  · rw [lasts_apply, dif_pos h4]
    simp only [product_apply, rows_apply]
  · rw [lasts_apply, dif_neg h4]
    simp only [mul_zero, Finset.sum_const_zero]

/-- The reference's second result at row `r` and column `n`. -/
theorem gates_apply (x : FVec Ideal S8192x2048 .f32) (g : FVec Ideal S1x2048 .f32) (md : FVec Ideal S1x12288 .f32)
    (w : FVec Ideal S2048x4944 .f32) (r : Fin 8192) (n : Fin 128) :
    lasts (product (rows x g md) w) (ix2 r n) = proj x g md w r ⟨4992 + n.val, by have := n.isLt; omega⟩ := by
  refine Eq.trans ?_ (result_apply x g md w r _)
  rw [ordered_apply, dif_neg (by dsimp only; omega), dif_neg (by dsimp only; omega), dif_neg (by dsimp only; omega)]
  exact congrArg (fun q => lasts _ (ix2 r q)) (Fin.ext (by show n.val = 4992 + n.val - 4096 - 832 - 64; omega))

end Cert.Reference3Ideal.Inproj

namespace Cert.Proof.Inproj

open Idealize.ShloMosaic Idealize.ShloMosaic.TcCoe Idealize.SL.Sem

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem preserves : Cert.preserves_Kernel3_Kernel3Ideal := trivial

theorem algebraic : Cert.algebraic_Kernel3Ideal_Reference3Ideal := by
  intro m g m' g' _ hargs
  refine ⟨fun c => result m c, fun c => gates m c, (θ_run Cert.Kernel3Ideal.defs _ _).mono
    (fun r h c => ⟨(h c).1.trans (result_eq m c), (h c).2.1.trans (gates_eq m c), (h c).2.2⟩)
    (Cert.Kernel3Ideal.Value.run_blocks m g), ?_⟩
  refine (θ_run Cert.Reference3Ideal.defs _ _).mono (fun r h c => ⟨(h c).1.trans ?_, (h c).2.1.trans ?_, (h c).2.2⟩)
    (Cert.Reference3Ideal.Value.run (F := Ideal) m' g')
  · obtain ⟨a0, a1, a2, a3⟩ := hargs c
    unfold Cert.Reference3Ideal.Value.res_main_v32
    rw [a0, a1, a2, a3]
    show Cert.Reference3Ideal.Inproj.ordered (Cert.Reference3Ideal.Inproj.product (Cert.Reference3Ideal.Inproj.rows _ _ _) _) = result m c
    funext i
    exact (congrArg _ (ix2_eta i).symm).trans (Cert.Reference3Ideal.Inproj.result_apply _ _ _ _ (i 0) (i 1))
  · obtain ⟨a0, a1, a2, a3⟩ := hargs c
    rw [a0, a1, a2, a3]
    show Cert.Reference3Ideal.Inproj.lasts (Cert.Reference3Ideal.Inproj.product (Cert.Reference3Ideal.Inproj.rows _ _ _) _) = gates m c
    funext i
    exact (congrArg _ (ix2_eta i).symm).trans (Cert.Reference3Ideal.Inproj.gates_apply _ _ _ _ (i 0) (i 1))

end Cert.Proof.Inproj

end
-- ==== Proof.OutprojValue.lean ====
/-
  The output projection's two results over the extended reals. Each step takes 512 rows: it norms the four heads of the
  memory's output, gates them, projects them together with the attention's output, adds the gated product to the input
  (first result), and norms and modulates that sum (second result).
-/
module

public import proofs.«01_k».proof.Proof.Norm
public import proofs.«01_k».proof.Proof.Gen.Kernel4Ideal.Value
public import Idealize.ShloMosaic.Lib.Pipeline.Value
public import Idealize.ShloMosaic.Lib.Pipeline.ValueKit
public import Idealize.ShloMosaic.Lib.Pointwise

@[expose] public section

set_option maxRecDepth 16384

noncomputable section

namespace Cert.Proof.Outproj

open Cert.Kernel4Ideal Cert.Kernel4Ideal.Gen
open Idealize.ShloMosaic Idealize.ShloMosaic.TcCoe Idealize.SL.Sem
open Idealize.ShloMosaic.Pipeline (Dat)

/-! ## The mathematics -/

/-- The reciprocal root of the mean square of a head's 256 values, the small constant added before the root. -/
def headScale (u : Fin 256 → EReal) : EReal :=
  Ideal.rsqrt (Ideal.div (∑ e : Fin 256, u e * u e) (Ideal.ofBits FTy.f32 0x43800000#32) + Ideal.ofBits FTy.f32 0x358637BD#32)

/-- Value `k` of a row of four heads side by side, normed over its own head, times the gain. -/
def headNormed (s g : Fin 1024 → EReal) (k : Fin 1024) : EReal :=
  s k * headScale (fun e => s ⟨k.val / 256 * 256 + e.val, by omega⟩) * g k

/-- The two directions of the memory added: row `r` of the heads side by side. -/
def heads (hf hb : FVec Ideal S4x8192x256 .f32) (r : Fin 8192) (k : Fin 1024) : EReal :=
  hf (ix3 ⟨k.val / 256, by omega⟩ r ⟨k.val % 256, by omega⟩) + hb (ix3 ⟨k.val / 256, by omega⟩ r ⟨k.val % 256, by omega⟩)

/-- The gains side by side. -/
def gains (gm : FVec Ideal S4x256 .f32) (k : Fin 1024) : EReal := gm (ix2 ⟨k.val / 256, by omega⟩ ⟨k.val % 256, by omega⟩)

/-- The memory's gated output at row `r`. -/
def memory (hf hb : FVec Ideal S4x8192x256 .f32) (om : FVec Ideal S8192x1024 .f32) (gm : FVec Ideal S4x256 .f32)
    (r : Fin 8192) (k : Fin 1024) : EReal :=
  Ideal.logistic (om (ix2 r k)) * headNormed (heads hf hb r) (gains gm) k

/-- The first result: the input plus the gated projection of attention and memory. -/
def summed (att : FVec Ideal S8192x1024 .f32) (hf hb : FVec Ideal S4x8192x256 .f32) (om : FVec Ideal S8192x1024 .f32)
    (x : FVec Ideal S8192x2048 .f32) (gm : FVec Ideal S4x256 .f32) (w : FVec Ideal S2048x2048 .f32) (md : FVec Ideal S1x12288 .f32)
    (r : Fin 8192) (n : Fin 2048) : EReal :=
  x (ix2 r n) + md (ix2 0 ⟨4096 + n.val, by omega⟩)
    * (∑ k : Fin 1024, att (ix2 r k) * w (ix2 ⟨k.val, by omega⟩ n)
      + ∑ k : Fin 1024, memory hf hb om gm r k * w (ix2 ⟨1024 + k.val, by omega⟩ n))

/-- The second result: the first one's row, normed and modulated. -/
def renormed (att : FVec Ideal S8192x1024 .f32) (hf hb : FVec Ideal S4x8192x256 .f32) (om : FVec Ideal S8192x1024 .f32)
    (x : FVec Ideal S8192x2048 .f32) (gm : FVec Ideal S4x256 .f32) (w : FVec Ideal S2048x2048 .f32) (md : FVec Ideal S1x12288 .f32)
    (g : FVec Ideal S1x2048 .f32) (r : Fin 8192) (n : Fin 2048) : EReal :=
  Norm.modulated (summed att hf hb om x gm w md r) (fun e => g (ix2 0 e)) (fun e => md (ix2 0 ⟨8192 + e.val, by omega⟩))
    (fun e => md (ix2 0 ⟨6144 + e.val, by omega⟩)) n

/-- Times 1/256 is divided by 256. -/
theorem mean_256 (y : EReal) : y * Ideal.ofBits FTy.f32 0x3B800000#32 = Ideal.div y (Ideal.ofBits FTy.f32 0x43800000#32) := by
  have a : Ideal.ofBits FTy.f32 0x3B800000#32 = ((1 / 256 : ℝ) : EReal) := by
    simp [Ideal.ofBits, Ideal.ieee, -EReal.coe_mul]; norm_num
  have b : Ideal.ofBits FTy.f32 0x43800000#32 = ((256 : ℝ) : EReal) := by
    simp [Ideal.ofBits, Ideal.ieee, -EReal.coe_mul]; norm_num
  rw [a, b, Ideal.div_coe (by norm_num)]

/-- Within head `b` the norm reads that head's columns. -/
theorem headNormed_in (s g : Fin 1024 → EReal) (b : ℕ) (k : Fin 1024) (h : b * 256 ≤ k.val) (h' : k.val < b * 256 + 256) :
    headNormed s g k = s k * headScale (fun e => s ⟨b * 256 + e.val, by omega⟩) * g k := by
  obtain rfl : k.val / 256 = b := by omega
  rfl

/-! ## One step's values -/

section Step

variable (hf hb : Vec Ideal S512x1024 .bf16) (g : Vec Ideal S1x1024 .f32) (r : Fin 512)

theorem sums_apply (k : Fin 1024) : k0_pay2 hf hb (ix2 r k) = hf (ix2 r k) + hb (ix2 r k) := by
  pointwise [k0_pay2]

theorem gain_apply (k : Fin 1024) : k0_pay3 g (ix2 0 k) = g (ix2 0 k) := by
  pointwise [k0_pay3]

theorem head0_apply (d : Fin 256) : k0_pay4 hf hb g (ix2 r d)
    = headNormed (fun k => k0_pay2 hf hb (ix2 r k)) (fun k => g (ix2 0 k)) ⟨d.val, by omega⟩ := by
  rw [headNormed_in _ _ 0 _ (by dsimp only; omega) (by dsimp only; omega)]
  unfold headScale
  simp only [← mean_256, Nat.zero_mul, Nat.zero_add]
  pointwise [k0_pay4, k0_pay2, k0_pay3]

theorem head1_apply (d : Fin 256) : k0_pay5 hf hb g (ix2 r d)
    = headNormed (fun k => k0_pay2 hf hb (ix2 r k)) (fun k => g (ix2 0 k)) ⟨256 + d.val, by omega⟩ := by
  rw [headNormed_in _ _ 1 _ (by dsimp only; omega) (by dsimp only; omega)]
  unfold headScale
  simp only [← mean_256, Nat.one_mul]
  pointwise [k0_pay5, k0_pay2, k0_pay3]

/-- Head 2 is normed in two parts: its values and their mean square are found first. -/
theorem head2_apply (d : Fin 256) : k0_pay6 hf hb (ix2 r d) * Ideal.rsqrt (k0_pay7 hf hb (ix2 r 0) + (k0_pay8 : FVec Ideal S512x1 .f32) (ix2 r 0))
      * k0_pay3 g (ix2 0 ⟨512 + d.val, by omega⟩)
    = headNormed (fun k => k0_pay2 hf hb (ix2 r k)) (fun k => g (ix2 0 k)) ⟨512 + d.val, by omega⟩ := by
  rw [headNormed_in _ _ 2 _ (by dsimp only; omega) (by dsimp only; omega)]
  unfold headScale
  simp only [← mean_256]
  pointwise [k0_pay6, k0_pay7, k0_pay8, k0_pay2, k0_pay3]

theorem head3_apply (s : FVec Ideal S512x1024 .f32) (u : Fin 1024 → EReal) (d : Fin 256) :
    s (ix2 r ⟨768 + d.val, by omega⟩) * Ideal.rsqrt
        ((∑ e : Fin 256, s (ix2 r ⟨768 + e.val, by omega⟩) * s (ix2 r ⟨768 + e.val, by omega⟩)) * Ideal.ofBits FTy.f32 0x3B800000#32
          + Ideal.ofBits FTy.f32 0x358637BD#32) * u ⟨768 + d.val, by omega⟩
    = headNormed (fun k => s (ix2 r k)) u ⟨768 + d.val, by omega⟩ := by
  rw [headNormed_in _ _ 3 _ (by dsimp only; omega) (by dsimp only; omega), mean_256]
  rfl

/-- Four pieces of 256 columns side by side. -/
def four (p q u v : Fin 256 → EReal) (k : Fin 1024) : EReal :=
  if h : k.val < 256 then p ⟨k.val, h⟩
  else if h : k.val - 256 < 256 then q ⟨k.val - 256, h⟩
  else if h : k.val - 256 - 256 < 256 then u ⟨k.val - 256 - 256, h⟩
  else v ⟨k.val - 256 - 256 - 256, by omega⟩

theorem four_eq (p q u v : Fin 256 → EReal) (f : Fin 1024 → EReal) (h0 : ∀ d : Fin 256, p d = f ⟨d.val, by omega⟩)
    (h1 : ∀ d : Fin 256, q d = f ⟨256 + d.val, by omega⟩) (h2 : ∀ d : Fin 256, u d = f ⟨512 + d.val, by omega⟩)
    (h3 : ∀ d : Fin 256, v d = f ⟨768 + d.val, by omega⟩) (k : Fin 1024) : four p q u v k = f k := by
  unfold four
  split_ifs with c0 c1 c2
  · exact h0 _
  · exact (h1 _).trans (congrArg f (Fin.ext (by dsimp only; omega)))
  · exact (h2 _).trans (congrArg f (Fin.ext (by dsimp only; omega)))
  · exact (h3 _).trans (congrArg f (Fin.ext (by dsimp only; omega)))

/-- The product over all the parts, with the four heads where they stand. -/
theorem mixed_apply (s : FVec Ideal S512x1024 .f32) (g' : FVec Ideal S1x1024 .f32) (p q u : FVec Ideal S512x256 .f32)
    (y z : FVec Ideal S512x1 .f32) (om att : Vec Ideal S512x1024 .bf16) (w0 w1 : Vec Ideal S1024x2048 .bf16)
    (x : Vec Ideal S512x2048 .f32) (gt : Vec Ideal S1x2048 .f32) (n : Fin 2048) :
    k0_pay9 s g' p q u y z om att w0 w1 x gt (ix2 r n)
      = x (ix2 r n) + gt (ix2 0 n) * (∑ k : Fin 1024, att (ix2 r k) * w0 (ix2 k n)
        + ∑ k : Fin 1024, Ideal.logistic (om (ix2 r k)) * four (fun d => p (ix2 r d)) (fun d => q (ix2 r d))
          (fun d => u (ix2 r d) * Ideal.rsqrt (y (ix2 r 0) + z (ix2 r 0)) * g' (ix2 0 ⟨512 + d.val, by omega⟩))
          (fun d => s (ix2 r ⟨768 + d.val, by omega⟩) * Ideal.rsqrt
            ((∑ e : Fin 256, s (ix2 r ⟨768 + e.val, by omega⟩) * s (ix2 r ⟨768 + e.val, by omega⟩)) * Ideal.ofBits FTy.f32 0x3B800000#32
              + Ideal.ofBits FTy.f32 0x358637BD#32) * g' (ix2 0 ⟨768 + d.val, by omega⟩)) k * w1 (ix2 k n)) := by
  unfold four
  pointwise [k0_pay9]

/-- One step's first block. -/
theorem sum_apply (om att : Vec Ideal S512x1024 .bf16) (w0 w1 : Vec Ideal S1024x2048 .bf16)
    (x : Vec Ideal S512x2048 .f32) (gt : Vec Ideal S1x2048 .f32) (n : Fin 2048) :
    k0_pay9 (k0_pay2 hf hb) (k0_pay3 g) (k0_pay4 hf hb g) (k0_pay5 hf hb g) (k0_pay6 hf hb) (k0_pay7 hf hb) k0_pay8
        om att w0 w1 x gt (ix2 r n)
      = x (ix2 r n) + gt (ix2 0 n) * (∑ k : Fin 1024, att (ix2 r k) * w0 (ix2 k n)
        + ∑ k : Fin 1024, Ideal.logistic (om (ix2 r k))
          * headNormed (fun e => hf (ix2 r e) + hb (ix2 r e)) (fun e => g (ix2 0 e)) k * w1 (ix2 k n)) := by
  rw [show (fun e => hf (ix2 r e) + hb (ix2 r e)) = fun e => k0_pay2 hf hb (ix2 r e) from funext fun e => (sums_apply hf hb r e).symm]
  rw [mixed_apply]
  simp only [four_eq _ _ _ _ _ (head0_apply hf hb g r) (head1_apply hf hb g r) (head2_apply hf hb g r)
    (fun d => (congrArg (_ * ·) (gain_apply g _)).trans (head3_apply r _ (fun e => g (ix2 0 e)) d))]

end Step

theorem renorm_apply (y : FVec Ideal S512x2048 .f32) (g sc sh : Vec Ideal S1x2048 .f32) (r : Fin 512) (d : Fin 2048) :
    k0_pay1 y g sc sh (ix2 r d)
      = Norm.modulated (fun e => y (ix2 r e)) (fun e => g (ix2 0 e)) (fun e => sc (ix2 0 e)) (fun e => sh (ix2 0 e)) d := by
  unfold Norm.modulated Norm.scale
  pointwise [k0_pay1]

/-! ## What the host prepares -/

variable (m : (ℓ : Loc nD τ sig) → Buf (Elt Ideal) ℓ)

/-- The heads side by side, a row for each position. -/
def rows (h : FVec Ideal S4x8192x256 .f32) : FVec Ideal S8192x1024 .bf16 :=
  truncf .bf16 (shapeCast S8192x1024 (transpose S8192x4x256 [1, 0, 2] h transposes_S4x8192x256_S8192x4x256_1_0_2)
    shapeCasts_S8192x4x256_S8192x1024) bitsLt_bf16_f32

/-- The gates' columns at their place in the packed projection. -/
def placed (om : FVec Ideal S8192x1024 .f32) : FVec Ideal S8192x5120 .bf16 :=
  truncf .bf16 (pad S8192x5120 ![0, 3072] ![0, 1024] ![0, 0] om (sitofp .f32 (constantI S_ 32 0#32) : FVec Ideal S_ .f32)
    pads_S8192x1024_S8192x5120_000_307210240 h_S_) bitsLt_bf16_f32

theorem rows_apply (h : FVec Ideal S4x8192x256 .f32) (r : Fin 8192) (k : Fin 1024) :
    rows h (ix2 r k) = h (ix3 ⟨k.val / 256, by omega⟩ r ⟨k.val % 256, by omega⟩) := by
  pointwise [rows]

theorem placed_apply (om : FVec Ideal S8192x1024 .f32) (r : Fin 8192) (k : Fin 1024) :
    placed om (ix2 r ⟨3072 + k.val, by omega⟩) = om (ix2 r k) := by
  pointwise [placed]

theorem entry0 (c : Dev nD) : V m c main_v2 = truncf (F := Ideal) .bf16 (m ((c : Thread nD τ).loc main_arg0)) bitsLt_bf16_f32 := by
  show StableHlo.after (List.flatten [hostOps0, hostOps0_1, hostOps0_2]) _ (Proc.devRef .tc main_v2) = _
  simp only [hostOps0, hostOps0_1, hostOps0_2, List.flatten_cons, List.flatten_nil, List.append_nil, List.cons_append, List.nil_append]
  after_results <;> rfl
theorem entry1 (c : Dev nD) : V m c main_v5 = rows (m ((c : Thread nD τ).loc main_arg1)) := by
  show StableHlo.after (List.flatten [hostOps0, hostOps0_1, hostOps0_2]) _ (Proc.devRef .tc main_v5) = _
  simp only [hostOps0, hostOps0_1, hostOps0_2, List.flatten_cons, List.flatten_nil, List.append_nil, List.cons_append, List.nil_append]
  after_results <;> rfl
theorem entry2 (c : Dev nD) : V m c main_v8 = rows (m ((c : Thread nD τ).loc main_arg2)) := by
  show StableHlo.after (List.flatten [hostOps0, hostOps0_1, hostOps0_2]) _ (Proc.devRef .tc main_v8) = _
  simp only [hostOps0, hostOps0_1, hostOps0_2, List.flatten_cons, List.flatten_nil, List.append_nil, List.cons_append, List.nil_append]
  after_results <;> rfl
theorem entry3 (c : Dev nD) : V m c main_v1 = placed (m ((c : Thread nD τ).loc main_arg3)) := by
  show StableHlo.after (List.flatten [hostOps0, hostOps0_1, hostOps0_2]) _ (Proc.devRef .tc main_v1) = _
  simp only [hostOps0, hostOps0_1, hostOps0_2, List.flatten_cons, List.flatten_nil, List.append_nil, List.cons_append, List.nil_append]
  after_results <;> rfl
theorem entry5 (c : Dev nD) : V m c main_v9 = shapeCast S1x1024 (m ((c : Thread nD τ).loc main_arg5) : FVec Ideal S4x256 .f32) shapeCasts_S4x256_S1x1024 := by
  show StableHlo.after (List.flatten [hostOps0, hostOps0_1, hostOps0_2]) _ (Proc.devRef .tc main_v9) = _
  simp only [hostOps0, hostOps0_1, hostOps0_2, List.flatten_cons, List.flatten_nil, List.append_nil, List.cons_append, List.nil_append]
  after_results <;> rfl
theorem entry6 (c : Dev nD) : V m c main_v10 = truncf (F := Ideal) .bf16 (m ((c : Thread nD τ).loc main_arg6)) bitsLt_bf16_f32 := by
  show StableHlo.after (List.flatten [hostOps0, hostOps0_1, hostOps0_2]) _ (Proc.devRef .tc main_v10) = _
  simp only [hostOps0, hostOps0_1, hostOps0_2, List.flatten_cons, List.flatten_nil, List.append_nil, List.cons_append, List.nil_append]
  after_results <;> rfl

theorem gains_apply (gm : FVec Ideal S4x256 .f32) (k : Fin 1024) :
    shapeCast S1x1024 gm shapeCasts_S4x256_S1x1024 (ix2 0 k) = gains gm k := by
  unfold gains
  pointwise []

/-! ## Where the blocks lie -/

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 3 :=
  (by decide +kernel : ∀ t : Fin grid0.N, win0_3.index t 0 = t.val ∧ win0_3.index t 1 = 3)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 2 :=
  (by decide +kernel : ∀ t : Fin grid0.N, win0_7.index t 0 = 0 ∧ win0_7.index t 1 = 2)
theorem index8 : ∀ t : Fin cfg0.N, win0_8.index t 0 = 0 ∧ win0_8.index t 1 = 0 :=
  (by decide +kernel : ∀ t : Fin grid0.N, win0_8.index t 0 = 0 ∧ win0_8.index t 1 = 0)
theorem index9 : ∀ t : Fin cfg0.N, win0_9.index t 0 = 0 ∧ win0_9.index t 1 = 4 :=
  (by decide +kernel : ∀ t : Fin grid0.N, win0_9.index t 0 = 0 ∧ win0_9.index t 1 = 4)
theorem index10 : ∀ t : Fin cfg0.N, win0_10.index t 0 = 0 ∧ win0_10.index t 1 = 3 :=
  (by decide +kernel : ∀ t : Fin grid0.N, win0_10.index t 0 = 0 ∧ win0_10.index t 1 = 3)
theorem index11 : ∀ t : Fin cfg0.N, win0_11.index t 0 = t.val ∧ win0_11.index t 1 = 0 :=
  (by decide +kernel : ∀ t : Fin grid0.N, win0_11.index t 0 = t.val ∧ win0_11.index t 1 = 0)
theorem index12 : ∀ t : Fin cfg0.N, win0_12.index t 0 = t.val ∧ win0_12.index t 1 = 0 :=
  (by decide +kernel : ∀ t : Fin grid0.N, win0_12.index t 0 = t.val ∧ win0_12.index t 1 = 0)

theorem points (t : Fin cfg0.N) : t.val < 16 := t.isLt

/-- The row of step `t`'s block. -/
abbrev rowIn (t : Fin cfg0.N) (r : Fin 512) : Fin 8192 := ⟨t.val * 512 + r.val, by have := points t; have := r.isLt; omega⟩

section Blocks

variable (c : Dev nD) (t : Fin cfg0.N)

theorem block0 (r : Fin 512) (k : Fin 1024) :
    (iblk m c 0 t (ix2 r k) : EReal) = m ((c : Thread nD τ).loc main_arg0) (ix2 (rowIn t r) k) := by
  have e := index0 t
  refine (congrArg (V m c main_v2) (funext fun x => Fin.ext ?_)).trans (congrFun (entry0 m c) _)
  match x with
  | ⟨0, _⟩ => exact (win0_0.rect_emb_val t _ 0).trans (by rw [e.1]; rfl)
  | ⟨1, _⟩ => exact (win0_0.rect_emb_val t _ 1).trans (by rw [e.2]; show 0 * 1024 + k.val = k.val; omega)

theorem block1 (r : Fin 512) (k : Fin 1024) : (iblk m c 1 t (ix2 r k) : EReal)
    = m ((c : Thread nD τ).loc main_arg1) (ix3 ⟨k.val / 256, by omega⟩ (rowIn t r) ⟨k.val % 256, by omega⟩) := by
  have e := index1 t
  refine (congrArg (V m c main_v5) (funext fun x => Fin.ext ?_)).trans
    ((congrFun (entry1 m c) _).trans (rows_apply _ (rowIn t r) k))
  match x with
  | ⟨0, _⟩ => exact (win0_1.rect_emb_val t _ 0).trans (by rw [e.1]; rfl)
  | ⟨1, _⟩ => exact (win0_1.rect_emb_val t _ 1).trans (by rw [e.2]; show 0 * 1024 + k.val = k.val; omega)

theorem block2 (r : Fin 512) (k : Fin 1024) : (iblk m c 2 t (ix2 r k) : EReal)
    = m ((c : Thread nD τ).loc main_arg2) (ix3 ⟨k.val / 256, by omega⟩ (rowIn t r) ⟨k.val % 256, by omega⟩) := by
  have e := index2 t
  refine (congrArg (V m c main_v8) (funext fun x => Fin.ext ?_)).trans
    ((congrFun (entry2 m c) _).trans (rows_apply _ (rowIn t r) k))
  match x with
  | ⟨0, _⟩ => exact (win0_2.rect_emb_val t _ 0).trans (by rw [e.1]; rfl)
  | ⟨1, _⟩ => exact (win0_2.rect_emb_val t _ 1).trans (by rw [e.2]; show 0 * 1024 + k.val = k.val; omega)

theorem block3 (r : Fin 512) (k : Fin 1024) :
    (iblk m c 3 t (ix2 r k) : EReal) = m ((c : Thread nD τ).loc main_arg3) (ix2 (rowIn t r) k) := by
  have e := index3 t
  refine (congrArg (V m c main_v1) (funext fun x => Fin.ext ?_)).trans
    ((congrFun (entry3 m c) _).trans (placed_apply _ (rowIn t r) k))
  match x with
  | ⟨0, _⟩ => exact (win0_3.rect_emb_val t _ 0).trans (by rw [e.1]; rfl)
  | ⟨1, _⟩ => exact (win0_3.rect_emb_val t _ 1).trans (by rw [e.2]; rfl)

theorem block4 (r : Fin 512) (n : Fin 2048) :
    iblk m c 4 t (ix2 r n) = m ((c : Thread nD τ).loc main_arg4) (ix2 (rowIn t r) n) := by
  have e := index4 t
  refine (congrArg (V m c main_arg4) (funext fun x => Fin.ext ?_)).trans (congrFun (V_main_arg4 m c) _)
  match x with
  | ⟨0, _⟩ => exact (win0_4.rect_emb_val t _ 0).trans (by rw [e.1]; rfl)
  | ⟨1, _⟩ => exact (win0_4.rect_emb_val t _ 1).trans (by rw [e.2]; show 0 * 2048 + n.val = n.val; omega)

theorem block5 (k : Fin 1024) : iblk m c 5 t (ix2 0 k) = gains (m ((c : Thread nD τ).loc main_arg5)) k := by
  have e := index5 t
  refine (congrArg (V m c main_v9) (funext fun x => Fin.ext ?_)).trans
    ((congrFun (entry5 m c) _).trans (gains_apply _ k))
  match x with
  | ⟨0, _⟩ => exact (win0_5.rect_emb_val t _ 0).trans (by rw [e.1]; rfl)
  | ⟨1, _⟩ => exact (win0_5.rect_emb_val t _ 1).trans (by rw [e.2]; show 0 * 1024 + k.val = k.val; omega)

/-- The weights' upper half, which the attention's output meets. -/
theorem block6_upper (k : Fin 1024) (n : Fin 2048) : (View.ld (iblk m c 6 t) r0_2 (ix2 k n) : EReal)
    = m ((c : Thread nD τ).loc main_arg6) (ix2 ⟨k.val, by omega⟩ n) := by
  have e := index6 t
  refine (congrArg (V m c main_v10) (funext fun x => Fin.ext ?_)).trans (congrFun (entry6 m c) _)
  match x with
  | ⟨0, _⟩ => exact (win0_6.rect_emb_val t _ 0).trans (by rw [e.1]; show 0 * 2048 + (0 + 1 * k.val) = k.val; omega)
  | ⟨1, _⟩ => exact (win0_6.rect_emb_val t _ 1).trans (by rw [e.2]; show 0 * 2048 + (0 + 1 * n.val) = n.val; omega)

/-- The weights' lower half, which the memory's output meets. -/
theorem block6_lower (k : Fin 1024) (n : Fin 2048) : (View.ld (iblk m c 6 t) r0_3 (ix2 k n) : EReal)
    = m ((c : Thread nD τ).loc main_arg6) (ix2 ⟨1024 + k.val, by omega⟩ n) := by
  have e := index6 t
  refine (congrArg (V m c main_v10) (funext fun x => Fin.ext ?_)).trans (congrFun (entry6 m c) _)
  match x with
  | ⟨0, _⟩ => exact (win0_6.rect_emb_val t _ 0).trans (by rw [e.1]; show 0 * 2048 + (1024 + 1 * k.val) = 1024 + k.val; omega)
  | ⟨1, _⟩ => exact (win0_6.rect_emb_val t _ 1).trans (by rw [e.2]; show 0 * 2048 + (0 + 1 * n.val) = n.val; omega)

theorem block7 (n : Fin 2048) : iblk m c 7 t (ix2 0 n) = m ((c : Thread nD τ).loc main_arg7) (ix2 0 ⟨4096 + n.val, by omega⟩) := by
  have e := index7 t
  refine (congrArg (V m c main_arg7) (funext fun x => Fin.ext ?_)).trans (congrFun (V_main_arg7 m c) _)
  match x with
  | ⟨0, _⟩ => exact (win0_7.rect_emb_val t _ 0).trans (by rw [e.1]; rfl)
  | ⟨1, _⟩ => exact (win0_7.rect_emb_val t _ 1).trans (by rw [e.2]; rfl)

theorem block8 (n : Fin 2048) : iblk m c 8 t (ix2 0 n) = m ((c : Thread nD τ).loc main_arg8) (ix2 0 n) := by
  have e := index8 t
  refine (congrArg (V m c main_arg8) (funext fun x => Fin.ext ?_)).trans (congrFun (V_main_arg8 m c) _)
  match x with
  | ⟨0, _⟩ => exact (win0_8.rect_emb_val t _ 0).trans (by rw [e.1]; rfl)
  | ⟨1, _⟩ => exact (win0_8.rect_emb_val t _ 1).trans (by rw [e.2]; show 0 * 2048 + n.val = n.val; omega)

theorem block9 (n : Fin 2048) : iblk m c 9 t (ix2 0 n) = m ((c : Thread nD τ).loc main_arg7) (ix2 0 ⟨8192 + n.val, by omega⟩) := by
  have e := index9 t
  refine (congrArg (V m c main_arg7) (funext fun x => Fin.ext ?_)).trans (congrFun (V_main_arg7 m c) _)
  match x with
  | ⟨0, _⟩ => exact (win0_9.rect_emb_val t _ 0).trans (by rw [e.1]; rfl)
  | ⟨1, _⟩ => exact (win0_9.rect_emb_val t _ 1).trans (by rw [e.2]; rfl)

theorem block10 (n : Fin 2048) : iblk m c 10 t (ix2 0 n) = m ((c : Thread nD τ).loc main_arg7) (ix2 0 ⟨6144 + n.val, by omega⟩) := by
  have e := index10 t
  refine (congrArg (V m c main_arg7) (funext fun x => Fin.ext ?_)).trans (congrFun (V_main_arg7 m c) _)
  match x with
  | ⟨0, _⟩ => exact (win0_10.rect_emb_val t _ 0).trans (by rw [e.1]; rfl)
  | ⟨1, _⟩ => exact (win0_10.rect_emb_val t _ 1).trans (by rw [e.2]; rfl)

/-- The step's first block, the projection halves read from the whole weights. -/
abbrev sumBlock : FVec Ideal S512x2048 .f32 :=
  k0_pay9 (k0_pay2 (iblk m c 1 t) (iblk m c 2 t)) (k0_pay3 (iblk m c 5 t)) (k0_pay4 (iblk m c 1 t) (iblk m c 2 t) (iblk m c 5 t))
    (k0_pay5 (iblk m c 1 t) (iblk m c 2 t) (iblk m c 5 t)) (k0_pay6 (iblk m c 1 t) (iblk m c 2 t)) (k0_pay7 (iblk m c 1 t) (iblk m c 2 t))
    k0_pay8 (iblk m c 3 t) (iblk m c 0 t) (View.ld (iblk m c 6 t) r0_2) (View.ld (iblk m c 6 t) r0_3) (iblk m c 4 t) (iblk m c 7 t)

theorem sumBlock_eq : k0_pay10 (iblk m c 0 t) (iblk m c 1 t) (iblk m c 2 t) (iblk m c 3 t) (iblk m c 4 t) (iblk m c 5 t) (iblk m c 6 t)
    (iblk m c 7 t) (iblk m c 8 t) (iblk m c 9 t) (iblk m c 10 t) = sumBlock m c t := by
  unfold k0_pay10
  frame_out
  rfl

theorem out11 : out0_11 (iblk m c 0 t) (iblk m c 1 t) (iblk m c 2 t) (iblk m c 3 t) (iblk m c 4 t) (iblk m c 5 t) (iblk m c 6 t)
    (iblk m c 7 t) (iblk m c 8 t) (iblk m c 9 t) (iblk m c 10 t) = sumBlock m c t := by
  frame_out
  exact sumBlock_eq m c t

theorem out12 : out0_12 (iblk m c 0 t) (iblk m c 1 t) (iblk m c 2 t) (iblk m c 3 t) (iblk m c 4 t) (iblk m c 5 t) (iblk m c 6 t)
    (iblk m c 7 t) (iblk m c 8 t) (iblk m c 9 t) (iblk m c 10 t)
      = k0_pay1 (sumBlock m c t) (iblk m c 8 t) (iblk m c 9 t) (iblk m c 10 t) := by
  frame_out
  exact congrArg (k0_pay1 · _ _ _) (sumBlock_eq m c t)

/-- Row `r` and column `n` of the first result, by the arguments. -/
abbrev summedAt (r : Fin 8192) (n : Fin 2048) : EReal :=
  summed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) r n

theorem sum_value (r : Fin 512) (n : Fin 2048) : (sumBlock m c t (ix2 r n) : EReal) = summedAt m c (rowIn t r) n := by
  refine (sum_apply (iblk m c 1 t) (iblk m c 2 t) (iblk m c 5 t) r (iblk m c 3 t) (iblk m c 0 t) _ _ (iblk m c 4 t) (iblk m c 7 t) n).trans ?_
  unfold summedAt summed memory
  refine congrArg₂ (· + ·) (block4 m c t r n) (congrArg₂ (· * ·) (block7 m c t n) (congrArg₂ (· + ·) ?_ ?_))
  · exact Finset.sum_congr rfl fun k _ => congrArg₂ (· * ·) (block0 m c t r k) (block6_upper m c t k n)
  · refine Finset.sum_congr rfl fun k _ => congrArg₂ (· * ·) (congrArg₂ (· * ·) (congrArg Ideal.logistic (block3 m c t r k)) ?_)
      (block6_lower m c t k n)
    refine congrArg₂ (fun a b => headNormed a b k) (funext fun e => ?_) (funext fun e => block5 m c t e)
    exact congrArg₂ (· + ·) (block1 m c t r e) (block2 m c t r e)

theorem renorm_value (r : Fin 512) (n : Fin 2048) :
    (k0_pay1 (sumBlock m c t) (iblk m c 8 t) (iblk m c 9 t) (iblk m c 10 t) (ix2 r n) : EReal)
      = Norm.modulated (summedAt m c (rowIn t r)) (fun e => m ((c : Thread nD τ).loc main_arg8) (ix2 0 e))
        (fun e => m ((c : Thread nD τ).loc main_arg7) (ix2 0 ⟨8192 + e.val, by omega⟩))
        (fun e => m ((c : Thread nD τ).loc main_arg7) (ix2 0 ⟨6144 + e.val, by omega⟩)) n := by
  refine (renorm_apply (sumBlock m c t) (iblk m c 8 t) (iblk m c 9 t) (iblk m c 10 t) r n).trans ?_
  rw [show (fun e => sumBlock m c t (ix2 r e)) = _ from funext fun e => sum_value m c t r e,
    show (fun e => iblk m c 8 t (ix2 0 e)) = _ from funext fun e => block8 m c t e,
    show (fun e => iblk m c 9 t (ix2 0 e)) = _ from funext fun e => block9 m c t e,
    show (fun e => iblk m c 10 t (ix2 0 e)) = _ from funext fun e => block10 m c t e]

end Blocks

/-! ## The results -/

/-- The whole first result. -/
def result (c : Dev nD) : FVec Ideal S8192x2048 .f32 := fun i => summedAt m c (i 0) (i 1)

/-- The whole second result. -/
def normed (c : Dev nD) : FVec Ideal S8192x2048 .bf16 := fun i =>
  renormed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (i 0) (i 1)

theorem flushed_result (c : Dev nD) (t : Fin cfg0.N) :
    (dats m 0 c).flushed 11 t = ((cfg0.win 11).blk t).view.read (Elt Ideal) (result m c) := by
  have e := index11 t
  rw [Value.flushed11, out11]
  funext y
  show sumBlock m c t (y : S512x2048.Idx) = result m c ((win0_11.rect t).emb y)
  refine ((congrArg (sumBlock m c t) (ix2_eta y).symm).trans (sum_value m c t (y 0) (y 1))).trans ?_
  unfold result
  refine congrArg₂ (summedAt m c) (Fin.ext ?_) (Fin.ext ?_)
  · exact ((win0_11.rect_emb_val t y 0).trans (by rw [e.1]; rfl)).symm
  · exact ((win0_11.rect_emb_val t y 1).trans (by rw [e.2]; show 0 * 2048 + (y 1).val = (y 1).val; omega)).symm

theorem flushed_normed (c : Dev nD) (t : Fin cfg0.N) :
    (dats m 0 c).flushed 12 t = ((cfg0.win 12).blk t).view.read (Elt Ideal) (normed m c) := by
  have e := index12 t
  rw [Value.flushed12, out12]
  funext y
  show k0_pay1 (sumBlock m c t) (iblk m c 8 t) (iblk m c 9 t) (iblk m c 10 t) (y : S512x2048.Idx) = normed m c ((win0_12.rect t).emb y)
  refine ((congrArg (k0_pay1 (sumBlock m c t) (iblk m c 8 t) (iblk m c 9 t) (iblk m c 10 t)) (ix2_eta y).symm).trans
    (renorm_value m c t (y 0) (y 1))).trans ?_
  unfold normed
  refine congrArg₂ (renormed _ _ _ _ _ _ _ _ _) (Fin.ext ?_) (Fin.ext ?_)
  · exact ((win0_12.rect_emb_val t y 0).trans (by rw [e.1]; rfl)).symm
  · exact ((win0_12.rect_emb_val t y 1).trans (by rw [e.2]; show 0 * 2048 + (y 1).val = (y 1).val; omega)).symm

/-- The step whose blocks hold row `i 0`. -/
abbrev stepOf (i : S8192x2048.Idx) : Fin cfg0.N :=
  ⟨(i 0).val / 512, by have h0 : (i 0).val < 8192 := (i 0).isLt; show _ < 16; omega⟩

theorem cover11 (i : S8192x2048.Idx) : i ∈ ((cfg0.win 11).blk (stepOf i)).view.set := by
  have h1 : (i 1).val < 2048 := (i 1).isLt
  show i ∈ ((View.whole main_v11_0).slice (win0_11.rect (stepOf i))).set
  rw [View.set_slice_whole, Rect.mem_set_unit]
  have e := index11 (stepOf i)
  intro a
  match a with
  | ⟨0, _⟩ =>
    show win0_11.index (stepOf i) 0 * 512 ≤ (i 0).val ∧ (i 0).val < win0_11.index (stepOf i) 0 * 512 + 512
    rw [e.1]; dsimp only; omega
  | ⟨1, _⟩ =>
    show win0_11.index (stepOf i) 1 * 2048 ≤ (i 1).val ∧ (i 1).val < win0_11.index (stepOf i) 1 * 2048 + 2048
    rw [e.2]; omega

theorem cover12 (i : S8192x2048.Idx) : i ∈ ((cfg0.win 12).blk (stepOf i)).view.set := by
  have h1 : (i 1).val < 2048 := (i 1).isLt
  show i ∈ ((View.whole main_v11_1).slice (win0_12.rect (stepOf i))).set
  rw [View.set_slice_whole, Rect.mem_set_unit]
  have e := index12 (stepOf i)
  intro a
  match a with
  | ⟨0, _⟩ =>
    show win0_12.index (stepOf i) 0 * 512 ≤ (i 0).val ∧ (i 0).val < win0_12.index (stepOf i) 0 * 512 + 512
    rw [e.1]; dsimp only; omega
  | ⟨1, _⟩ =>
    show win0_12.index (stepOf i) 1 * 2048 ≤ (i 1).val ∧ (i 1).val < win0_12.index (stepOf i) 1 * 2048 + 2048
    rw [e.2]; omega

theorem result_eq (c : Dev nD) : (dats m 0 c).arrAt 11 cfg0.N = result m c :=
  (dats m 0 c).arrAt_eq_of_cover 11 _ (fun t _ => flushed_result m c t) (fun i => ⟨stepOf i, flush0_11 (stepOf i), cover11 i⟩)

theorem normed_eq (c : Dev nD) : (dats m 0 c).arrAt 12 cfg0.N = normed m c :=
  (dats m 0 c).arrAt_eq_of_cover 12 _ (fun t _ => flushed_normed m c t) (fun i => ⟨stepOf i, flush0_12 (stepOf i), cover12 i⟩)

end Cert.Proof.Outproj

end
-- ==== Proof.OutprojProof.lean ====
/-
  The claims about the output projection: it runs, its arguments end as they began and its counters at zero, and over the
  extended reals its two results are the reference's, at any arguments.
-/
module

public import proofs.«01_k».proof.Defs
public import proofs.«01_k».proof.Proof.OutprojValue
public import proofs.«01_k».proof.Proof.Gen.Kernel4
public import proofs.«01_k».proof.Proof.Gen.Kernel4.Frame
public import proofs.«01_k».proof.Proof.Gen.Reference4Ideal.Run
public import Idealize.ShloMosaic.Lib.Pipeline.ValueKit.Tiles

@[expose] public section

set_option maxRecDepth 16384

noncomputable section

namespace Cert.Reference4Ideal.Outproj

open Cert.Reference4Ideal Cert.Reference4Ideal.Gen Idealize.ShloMosaic Idealize.ShloMosaic.TcCoe
open Cert.Proof.Outproj (headScale headNormed heads gains memory summed renormed)

/-- The two directions added, a row of four heads for each position. -/
def both (hf hb : FVec Ideal S4x8192x256 .f32) : FVec Ideal S8192x4x256 .f32 :=
  transpose S8192x4x256 [1, 0, 2] (addf hf hb) transposes_S4x8192x256_S8192x4x256_1_0_2

/-- Each head's 256 values normed, times the gains. -/
def normedHeads (s : FVec Ideal S8192x4x256 .f32) (gm : FVec Ideal S4x256 .f32) : FVec Ideal S8192x4x256 .f32 :=
  mulf (mulf s (broadcastInDim S8192x4x256 ![0, 1, 2] bcast_S8192x4x1_S8192x4x256_0_1_2
      (Host.rsqrt (addf (Host.divf (broadcastInDim S8192x4x1 ![0, 1] bcast_S8192x4_S8192x4x1_0_1
          (Host.reduceAdd (mulf s s) (constant S_ .f32 0x00000000#32) reducesTo_S8192x4x256_S8192x4_d2 h_S_))
          (broadcastInDim S8192x4x1 ![] bcast_S_S8192x4x1 (constant S_ .f32 0x43800000#32)))
        (broadcastInDim S8192x4x1 ![] bcast_S_S8192x4x1 (constant S_ .f32 0x358637BD#32))))))
    (broadcastInDim S8192x4x256 ![0, 1, 2] bcast_S1x4x256_S8192x4x256_0_1_2
      (broadcastInDim S1x4x256 ![1, 2] bcast_S4x256_S1x4x256_1_2 gm))

/-- The heads side by side, times the gates' logistic. -/
def gated (om : FVec Ideal S8192x1024 .f32) (s : FVec Ideal S8192x4x256 .f32) : FVec Ideal S8192x1024 .f32 :=
  mulf (Host.divf (broadcastInDim S8192x1024 ![] bcast_S_S8192x1024 (constant S_ .f32 0x3F800000#32))
      (addf (broadcastInDim S8192x1024 ![] bcast_S_S8192x1024 (constant S_ .f32 0x3F800000#32)) (Host.exp (Host.negf om))))
    (shapeCast S8192x1024 s shapeCasts_S8192x4x256_S8192x1024)

/-- Attention and memory side by side, times the weights. -/
def mixed (att ml : FVec Ideal S8192x1024 .f32) (w : FVec Ideal S2048x2048 .f32) : FVec Ideal S8192x2048 .f32 :=
  Host.dotGeneral dot_S8192x2048_S2048x2048_S8192x2048_1_0_0_1_n_n none
    (concatenate S8192x2048 1 [⟨S8192x1024, att⟩, ⟨S8192x1024, ml⟩] concatenates_S8192x1024_S8192x1024_S8192x2048_d1) w

/-- The input plus the gated product. -/
def added (x : FVec Ideal S8192x2048 .f32) (md : FVec Ideal S1x12288 .f32) (y : FVec Ideal S8192x2048 .f32) : FVec Ideal S8192x2048 .f32 :=
  addf x (mulf (broadcastInDim S8192x2048 ![0, 1] bcast_S1x2048_S8192x2048_0_1
    (extractStridedSlice S1x2048 ![0, 4096] md slices_S1x12288_S1x2048_0_4096)) y)

/-- The rows' modulated norm. -/
def rows (x : FVec Ideal S8192x2048 .f32) (g : FVec Ideal S1x2048 .f32) (md : FVec Ideal S1x12288 .f32) : FVec Ideal S8192x2048 .bf16 :=
  truncf .bf16 (addf (mulf (mulf (mulf x (broadcastInDim S8192x2048 ![0, 1] bcast_S8192x1_S8192x2048_0_1
        (Host.rsqrt (addf (Host.divf (broadcastInDim S8192x1 ![0] bcast_S8192_S8192x1_0
            (Host.reduceAdd (mulf x x) (constant S_ .f32 0x00000000#32) reducesTo_S8192x2048_S8192_d1 h_S_))
            (broadcastInDim S8192x1 ![] bcast_S_S8192x1 (constant S_ .f32 0x45000000#32)))
          (broadcastInDim S8192x1 ![] bcast_S_S8192x1 (constant S_ .f32 0x358637BD#32))))))
      (broadcastInDim S8192x2048 ![0, 1] bcast_S1x2048_S8192x2048_0_1 g))
    (broadcastInDim S8192x2048 ![0, 1] bcast_S1x2048_S8192x2048_0_1 (addf (broadcastInDim S1x2048 ![] bcast_S_S1x2048 (constant S_ .f32 0x3F800000#32))
      (extractStridedSlice S1x2048 ![0, 8192] md slices_S1x12288_S1x2048_0_8192))))
    (broadcastInDim S8192x2048 ![0, 1] bcast_S1x2048_S8192x2048_0_1 (extractStridedSlice S1x2048 ![0, 6144] md slices_S1x12288_S1x2048_0_6144)))
    bitsLt_bf16_f32

theorem both_apply (hf hb : FVec Ideal S4x8192x256 .f32) (r : Fin 8192) (h : Fin 4) (d : Fin 256) :
    both hf hb (ix3 r h d) = hf (ix3 h r d) + hb (ix3 h r d) := by
  pointwise [both]

theorem normedHeads_apply (s : FVec Ideal S8192x4x256 .f32) (gm : FVec Ideal S4x256 .f32) (r : Fin 8192) (h : Fin 4) (d : Fin 256) :
    normedHeads s gm (ix3 r h d) = s (ix3 r h d) * headScale (fun e => s (ix3 r h e)) * gm (ix2 h d) := by
  unfold headScale
  pointwise [normedHeads]

theorem gated_apply (om : FVec Ideal S8192x1024 .f32) (s : FVec Ideal S8192x4x256 .f32) (r : Fin 8192) (k : Fin 1024) :
    gated om s (ix2 r k) = Ideal.logistic (om (ix2 r k)) * s (ix3 r ⟨k.val / 256, by omega⟩ ⟨k.val % 256, by omega⟩) := by
  unfold Ideal.logistic
  pointwise [gated]

theorem mixed_apply (att ml : FVec Ideal S8192x1024 .f32) (w : FVec Ideal S2048x2048 .f32) (r : Fin 8192) (n : Fin 2048) :
    mixed att ml w (ix2 r n) = ∑ k : Fin 2048, (if h : k.val < 1024 then att (ix2 r ⟨k.val, h⟩) else ml (ix2 r ⟨k.val - 1024, by omega⟩))
      * w (ix2 k n) := by
  pointwise [mixed]

/-- The sum over both, half by half. -/
theorem mixed_halves (att ml : FVec Ideal S8192x1024 .f32) (w : FVec Ideal S2048x2048 .f32) (r : Fin 8192) (n : Fin 2048) :
    mixed att ml w (ix2 r n) = ∑ k : Fin 1024, att (ix2 r k) * w (ix2 ⟨k.val, by omega⟩ n)
      + ∑ k : Fin 1024, ml (ix2 r k) * w (ix2 ⟨1024 + k.val, by omega⟩ n) := by
  rw [mixed_apply, Fin.sum_univ_two_halves 1024 1024 rfl]
  refine congrArg₂ (· + ·) (Finset.sum_congr rfl fun k _ => ?_) (Finset.sum_congr rfl fun k _ => ?_)
  · rw [dif_pos (by show k.val < 1024; exact k.isLt)]
  · rw [dif_neg (by dsimp only; omega)]
    exact congrArg (fun q => ml (ix2 r q) * _) (Fin.ext (by dsimp only; omega))

theorem added_apply (x : FVec Ideal S8192x2048 .f32) (md : FVec Ideal S1x12288 .f32) (y : FVec Ideal S8192x2048 .f32)
    (r : Fin 8192) (n : Fin 2048) : added x md y (ix2 r n) = x (ix2 r n) + md (ix2 0 ⟨4096 + n.val, by omega⟩) * y (ix2 r n) := by
  pointwise [added]

theorem rows_apply (x : FVec Ideal S8192x2048 .f32) (g : FVec Ideal S1x2048 .f32) (md : FVec Ideal S1x12288 .f32)
    (r : Fin 8192) (d : Fin 2048) : rows x g md (ix2 r d)
      = Cert.Proof.Norm.modulated (fun e => x (ix2 r e)) (fun e => g (ix2 0 e)) (fun e => md (ix2 0 ⟨8192 + e.val, by omega⟩))
        (fun e => md (ix2 0 ⟨6144 + e.val, by omega⟩)) d := by
  unfold Cert.Proof.Norm.modulated Cert.Proof.Norm.scale
  pointwise [rows]

/-- The gated memory, the heads side by side. -/
theorem memory_apply (hf hb : FVec Ideal S4x8192x256 .f32) (om : FVec Ideal S8192x1024 .f32) (gm : FVec Ideal S4x256 .f32)
    (r : Fin 8192) (k : Fin 1024) : gated om (normedHeads (both hf hb) gm) (ix2 r k) = memory hf hb om gm r k := by
  rw [gated_apply, normedHeads_apply, both_apply]
  unfold memory headNormed heads gains
  refine congrArg (fun q => Ideal.logistic (om (ix2 r k)) * (_ * headScale q * _)) (funext fun e => ?_)
  rw [both_apply]
  have a : (k.val / 256 * 256 + e.val) / 256 = k.val / 256 := by omega
  have b : (k.val / 256 * 256 + e.val) % 256 = e.val := by omega
  simp only [a, b]

variable (att : FVec Ideal S8192x1024 .f32) (hf hb : FVec Ideal S4x8192x256 .f32) (om : FVec Ideal S8192x1024 .f32)
    (x : FVec Ideal S8192x2048 .f32) (gm : FVec Ideal S4x256 .f32) (w : FVec Ideal S2048x2048 .f32) (md : FVec Ideal S1x12288 .f32)
    (g : FVec Ideal S1x2048 .f32)

/-- The reference's first result as one term. -/
abbrev sum : FVec Ideal S8192x2048 .f32 := added x md (mixed att (gated om (normedHeads (both hf hb) gm)) w)

theorem sum_apply (r : Fin 8192) (n : Fin 2048) : sum att hf hb om x gm w md (ix2 r n) = summed att hf hb om x gm w md r n := by
  unfold sum summed
  rw [added_apply, mixed_halves]
  simp only [memory_apply]

theorem normed_apply (r : Fin 8192) (n : Fin 2048) :
    rows (sum att hf hb om x gm w md) g md (ix2 r n) = renormed att hf hb om x gm w md g r n := by
  rw [rows_apply]
  unfold renormed
  exact congrArg (fun q => Cert.Proof.Norm.modulated q _ _ _ n) (funext fun e => sum_apply att hf hb om x gm w md r e)

end Cert.Reference4Ideal.Outproj

namespace Cert.Proof.Outproj

open Idealize.ShloMosaic Idealize.ShloMosaic.TcCoe Idealize.SL.Sem

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem preserves : Cert.preserves_Kernel4_Kernel4Ideal := trivial

theorem algebraic : Cert.algebraic_Kernel4Ideal_Reference4Ideal := by
  intro m g m' g' _ hargs
  refine ⟨fun c => result m c, fun c => normed m c, (θ_run Cert.Kernel4Ideal.defs _ _).mono
    (fun r h c => ⟨(h c).1.trans (result_eq m c), (h c).2.1.trans (normed_eq m c), (h c).2.2⟩)
    (Cert.Kernel4Ideal.Value.run_blocks m g), ?_⟩
  refine (θ_run Cert.Reference4Ideal.defs _ _).mono (fun r h c => ⟨(h c).1.trans ?_, (h c).2.1.trans ?_, (h c).2.2⟩)
    (Cert.Reference4Ideal.Value.run (F := Ideal) m' g')
  · obtain ⟨a0, a1, a2, a3, a4, a5, a6, a7, a8⟩ := hargs c
    rw [a0, a1, a2, a3, a4, a5, a6, a7]
    show Cert.Reference4Ideal.Outproj.sum _ _ _ _ _ _ _ _ = result m c
    funext i
    exact (congrArg _ (ix2_eta i).symm).trans (Cert.Reference4Ideal.Outproj.sum_apply _ _ _ _ _ _ _ _ (i 0) (i 1))
  · obtain ⟨a0, a1, a2, a3, a4, a5, a6, a7, a8⟩ := hargs c
    unfold Cert.Reference4Ideal.Value.res_main_v52
    rw [a0, a1, a2, a3, a4, a5, a6, a7, a8]
    show Cert.Reference4Ideal.Outproj.rows (Cert.Reference4Ideal.Outproj.sum _ _ _ _ _ _ _ _) _ _ = normed m c
    funext i
    exact (congrArg _ (ix2_eta i).symm).trans (Cert.Reference4Ideal.Outproj.normed_apply _ _ _ _ _ _ _ _ _ (i 0) (i 1))

end Cert.Proof.Outproj

end
-- ==== Proof.ModValue.lean ====
/-
  The modulation over the extended reals. The first step writes the gated conditioning vector once, repeated along 128
  lanes; every step multiplies it with its 1024 columns of the weights, 128 at a time, and adds the bias; so the result
  is one function of the call's arguments.
-/
module

public import proofs.«01_k».proof.Proof.Gen.Kernel5Ideal.Value
public import Idealize.ShloMosaic.Lib.Pipeline.Value
public import Idealize.ShloMosaic.Lib.Pipeline.ValueKit
public import Idealize.ShloMosaic.Lib.Pointwise

@[expose] public section

set_option maxRecDepth 16384

noncomputable section

namespace Cert.Proof.Modulation

open Cert.Kernel5Ideal Cert.Kernel5Ideal.Gen
open Idealize.ShloMosaic Idealize.ShloMosaic.TcCoe Idealize.SL.Sem
open Idealize.ShloMosaic.Pipeline (Dat)

/-- A number times its logistic. -/
def gated (x : EReal) : EReal := x * Ideal.logistic x

/-- The modulation at column `n`. -/
def modulation (v : FVec Ideal S1x2048 .f32) (w : FVec Ideal S2048x12288 .f32) (b : FVec Ideal S1x12288 .f32) (n : Fin 12288) : EReal :=
  (∑ d : Fin 2048, w (ix2 d n) * gated (v (ix2 0 d))) + b (ix2 0 n)

/-- An index of one row is its column's. -/
theorem one_row {n : ℕ} (x : Shape.Idx ⟨2, ![1, n]⟩) : x = ix2 0 (x 1) :=
  funext fun a => match a with
    | ⟨0, _⟩ => Subsingleton.elim (α := Fin 1) _ _
    | ⟨1, _⟩ => rfl

/-! ## A step's block -/

section Block

/-- The lane of a block's column. -/
abbrev lane (n : Fin 1024) : Fin 128 := ⟨n.val % 128, Nat.mod_lt _ (by norm_num)⟩

/-- A block's column `n`, of the repeated vector, the block's weights and its bias. -/
def column (s : Vec Ideal S2048x128 .f32) (w : Vec Ideal S2048x1024 .f32) (b : Vec Ideal S1x1024 .f32) (n : Fin 1024) : EReal :=
  (∑ d : Fin 2048, w (ix2 d n) * s (ix2 d (lane n))) + b (ix2 0 n)

theorem kept_pay_apply (x : Vec Ideal S2048x1 .f32) (d : Fin 2048) (l : Fin 128) : k0_pay2 x (ix2 d l) = gated (x (ix2 d 0)) := by
  unfold gated
  pointwise [k0_pay2]

theorem lanes_apply (s w : Vec Ideal S2048x128 .f32) (b : Vec Ideal S1x128 .f32) (l : Fin 128) :
    k0_pay3 s w b (ix2 0 l) = (∑ d : Fin 2048, w (ix2 d l) * s (ix2 d l)) + b (ix2 0 l) := by
  pointwise [k0_pay3]

/-- The 128 columns from `o` on. -/
theorem lanes_value (o : ℕ) (ho : o % 128 = 0) (hw : ∀ a, ![0, o] a + S2048x128.size a ≤ S2048x1024.size a)
    (hb : ∀ a, ![0, o] a + S1x128.size a ≤ S1x1024.size a) (s : Vec Ideal S2048x128 .f32) (w : Vec Ideal S2048x1024 .f32)
    (b : Vec Ideal S1x1024 .f32) (x : S1x128.Idx) :
    k0_pay3 s (View.ld w (Rect.unit (s := S2048x1024) ![0, o] S2048x128.size hw))
      (View.ld b (Rect.unit (s := S1x1024) ![0, o] S1x128.size hb)) x
      = column s w b ((Rect.unit (s := S1x1024) ![0, o] S1x128.size hb).emb x 1) := by
  have hx := one_row x
  have h1 : (x 1).val < 128 := (x 1).isLt
  have hn : o + (x 1).val < 1024 := by have h : o + 128 ≤ 1024 := hb 1; omega
  have e : (Rect.unit (s := S1x1024) ![0, o] S1x128.size hb).emb x 1 = (⟨o + (x 1).val, hn⟩ : Fin 1024) :=
    Fin.ext (by
      show ((Rect.unit (s := S1x1024) ![0, o] S1x128.size hb).emb x 1).val = o + (x 1).val
      exact Rect.idx_unit_val (s := S1x1024) ![0, o] S1x128.size hb x 1)
  rw [e]
  refine ((congrArg _ hx).trans (lanes_apply _ _ _ (x 1))).trans ?_
  unfold column
  refine congrArg₂ (· + ·) (Finset.sum_congr rfl fun d _ => congrArg₂ (· * ·) ?_ ?_) ?_
  · refine congrArg w (funext fun a => Fin.ext ?_)
    match a with
    | ⟨0, _⟩ => exact (Rect.idx_unit_val _ _ hw _ 0).trans (Nat.zero_add _)
    | ⟨1, _⟩ => exact Rect.idx_unit_val _ _ hw _ 1
  · refine congrArg (fun q => s (ix2 d q)) (Fin.ext ?_)
    show (x 1).val = (o + (x 1).val) % 128
    omega
  · refine congrArg b (funext fun a => Fin.ext ?_)
    match a with
    | ⟨0, _⟩ => exact (Rect.idx_unit_val _ _ hb _ 0).trans (Nat.zero_add _)
    | ⟨1, _⟩ => exact Rect.idx_unit_val _ _ hb _ 1

/-- The eight pieces a step writes, last first. -/
def pieces (s : Vec Ideal S2048x128 .f32) (w : Vec Ideal S2048x1024 .f32) (b : Vec Ideal S1x1024 .f32) :
    List (View.Piece (Elt Ideal) S1x1024 .f32) :=
  [⟨Rect.unit ![0, 896] ![1, 128] inb_S1x1024_S1x128_0_896, k0_pay1
      (k0_pay11 s (View.ld w (Rect.unit ![0, 896] ![2048, 128] inb_S2048x1024_S2048x128_0_896)))
      (View.ld b (Rect.unit ![0, 896] ![1, 128] inb_S1x1024_S1x128_0_896))⟩,
    ⟨Rect.unit ![0, 768] ![1, 128] inb_S1x1024_S1x128_0_768, k0_pay10 s
      (View.ld w (Rect.unit ![0, 768] ![2048, 128] inb_S2048x1024_S2048x128_0_768))
      (View.ld b (Rect.unit ![0, 768] ![1, 128] inb_S1x1024_S1x128_0_768))⟩,
    ⟨Rect.unit ![0, 640] ![1, 128] inb_S1x1024_S1x128_0_640, k0_pay9 s
      (View.ld w (Rect.unit ![0, 640] ![2048, 128] inb_S2048x1024_S2048x128_0_640))
      (View.ld b (Rect.unit ![0, 640] ![1, 128] inb_S1x1024_S1x128_0_640))⟩,
    ⟨Rect.unit ![0, 512] ![1, 128] inb_S1x1024_S1x128_0_512, k0_pay8 s
      (View.ld w (Rect.unit ![0, 512] ![2048, 128] inb_S2048x1024_S2048x128_0_512))
      (View.ld b (Rect.unit ![0, 512] ![1, 128] inb_S1x1024_S1x128_0_512))⟩,
    ⟨Rect.unit ![0, 384] ![1, 128] inb_S1x1024_S1x128_0_384, k0_pay7
      (k0_pay6 s (View.ld w (Rect.unit ![0, 384] ![2048, 128] inb_S2048x1024_S2048x128_0_384)))
      (View.ld b (Rect.unit ![0, 384] ![1, 128] inb_S1x1024_S1x128_0_384))⟩,
    ⟨Rect.unit ![0, 256] ![1, 128] inb_S1x1024_S1x128_0_256, k0_pay5 s
      (View.ld w (Rect.unit ![0, 256] ![2048, 128] inb_S2048x1024_S2048x128_0_256))
      (View.ld b (Rect.unit ![0, 256] ![1, 128] inb_S1x1024_S1x128_0_256))⟩,
    ⟨Rect.unit ![0, 128] ![1, 128] inb_S1x1024_S1x128_0_128, k0_pay4 s
      (View.ld w (Rect.unit ![0, 128] ![2048, 128] inb_S2048x1024_S2048x128_0_128))
      (View.ld b (Rect.unit ![0, 128] ![1, 128] inb_S1x1024_S1x128_0_128))⟩,
    ⟨Rect.unit ![0, 0] ![1, 128] inb_S1x1024_S1x128_0_0, k0_pay3 s
      (View.ld w (Rect.unit ![0, 0] ![2048, 128] inb_S2048x1024_S2048x128_0_0))
      (View.ld b (Rect.unit ![0, 0] ![1, 128] inb_S1x1024_S1x128_0_0))⟩]

theorem pieces_value (s : Vec Ideal S2048x128 .f32) (w : Vec Ideal S2048x1024 .f32) (b : Vec Ideal S1x1024 .f32) (y : S1x1024.Idx) :
    View.canon (pieces s w b) y = column s w b (y 1) := by
  refine View.canon_apply_of_pieces (Val := Elt Ideal) (e := .f32) (fun y : S1x1024.Idx => column s w b (y 1)) _ (fun p hp x => ?_) y
    (View.cover_of_tiledL (pieces s w b) S1x128.size (by sl_kernel_rfl) y)
  simp only [pieces, List.mem_cons, List.not_mem_nil, or_false] at hp
  rcases hp with rfl | rfl | rfl | rfl | rfl | rfl | rfl | rfl
  · exact lanes_value 896 (by norm_num) inb_S2048x1024_S2048x128_0_896 inb_S1x1024_S1x128_0_896 s w b x
  · exact lanes_value 768 (by norm_num) inb_S2048x1024_S2048x128_0_768 inb_S1x1024_S1x128_0_768 s w b x
  · exact lanes_value 640 (by norm_num) inb_S2048x1024_S2048x128_0_640 inb_S1x1024_S1x128_0_640 s w b x
  · exact lanes_value 512 (by norm_num) inb_S2048x1024_S2048x128_0_512 inb_S1x1024_S1x128_0_512 s w b x
  · exact lanes_value 384 (by norm_num) inb_S2048x1024_S2048x128_0_384 inb_S1x1024_S1x128_0_384 s w b x
  · exact lanes_value 256 (by norm_num) inb_S2048x1024_S2048x128_0_256 inb_S1x1024_S1x128_0_256 s w b x
  · exact lanes_value 128 (by norm_num) inb_S2048x1024_S2048x128_0_128 inb_S1x1024_S1x128_0_128 s w b x
  · exact lanes_value 0 (by norm_num) inb_S2048x1024_S2048x128_0_0 inb_S1x1024_S1x128_0_0 s w b x

end Block

variable (m : (ℓ : Loc nD τ sig) → Buf (Elt Ideal) ℓ)

section Runs

variable (c : Dev nD) (t : Fin cfg0.N)

/-- The repeated vector as the step before left it. -/
abbrev before : Vec Ideal S2048x128 .f32 := (outsAt0 m c (t.val - 1) (Nat.lt_of_le_of_lt (Nat.sub_le _ _) t.isLt)).2

theorem first (h0 : t.val % 12 = 0) : (outsAt0 m c t.val t.isLt).1
    = View.canon (pieces (k0_pay2 (iblk m c 0 t)) (iblk m c 1 t) (iblk m c 2 t)) := by
  rw [outsAt0_A m c t h0]
  frame_out
  rfl

theorem first_kept (h0 : t.val % 12 = 0) : (outsAt0 m c t.val t.isLt).2 = k0_pay2 (iblk m c 0 t) := by
  rw [outsAt0_A m c t h0]
  frame_out

theorem later (h0 : ¬t.val % 12 = 0) : (outsAt0 m c t.val t.isLt).1
    = View.canon (pieces (before m c t) (iblk m c 1 t) (iblk m c 2 t)) := by
  rw [outsAt0_B m c t h0]
  frame_out
  exact congrArg (fun s => View.canon (pieces s (iblk m c 1 t) (iblk m c 2 t))) (Memref.IsWhole.read_unread _ _)

theorem later_kept (h0 : ¬t.val % 12 = 0) : (outsAt0 m c t.val t.isLt).2 = before m c t := by
  rw [outsAt0_B m c t h0]
  rfl

end Runs

/-! ## Where the blocks lie -/

theorem entry0 (c : Dev nD) : V m c main_v0 = shapeCast S2048x1 (m ((c : Thread nD τ).loc main_arg0)) shapeCasts_S1x2048_S2048x1 := by
  show StableHlo.after (hostOps0 ++ []) _ (Proc.devRef .tc main_v0) = _
  simp only [List.append_nil]
  after_results <;> rfl

theorem turned_apply (v : FVec Ideal S1x2048 .f32) (d : Fin 2048) :
    shapeCast S2048x1 v shapeCasts_S1x2048_S2048x1 (ix2 d 0) = v (ix2 0 d) := by
  pointwise []

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = 0 ∧ win0_1.index t 1 = t.val :=
  (by decide +kernel : ∀ t : Fin grid0.N, win0_1.index t 0 = 0 ∧ win0_1.index t 1 = t.val)
theorem index2 : ∀ t : Fin cfg0.N, win0_2.index t 0 = 0 ∧ win0_2.index t 1 = t.val :=
  (by decide +kernel : ∀ t : Fin grid0.N, win0_2.index t 0 = 0 ∧ win0_2.index t 1 = t.val)
theorem index3 : ∀ t : Fin cfg0.N, win0_3.index t 0 = 0 ∧ win0_3.index t 1 = t.val :=
  (by decide +kernel : ∀ t : Fin grid0.N, win0_3.index t 0 = 0 ∧ win0_3.index t 1 = t.val)

theorem points (t : Fin cfg0.N) : t.val < 12 := t.isLt

/-- The column of step `t`'s block. -/
abbrev columnIn (t : Fin cfg0.N) (n : Fin 1024) : Fin 12288 := ⟨t.val * 1024 + n.val, by have := points t; have := n.isLt; omega⟩

section Blocks

variable (c : Dev nD) (t : Fin cfg0.N)

theorem block0 (d : Fin 2048) : iblk m c 0 t (ix2 d 0) = m ((c : Thread nD τ).loc main_arg0) (ix2 0 d) := by
  have e := index0 t
  refine (congrArg (V m c main_v0) (funext fun x => Fin.ext ?_)).trans ((congrFun (entry0 m c) _).trans (turned_apply _ d))
  match x with
  | ⟨0, _⟩ => exact (win0_0.rect_emb_val t _ 0).trans (by rw [e.1]; show 0 * 2048 + d.val = d.val; omega)
  | ⟨1, _⟩ => exact (win0_0.rect_emb_val t _ 1).trans (by rw [e.2]; rfl)

theorem block1 (d : Fin 2048) (n : Fin 1024) :
    iblk m c 1 t (ix2 d n) = m ((c : Thread nD τ).loc main_arg1) (ix2 d (columnIn t n)) := by
  have e := index1 t
  refine (congrArg (V m c main_arg1) (funext fun x => Fin.ext ?_)).trans (congrFun (V_main_arg1 m c) _)
  match x with
  | ⟨0, _⟩ => exact (win0_1.rect_emb_val t _ 0).trans (by rw [e.1]; show 0 * 2048 + d.val = d.val; omega)
  | ⟨1, _⟩ => exact (win0_1.rect_emb_val t _ 1).trans (by rw [e.2]; rfl)

theorem block2 (n : Fin 1024) : iblk m c 2 t (ix2 0 n) = m ((c : Thread nD τ).loc main_arg2) (ix2 0 (columnIn t n)) := by
  have e := index2 t
  refine (congrArg (V m c main_arg2) (funext fun x => Fin.ext ?_)).trans (congrFun (V_main_arg2 m c) _)
  match x with
  | ⟨0, _⟩ => exact (win0_2.rect_emb_val t _ 0).trans (by rw [e.1]; rfl)
  | ⟨1, _⟩ => exact (win0_2.rect_emb_val t _ 1).trans (by rw [e.2]; rfl)

end Blocks

/-! ## The steps' values -/

section Kept

variable (c : Dev nD)

/-- After every step the kept array is the gated vector, repeated. -/
theorem kept_value : ∀ (n : ℕ) (h : n < cfg0.N) (d : Fin 2048) (l : Fin 128),
    ((outsAt0 m c n h).2 (ix2 d l) : EReal) = gated (m ((c : Thread nD τ).loc main_arg0) (ix2 0 d))
  | 0, h, d, l => by
    refine (congrFun (first_kept m c ⟨0, h⟩ rfl) _).trans ((kept_pay_apply _ d l).trans ?_)
    exact congrArg gated (block0 m c ⟨0, h⟩ d)
  | n + 1, h, d, l => by
    have hn : n + 1 < 12 := h
    refine (congrFun (later_kept m c ⟨n + 1, h⟩ (by show ¬(n + 1) % 12 = 0; omega)) _).trans ?_
    exact kept_value n (by omega) d l

/-- The block of step `t`. -/
theorem block_value (t : Fin cfg0.N) (n : Fin 1024) : ((outsAt0 m c t.val t.isLt).1 (ix2 0 n) : EReal)
    = modulation (m ((c : Thread nD τ).loc main_arg0)) (m ((c : Thread nD τ).loc main_arg1)) (m ((c : Thread nD τ).loc main_arg2))
      (columnIn t n) := by
  have ht := points t
  by_cases h0 : t.val % 12 = 0
  · refine (congrFun (first m c t h0) _).trans ((pieces_value _ _ _ _).trans ?_)
    refine congrArg₂ (· + ·) (Finset.sum_congr rfl fun d _ => congrArg₂ (· * ·) (block1 m c t d n) ?_) (block2 m c t n)
    exact (kept_pay_apply _ d _).trans (congrArg gated (block0 m c t d))
  · refine (congrFun (later m c t h0) _).trans ((pieces_value _ _ _ _).trans ?_)
    exact congrArg₂ (· + ·) (Finset.sum_congr rfl fun d _ => congrArg₂ (· * ·) (block1 m c t d n) (kept_value m c _ _ d _))
      (block2 m c t n)

end Kept

/-! ## The result -/

/-- The whole modulation. -/
def result (c : Dev nD) : FVec Ideal S1x12288 .f32 := fun i =>
  modulation (m ((c : Thread nD τ).loc main_arg0)) (m ((c : Thread nD τ).loc main_arg1)) (m ((c : Thread nD τ).loc main_arg2)) (i 1)

theorem flushed_result (c : Dev nD) (t : Fin cfg0.N) :
    (dats m 0 c).flushed 3 t = ((cfg0.win 3).blk t).view.read (Elt Ideal) (result m c) := by
  have e := index3 t
  rw [Value.flushed3]
  funext y
  show (outsAt0 m c t.val t.isLt).1 (y : S1x1024.Idx) = result m c ((win0_3.rect t).emb y)
  have hy : y = ix2 0 (y 1) := one_row y
  refine ((congrArg (outsAt0 m c t.val t.isLt).1 hy).trans (block_value m c t (y 1))).trans ?_
  refine congrArg (modulation _ _ _) (Fin.ext ?_)
  exact ((win0_3.rect_emb_val t y 1).trans (by rw [e.2]; rfl)).symm

theorem result_eq (c : Dev nD) : (dats m 0 c).arrAt 3 cfg0.N = result m c :=
  (dats m 0 c).arrAt_eq_of_cover 3 _ (fun t _ => flushed_result m c t) (fun i => (Value.covered_iff3 i).2
    ⟨Nat.zero_le _, (i 0).isLt, Nat.zero_le _, (i 1).isLt⟩)

end Cert.Proof.Modulation
end
-- ==== Proof.ModProof.lean ====
/-
  The claims about the modulation: it runs, its arguments end as they began and its counters at zero, and over the
  extended reals its result is the reference's, at any arguments.
-/
module

public import proofs.«01_k».proof.Defs
public import proofs.«01_k».proof.Proof.ModValue
public import proofs.«01_k».proof.Proof.Gen.Kernel5
public import proofs.«01_k».proof.Proof.Gen.Kernel5.Frame
public import proofs.«01_k».proof.Proof.Gen.Reference5Ideal.Run

@[expose] public section

set_option maxRecDepth 16384

noncomputable section

namespace Cert.Reference5Ideal.Modulation

open Cert.Reference5Ideal Cert.Reference5Ideal.Gen Idealize.ShloMosaic Idealize.ShloMosaic.TcCoe
open Cert.Proof.Modulation (gated modulation one_row)

/-- The vector times its logistic. -/
def gatedVec (v : FVec Ideal S1x2048 .f32) : FVec Ideal S1x2048 .f32 :=
  mulf v (Host.divf (broadcastInDim S1x2048 ![] bcast_S_S1x2048 (constant S_ .f32 0x3F800000#32))
    (addf (broadcastInDim S1x2048 ![] bcast_S_S1x2048 (constant S_ .f32 0x3F800000#32)) (Host.exp (Host.negf v))))

theorem gatedVec_apply (v : FVec Ideal S1x2048 .f32) (d : Fin 2048) : gatedVec v (ix2 0 d) = gated (v (ix2 0 d)) := by
  unfold gated
  pointwise [gatedVec]
  rfl

/-- The reference's result at column `n`. -/
theorem result_apply (v : FVec Ideal S1x2048 .f32) (w : FVec Ideal S2048x12288 .f32) (b : FVec Ideal S1x12288 .f32) (n : Fin 12288) :
    addf (Host.dotGeneral dot_S1x2048_S2048x12288_S1x12288_1_0_0_1_n_n none (gatedVec v) w) b (ix2 0 n) = modulation v w b n := by
  generalize hg : gatedVec v = g
  unfold modulation
  simp only [← gatedVec_apply, hg]
  pointwise []
  simp only [mul_comm]

end Cert.Reference5Ideal.Modulation

namespace Cert.Proof.Modulation

open Idealize.ShloMosaic Idealize.ShloMosaic.TcCoe Idealize.SL.Sem

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves : Cert.preserves_Kernel5_Kernel5Ideal := trivial

theorem algebraic : Cert.algebraic_Kernel5Ideal_Reference5Ideal := by
  intro m g m' g' _ hargs
  refine ⟨fun c => result m c, (θ_run Cert.Kernel5Ideal.defs _ _).mono
    (fun r h c => ⟨(h c).1.trans (result_eq m c), (h c).2⟩)
    (Cert.Kernel5Ideal.Value.run_blocks m g), ?_⟩
  refine (θ_run Cert.Reference5Ideal.defs _ _).mono (fun r h c => ⟨(h c).1.trans ?_, (h c).2⟩)
    (Cert.Reference5Ideal.Value.run (F := Ideal) m' g')
  obtain ⟨a0, a1, a2⟩ := hargs c
  rw [a0, a1, a2]
  funext i
  exact (congrArg _ (one_row i)).trans (Cert.Reference5Ideal.Modulation.result_apply _ _ _ (i 1))

end Cert.Proof.Modulation

end
-- ==== Proof.Rotary.lean ====
/-
  Normed and rotated queries and keys, over the extended reals. A head's query has 192 values, its last 64 rotated in
  pairs (value 128 + l with value 160 + l) by an angle. A head's key has 128 values of its own and 64 that all heads share
  and that are rotated.
-/
module

public import Idealize.ShloMosaic.PureOps.Ideal

@[expose] public section

noncomputable section

namespace Cert.Proof.Rotary

open Idealize.ShloMosaic

/-- The reciprocal root of the mean square of 192 values with sum of squares `q`, a small constant added before the root. -/
def factor (q : EReal) : EReal := Ideal.rsqrt (q * ((1 / 192 : ℝ) : EReal) + Ideal.ofBits FTy.f32 0x358637BD#32)

/-- The values `p`, then zeros. -/
def padded {n k : ℕ} (p : Fin n → EReal) (j : Fin k) : EReal := if h : j.val < n then p ⟨j.val, h⟩ else 0

/-- A query of 192 values `n`, the last 64 rotated by the angles with cosines `c` and sines `s`, then zeros. -/
def turned (n : Fin 192 → EReal) (c s : Fin 32 → EReal) (j : Fin 256) : EReal :=
  if h : j.val < 128 then n ⟨j.val, by omega⟩
  else if h : j.val - 128 < 32 then
    n ⟨128 + (j.val - 128), by omega⟩ * c ⟨j.val - 128, h⟩ - n ⟨160 + (j.val - 128), by omega⟩ * s ⟨j.val - 128, h⟩
  else if h : j.val - 128 - 32 < 32 then
    n ⟨128 + (j.val - 128 - 32), by omega⟩ * s ⟨j.val - 128 - 32, h⟩ + n ⟨160 + (j.val - 128 - 32), by omega⟩ * c ⟨j.val - 128 - 32, h⟩
  else 0

/-- Lane `l` of the shared part of a key, `p` with gains `g`, as sum of three products: with itself, with the value 32 lanes
    below and with the value 32 lanes above. -/
def spun (p : Fin 128 → EReal) (g : Fin 256 → EReal) (c s : Fin 32 → EReal) (l : Fin 128) : EReal :=
  ((p l * g ⟨128 + l.val, by omega⟩ *
      if h : l.val < 32 then c ⟨l.val, h⟩ else if h : l.val - 32 < 32 then c ⟨l.val - 32, h⟩ else 0) +
    p ⟨(l.val + 128 - 32) % 128, by omega⟩ * g ⟨128 + (l.val + 128 - 32) % 128, by omega⟩ *
      if h : l.val < 32 then 0 else if h : l.val - 32 < 32 then s ⟨l.val - 32, h⟩ else 0) +
  p ⟨(l.val + 128 - 96) % 128, by omega⟩ * g ⟨128 + (l.val + 128 - 96) % 128, by omega⟩ *
    if h : l.val < 32 then 0 - s ⟨l.val, h⟩ else if h : l.val - 32 < 32 then 0 else 0

/-- A key: 128 values `k` normed with gains `g`, then the shared lanes `rot` times the norm's factor. -/
def joined (k rot : Fin 128 → EReal) (g : Fin 256 → EReal) (q : EReal) (j : Fin 256) : EReal :=
  if h : j.val < 128 then k ⟨j.val, h⟩ * factor ((∑ i, k i * k i) + q) * g j
  else rot ⟨j.val - 128, by omega⟩ * factor ((∑ i, k i * k i) + q)

end Cert.Proof.Rotary

end
-- ==== Proof.PrepTile.lean ====
/- One grid point of the call that prepares queries, keys and values.

   The body holds 1024 rows. From the query latents it makes the queries of eight heads, transposed, from the key and
   value latent the heads' keys and, in four chunks each, their transposed values. This module names what is done for one
   head, shows that what the body stores is made of it, and reads it at an index over the extended reals. -/
module

public import proofs.«01_k».proof.Proof.Gen.Kernel6Ideal.Value
public import proofs.«01_k».proof.Proof.Rotary
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.Kernel6Ideal.Prep

open Cert.Kernel6Ideal Cert.Kernel6Ideal.Gen Cert.Proof.Rotary Idealize.ShloMosaic Idealize.ShloMosaic.TcCoe

section Steps

variable {F : FTy → Type} [FloatOps F] [Named F]

theorem query_slices (h : ℕ) : S2048x1024.Slices ![256 * (h % 8), 0] S192x1024 := by
  refine ⟨rfl, fun a => ?_⟩
  match a with
  | ⟨0, _⟩ => show 256 * (h % 8) + 192 ≤ 2048; omega
  | ⟨1, _⟩ => exact Nat.le_refl 1024

theorem key_slices (h : ℕ) : S1024x1024.Slices ![0, 128 * (h % 8)] S1024x128 := by
  refine ⟨rfl, fun a => ?_⟩
  match a with
  | ⟨0, _⟩ => exact Nat.le_refl 1024
  | ⟨1, _⟩ => show 128 * (h % 8) + 128 ≤ 1024; omega

theorem value_slices (h b : ℕ) : S1024x1024.Slices ![128 * (h % 8), 256 * (b % 4)] S128x256 := by
  refine ⟨rfl, fun a => ?_⟩
  match a with
  | ⟨0, _⟩ => show 128 * (h % 8) + 128 ≤ 1024; omega
  | ⟨1, _⟩ => show 256 * (b % 4) + 256 ≤ 1024; omega

/-- The projected queries of head `h`. -/
def queryRows (A : FVec F S2048x1024 .f32) (h : ℕ) : FVec F S192x1024 .f32 :=
  extractStridedSlice S192x1024 ![256 * (h % 8), 0] A (query_slices h)

/-- The part of head `h`'s projected keys that isn't rotated. -/
def keyColumns (A : FVec F S1024x1024 .f32) (h : ℕ) : FVec F S1024x128 .f32 :=
  extractStridedSlice S1024x128 ![0, 128 * (h % 8)] A (key_slices h)

/-- Chunk `b` of head `h`'s projected values. -/
def valueTile (A : FVec F S1024x1024 .f32) (h b : ℕ) : FVec F S1x1x128x256 .bf16 :=
  shapeCast S1x1x128x256 (truncf .bf16 (extractStridedSlice S128x256 ![128 * (h % 8), 256 * (b % 4)] A (value_slices h b)) bitsLt_bf16_f32)
    shapeCasts_S128x256_S1x1x128x256

/-- A head's projected queries `u` normed, with gains `g`. -/
def normedQuery (u g : FVec F S192x1024 .f32) : FVec F S192x1024 .f32 :=
  mulf (mulf u (broadcastTo S192x1024 (rsqrt (addf (mulf (shapeCast S1x1024
    (multiReduction .add [0] S1024 (mulf u u) 0x00000000#32 reduces_S192x1024_S1024 (.inl rfl) rfl) shapeCasts_S1024_S1x1024)
    (broadcast S1x1024 (Named.named κ "inv_192" 0x3BAAAAAB#32))) (broadcast S1x1024 (Scalar.ofBits .f32 0x358637BD#32))))
    broadcasts_S1x1024_S192x1024)) g

/-- A head's normed queries rotated, beneath them rows of zeros. -/
def turnedQuery (n : FVec F S192x1024 .f32) (c s : FVec F S32x1024 .f32) : FVec F S1x256x1024 .bf16 :=
  shapeCast S1x256x1024 (truncf .bf16 (concatenate S256x1024 0
    [⟨S128x1024, extractStridedSlice S128x1024 ![0, 0] n slices_S192x1024_o0_0_S128x1024⟩,
     ⟨S32x1024, subf (mulf (extractStridedSlice S32x1024 ![128, 0] n slices_S192x1024_o128_0_S32x1024) c)
       (mulf (extractStridedSlice S32x1024 ![160, 0] n slices_S192x1024_o160_0_S32x1024) s)⟩,
     ⟨S32x1024, addf (mulf (extractStridedSlice S32x1024 ![128, 0] n slices_S192x1024_o128_0_S32x1024) s)
       (mulf (extractStridedSlice S32x1024 ![160, 0] n slices_S192x1024_o160_0_S32x1024) c)⟩,
     ⟨S64x1024, k0_pay10⟩] concatenates_S128x1024_S32x1024_S32x1024_S64x1024_S256x1024_d0) bitsLt_bf16_f32)
    shapeCasts_S256x1024_S1x256x1024

/-- What the body stores for a head's queries. -/
abbrev queryHead (A : FVec F S2048x1024 .f32) (c s : FVec F S32x1024 .f32) (g : FVec F S192x1024 .f32) (h : ℕ) :
    FVec F S1x256x1024 .bf16 := turnedQuery (normedQuery (queryRows A h) g) c s

/-- The reciprocal root of the mean square of a head's keys, from the part `k` that isn't rotated and the squares `q`
    of the part that is. -/
def keyScale (k : FVec F S1024x128 .f32) (q : FVec F S1024x1 .f32) : FVec F S1024x1 .f32 :=
  rsqrt (addf (mulf (addf (shapeCast S1024x1
    (multiReduction .add [1] S1024 (mulf k k) 0x00000000#32 reduces_S1024x128_S1024 (.inl rfl) rfl) shapeCasts_S1024_S1024x1) q)
    (broadcast S1024x1 (Named.named κ "inv_192" 0x3BAAAAAB#32))) (broadcast S1024x1 (Scalar.ofBits .f32 0x358637BD#32)))

/-- A head's keys: the part `k` normed with its gains, the rotated part `rot` times the norm's factor. -/
def joinedKey (k rot : FVec F S1024x128 .f32) (g : FVec F S1x256 .f32) (q : FVec F S1024x1 .f32) : FVec F S1x1024x256 .bf16 :=
  shapeCast S1x1024x256 (truncf .bf16 (concatenate S1024x256 1
    [⟨S1024x128, mulf (mulf k (broadcastTo S1024x128 (keyScale k q) broadcasts_S1024x1_S1024x128))
       (broadcastTo S1024x128 (extractStridedSlice S1x128 ![0, 0] g slices_S1x256_o0_0_S1x128) broadcasts_S1x128_S1024x128)⟩,
     ⟨S1024x128, mulf rot (broadcastTo S1024x128 (keyScale k q) broadcasts_S1024x1_S1024x128)⟩]
    concatenates_S1024x128_S1024x128_S1024x256_d1) bitsLt_bf16_f32) shapeCasts_S1024x256_S1x1024x256

/-- What the body stores for a head's keys. -/
abbrev keyHead (A : FVec F S1024x1024 .f32) (rot : FVec F S1024x128 .f32) (g : FVec F S1x256 .f32) (q : FVec F S1024x1 .f32) (h : ℕ) :
    FVec F S1x1024x256 .bf16 := joinedKey (keyColumns A h) rot g q

variable (x0 : Vec F S1024x512 .bf16) (x1 : Vec F S1024x256 .bf16) (x2 : Vec F S1024x128 .bf16) (x3 : Vec F S1x1024 .i32)
  (x4 : Vec F S32x1 .f32) (x5 : Vec F S1x512 .f32) (x6 : Vec F S1x256 .f32) (x7 : Vec F S2048x512 .bf16)
  (x8 : Vec F S256x1024 .bf16) (x9 : Vec F S1024x256 .bf16) (x10 : Vec F S192x1 .f32) (x11 : Vec F S1x256 .f32)

/-- The latent of the keys and values, normed. -/
abbrev latent : FVec F S1024x256 .bf16 := k0_pay2 (View.ld x1 r0_2) (View.ld x6 r0_3)

/-- The projected queries, the projected keys and the projected values. -/
abbrev projQ : FVec F S2048x1024 .f32 := k0_pay3 (View.ld x0 r0_0) (View.ld x5 r0_1) (View.ld x7 r0_4)
abbrev projK : FVec F S1024x1024 .f32 := k0_pay4 (latent x1 x6) (View.ld x8 r0_5)
abbrev projV : FVec F S1024x1024 .f32 := k0_pay5 (latent x1 x6) (View.ld x9 r0_2)

/-- The cosines and sines of the angles. -/
abbrev cosines : FVec F S32x1024 .f32 := k0_pay7 (View.ld x4 r0_6) (View.ld x3 r0_7)
abbrev sines : FVec F S32x1024 .f32 := k0_pay8 (View.ld x4 r0_6) (View.ld x3 r0_7)

/-- The rotated part of the keys, with gains and without the norm's factor. -/
abbrev turnedKey : FVec F S1024x128 .f32 :=
  k0_pay69 (cosines x3 x4) (sines x3 x4) (View.ld x11 r0_3) (View.ld x2 r0_49)

/-- What is stored for head `h`. -/
abbrev storedQ (h : ℕ) : FVec F S1x256x1024 .bf16 :=
  queryHead (projQ x0 x5 x7) (cosines x3 x4) (sines x3 x4) (k0_pay9 (View.ld x10 r0_8)) h
abbrev storedK (h : ℕ) : FVec F S1x1024x256 .bf16 :=
  keyHead (projK x1 x6 x8) (turnedKey x2 x3 x4 x11) (k0_pay67 (View.ld x11 r0_3)) (k0_pay70 (View.ld x2 r0_49)) h
abbrev storedV (h b : ℕ) : FVec F S1x1x128x256 .bf16 := valueTile (projV x1 x6 x9) h b

/-- The stores of the queries, of the keys and of the values, the last first. -/
def piecesQ : List (View.Piece (Elt F) S8x256x1024 .bf16) :=
  [⟨r0_16, storedQ x0 x3 x4 x5 x7 x10 7⟩,
    ⟨r0_15, storedQ x0 x3 x4 x5 x7 x10 6⟩,
    ⟨r0_14, storedQ x0 x3 x4 x5 x7 x10 5⟩,
    ⟨r0_13, storedQ x0 x3 x4 x5 x7 x10 4⟩,
    ⟨r0_12, storedQ x0 x3 x4 x5 x7 x10 3⟩,
    ⟨r0_11, storedQ x0 x3 x4 x5 x7 x10 2⟩,
    ⟨r0_10, storedQ x0 x3 x4 x5 x7 x10 1⟩,
    ⟨r0_9, storedQ x0 x3 x4 x5 x7 x10 0⟩]

def piecesK : List (View.Piece (Elt F) S8x1024x256 .bf16) :=
  [⟨r0_57, storedK x1 x2 x3 x4 x6 x8 x11 7⟩,
    ⟨r0_56, storedK x1 x2 x3 x4 x6 x8 x11 6⟩,
    ⟨r0_55, storedK x1 x2 x3 x4 x6 x8 x11 5⟩,
    ⟨r0_54, storedK x1 x2 x3 x4 x6 x8 x11 4⟩,
    ⟨r0_53, storedK x1 x2 x3 x4 x6 x8 x11 3⟩,
    ⟨r0_52, storedK x1 x2 x3 x4 x6 x8 x11 2⟩,
    ⟨r0_51, storedK x1 x2 x3 x4 x6 x8 x11 1⟩,
    ⟨r0_50, storedK x1 x2 x3 x4 x6 x8 x11 0⟩]

def piecesV : List (View.Piece (Elt F) S8x4x128x256 .bf16) :=
  [⟨r0_48, storedV x1 x6 x9 7 3⟩,
    ⟨r0_47, storedV x1 x6 x9 7 2⟩,
    ⟨r0_46, storedV x1 x6 x9 7 1⟩,
    ⟨r0_45, storedV x1 x6 x9 7 0⟩,
    ⟨r0_44, storedV x1 x6 x9 6 3⟩,
    ⟨r0_43, storedV x1 x6 x9 6 2⟩,
    ⟨r0_42, storedV x1 x6 x9 6 1⟩,
    ⟨r0_41, storedV x1 x6 x9 6 0⟩,
    ⟨r0_40, storedV x1 x6 x9 5 3⟩,
    ⟨r0_39, storedV x1 x6 x9 5 2⟩,
    ⟨r0_38, storedV x1 x6 x9 5 1⟩,
    ⟨r0_37, storedV x1 x6 x9 5 0⟩,
    ⟨r0_36, storedV x1 x6 x9 4 3⟩,
    ⟨r0_35, storedV x1 x6 x9 4 2⟩,
    ⟨r0_34, storedV x1 x6 x9 4 1⟩,
    ⟨r0_33, storedV x1 x6 x9 4 0⟩,
    ⟨r0_32, storedV x1 x6 x9 3 3⟩,
    ⟨r0_31, storedV x1 x6 x9 3 2⟩,
    ⟨r0_30, storedV x1 x6 x9 3 1⟩,
    ⟨r0_29, storedV x1 x6 x9 3 0⟩,
    ⟨r0_28, storedV x1 x6 x9 2 3⟩,
    ⟨r0_27, storedV x1 x6 x9 2 2⟩,
    ⟨r0_26, storedV x1 x6 x9 2 1⟩,
    ⟨r0_25, storedV x1 x6 x9 2 0⟩,
    ⟨r0_24, storedV x1 x6 x9 1 3⟩,
    ⟨r0_23, storedV x1 x6 x9 1 2⟩,
    ⟨r0_22, storedV x1 x6 x9 1 1⟩,
    ⟨r0_21, storedV x1 x6 x9 1 0⟩,
    ⟨r0_20, storedV x1 x6 x9 0 3⟩,
    ⟨r0_19, storedV x1 x6 x9 0 2⟩,
    ⟨r0_18, storedV x1 x6 x9 0 1⟩,
    ⟨r0_17, storedV x1 x6 x9 0 0⟩]

theorem stored_query : out0_12 x0 x1 x2 x3 x4 x5 x6 x7 x8 x9 x10 x11 = View.canon (piecesQ x0 x3 x4 x5 x7 x10) := rfl
theorem stored_key : out0_13 x0 x1 x2 x3 x4 x5 x6 x7 x8 x9 x10 x11 = View.canon (piecesK x1 x2 x3 x4 x6 x8 x11) := rfl
theorem stored_value : out0_14 x0 x1 x2 x3 x4 x5 x6 x7 x8 x9 x10 x11 = View.canon (piecesV x1 x6 x9) := rfl

end Steps

/-! ## The steps at an index, over the extended reals -/

theorem queryRows_apply (A : FVec Ideal S2048x1024 .f32) (h : Fin 8) (j : Fin 192) (r : Fin 1024) :
    queryRows A h (ix2 j r) = A (ix2 ⟨256 * h.val + j.val, by omega⟩ r) := by
  refine congrArg A (funext fun a => Fin.ext ?_)
  match a with
  | ⟨0, _⟩ => show 256 * (h.val % 8) + j.val = 256 * h.val + j.val; omega
  | ⟨1, _⟩ => show 0 + r.val = r.val; omega

theorem keyColumns_apply (A : FVec Ideal S1024x1024 .f32) (h : Fin 8) (r : Fin 1024) (j : Fin 128) :
    keyColumns A h (ix2 r j) = A (ix2 r ⟨128 * h.val + j.val, by omega⟩) := by
  refine congrArg A (funext fun a => Fin.ext ?_)
  match a with
  | ⟨0, _⟩ => show 0 + r.val = r.val; omega
  | ⟨1, _⟩ => show 128 * (h.val % 8) + j.val = 128 * h.val + j.val; omega

theorem valueSlice_apply (A : FVec Ideal S1024x1024 .f32) (h : Fin 8) (b : Fin 4) (j : Fin 128) (r : Fin 256) :
    extractStridedSlice S128x256 ![128 * (h.val % 8), 256 * (b.val % 4)] A (value_slices h b) (ix2 j r)
      = A (ix2 ⟨128 * h.val + j.val, by omega⟩ ⟨256 * b.val + r.val, by omega⟩) := by
  refine congrArg A (funext fun a => Fin.ext ?_)
  match a with
  | ⟨0, _⟩ => show 128 * (h.val % 8) + j.val = 128 * h.val + j.val; omega
  | ⟨1, _⟩ => show 256 * (b.val % 4) + r.val = 256 * b.val + r.val; omega

theorem value_cast (x : FVec Ideal S128x256 .f32) (j : Fin 128) (r : Fin 256) :
    shapeCast S1x1x128x256 (truncf .bf16 x bitsLt_bf16_f32) shapeCasts_S128x256_S1x1x128x256 (ix4 0 0 j r) = x (ix2 j r) := by
  pointwise

theorem valueTile_apply (A : FVec Ideal S1024x1024 .f32) (h : Fin 8) (b : Fin 4) (j : Fin 128) (r : Fin 256) :
    valueTile A h b (ix4 0 0 j r) = A (ix2 ⟨128 * h.val + j.val, by omega⟩ ⟨256 * b.val + r.val, by omega⟩) :=
  (value_cast _ j r).trans (valueSlice_apply A h b j r)

theorem normedQuery_apply (u g : FVec Ideal S192x1024 .f32) (j : Fin 192) (r : Fin 1024) :
    normedQuery u g (ix2 j r) = u (ix2 j r) * factor (∑ i : Fin 192, u (ix2 i r) * u (ix2 i r)) * g (ix2 j r) := by
  pointwise [normedQuery]
  rfl

theorem turnedQuery_apply (n : FVec Ideal S192x1024 .f32) (c s : FVec Ideal S32x1024 .f32) (j : Fin 256) (r : Fin 1024) :
    turnedQuery n c s (ix3 0 j r) = turned (fun i => n (ix2 i r)) (fun i => c (ix2 i r)) (fun i => s (ix2 i r)) j := by
  pointwise [turnedQuery, k0_pay10]
  rfl

theorem joinedKey_apply (k rot : FVec Ideal S1024x128 .f32) (g : FVec Ideal S1x256 .f32) (q : FVec Ideal S1024x1 .f32)
    (r : Fin 1024) (j : Fin 256) :
    joinedKey k rot g q (ix3 0 r j) = joined (fun i => k (ix2 r i)) (fun i => rot (ix2 r i)) (fun i => g (ix2 0 i)) (q (ix2 r 0)) j := by
  pointwise [joinedKey, keyScale]
  rfl

theorem turnedKey_apply (c s : FVec Ideal S32x1024 .f32) (g : Vec Ideal S1x256 .f32) (p : Vec Ideal S1024x128 .bf16)
    (r : Fin 1024) (l : Fin 128) :
    k0_pay69 c s g p (ix2 r l)
      = spun (fun i => p (ix2 r i)) (fun i => g (ix2 0 i)) (fun i => c (ix2 i r)) (fun i => s (ix2 i r)) l := by
  pointwise [k0_pay69, k0_pay67, k0_pay68]
  rfl

end Cert.Kernel6Ideal.Prep

end
-- ==== Proof.PrepBlock.lean ====
/- The blocks that one grid point of the preparation leaves: each head's store lies at the head's place, so the block at an
   index is the head's store at that index. -/
module

public import proofs.«01_k».proof.Proof.PrepTile

@[expose] public section

set_option maxRecDepth 16384

noncomputable section

namespace Cert.Kernel6Ideal.Prep

open Cert.Kernel6Ideal Cert.Kernel6Ideal.Gen Cert.Proof.Rotary Idealize.ShloMosaic Idealize.ShloMosaic.TcCoe

theorem first_zero3 {a b : ℕ} (x : (⟨3, ![1, a, b]⟩ : Shape).Idx) : x = ix3 0 (x 1) (x 2) := by
  funext k
  match k with
  | ⟨0, _⟩ => exact Subsingleton.elim (α := Fin 1) _ _
  | ⟨1, _⟩ => rfl
  | ⟨2, _⟩ => rfl

theorem first_zero4 {a b : ℕ} (x : (⟨4, ![1, 1, a, b]⟩ : Shape).Idx) : x = ix4 0 0 (x 2) (x 3) := by
  funext k
  match k with
  | ⟨0, _⟩ => exact Subsingleton.elim (α := Fin 1) _ _
  | ⟨1, _⟩ => exact Subsingleton.elim (α := Fin 1) _ _
  | ⟨2, _⟩ => rfl
  | ⟨3, _⟩ => rfl

/-- A head's store of queries, read where it lies. -/
theorem query_place (f : ℕ → FVec Ideal S1x256x1024 .bf16) (o : ℕ)
    (inb : ∀ a, (![o, 0, 0] : Fin 3 → ℕ) a + S1x256x1024.size a ≤ S8x256x1024.size a) (x : S1x256x1024.Idx) :
    f o x = f ((Rect.unit (s := S8x256x1024) ![o, 0, 0] S1x256x1024.size inb).emb x 0).val
      (ix3 0 ((Rect.unit (s := S8x256x1024) ![o, 0, 0] S1x256x1024.size inb).emb x 1)
        ((Rect.unit (s := S8x256x1024) ![o, 0, 0] S1x256x1024.size inb).emb x 2)) := by
  have h0 : ((Rect.unit (s := S8x256x1024) ![o, 0, 0] S1x256x1024.size inb).emb x 0).val = o :=
    (Rect.idx_unit_val (s := S8x256x1024) ![o, 0, 0] S1x256x1024.size inb x 0).trans
      (by have h : (x 0).val < 1 := (x 0).isLt; show o + (x 0).val = o; omega)
  have h1 : (Rect.unit (s := S8x256x1024) ![o, 0, 0] S1x256x1024.size inb).emb x 1 = x 1 :=
    Fin.ext ((Rect.idx_unit_val (s := S8x256x1024) ![o, 0, 0] S1x256x1024.size inb x 1).trans (Nat.zero_add _))
  have h2 : (Rect.unit (s := S8x256x1024) ![o, 0, 0] S1x256x1024.size inb).emb x 2 = x 2 :=
    Fin.ext ((Rect.idx_unit_val (s := S8x256x1024) ![o, 0, 0] S1x256x1024.size inb x 2).trans (Nat.zero_add _))
  rw [h0, h1, h2]
  exact congrArg (f o) (first_zero3 x)

/-- A head's store of keys, read where it lies. -/
theorem key_place (f : ℕ → FVec Ideal S1x1024x256 .bf16) (o : ℕ)
    (inb : ∀ a, (![o, 0, 0] : Fin 3 → ℕ) a + S1x1024x256.size a ≤ S8x1024x256.size a) (x : S1x1024x256.Idx) :
    f o x = f ((Rect.unit (s := S8x1024x256) ![o, 0, 0] S1x1024x256.size inb).emb x 0).val
      (ix3 0 ((Rect.unit (s := S8x1024x256) ![o, 0, 0] S1x1024x256.size inb).emb x 1)
        ((Rect.unit (s := S8x1024x256) ![o, 0, 0] S1x1024x256.size inb).emb x 2)) := by
  have h0 : ((Rect.unit (s := S8x1024x256) ![o, 0, 0] S1x1024x256.size inb).emb x 0).val = o :=
    (Rect.idx_unit_val (s := S8x1024x256) ![o, 0, 0] S1x1024x256.size inb x 0).trans
      (by have h : (x 0).val < 1 := (x 0).isLt; show o + (x 0).val = o; omega)
  have h1 : (Rect.unit (s := S8x1024x256) ![o, 0, 0] S1x1024x256.size inb).emb x 1 = x 1 :=
    Fin.ext ((Rect.idx_unit_val (s := S8x1024x256) ![o, 0, 0] S1x1024x256.size inb x 1).trans (Nat.zero_add _))
  have h2 : (Rect.unit (s := S8x1024x256) ![o, 0, 0] S1x1024x256.size inb).emb x 2 = x 2 :=
    Fin.ext ((Rect.idx_unit_val (s := S8x1024x256) ![o, 0, 0] S1x1024x256.size inb x 2).trans (Nat.zero_add _))
  rw [h0, h1, h2]
  exact congrArg (f o) (first_zero3 x)

/-- A chunk of a head's values, read where it lies. -/
theorem value_place (f : ℕ → ℕ → FVec Ideal S1x1x128x256 .bf16) (o b : ℕ)
    (inb : ∀ a, (![o, b, 0, 0] : Fin 4 → ℕ) a + S1x1x128x256.size a ≤ S8x4x128x256.size a) (x : S1x1x128x256.Idx) :
    f o b x = f ((Rect.unit (s := S8x4x128x256) ![o, b, 0, 0] S1x1x128x256.size inb).emb x 0).val
      ((Rect.unit (s := S8x4x128x256) ![o, b, 0, 0] S1x1x128x256.size inb).emb x 1).val
      (ix4 0 0 ((Rect.unit (s := S8x4x128x256) ![o, b, 0, 0] S1x1x128x256.size inb).emb x 2)
        ((Rect.unit (s := S8x4x128x256) ![o, b, 0, 0] S1x1x128x256.size inb).emb x 3)) := by
  have h0 : ((Rect.unit (s := S8x4x128x256) ![o, b, 0, 0] S1x1x128x256.size inb).emb x 0).val = o :=
    (Rect.idx_unit_val (s := S8x4x128x256) ![o, b, 0, 0] S1x1x128x256.size inb x 0).trans
      (by have h : (x 0).val < 1 := (x 0).isLt; show o + (x 0).val = o; omega)
  have h1 : ((Rect.unit (s := S8x4x128x256) ![o, b, 0, 0] S1x1x128x256.size inb).emb x 1).val = b :=
    (Rect.idx_unit_val (s := S8x4x128x256) ![o, b, 0, 0] S1x1x128x256.size inb x 1).trans
      (by have h : (x 1).val < 1 := (x 1).isLt; show b + (x 1).val = b; omega)
  have h2 : (Rect.unit (s := S8x4x128x256) ![o, b, 0, 0] S1x1x128x256.size inb).emb x 2 = x 2 :=
    Fin.ext ((Rect.idx_unit_val (s := S8x4x128x256) ![o, b, 0, 0] S1x1x128x256.size inb x 2).trans (Nat.zero_add _))
  have h3 : (Rect.unit (s := S8x4x128x256) ![o, b, 0, 0] S1x1x128x256.size inb).emb x 3 = x 3 :=
    Fin.ext ((Rect.idx_unit_val (s := S8x4x128x256) ![o, b, 0, 0] S1x1x128x256.size inb x 3).trans (Nat.zero_add _))
  rw [h0, h1, h2, h3]
  exact congrArg (f o b) (first_zero4 x)

variable (x0 : Vec Ideal S1024x512 .bf16) (x1 : Vec Ideal S1024x256 .bf16) (x2 : Vec Ideal S1024x128 .bf16) (x3 : Vec Ideal S1x1024 .i32)
  (x4 : Vec Ideal S32x1 .f32) (x5 : Vec Ideal S1x512 .f32) (x6 : Vec Ideal S1x256 .f32) (x7 : Vec Ideal S2048x512 .bf16)
  (x8 : Vec Ideal S256x1024 .bf16) (x9 : Vec Ideal S1024x256 .bf16) (x10 : Vec Ideal S192x1 .f32) (x11 : Vec Ideal S1x256 .f32)

theorem out_query (y : S8x256x1024.Idx) : out0_12 x0 x1 x2 x3 x4 x5 x6 x7 x8 x9 x10 x11 y = storedQ x0 x3 x4 x5 x7 x10 (y 0).val (ix3 0 (y 1) (y 2)) := by
  rw [stored_query]
  refine View.canon_apply_of_pieces (Val := Elt Ideal) (e := .bf16)
    (fun y : S8x256x1024.Idx => storedQ x0 x3 x4 x5 x7 x10 (y 0).val (ix3 0 (y 1) (y 2))) _ (fun p hp x => ?_) y (cover0_12 _ _ _ _ _ _ _ _ y)
  simp only [piecesQ, List.mem_cons, List.not_mem_nil, or_false] at hp
  rcases hp with rfl | rfl | rfl | rfl | rfl | rfl | rfl | rfl
  · exact query_place (storedQ x0 x3 x4 x5 x7 x10) 7 inb_S8x256x1024_S1x256x1024_7_0_0 x
  · exact query_place (storedQ x0 x3 x4 x5 x7 x10) 6 inb_S8x256x1024_S1x256x1024_6_0_0 x
  · exact query_place (storedQ x0 x3 x4 x5 x7 x10) 5 inb_S8x256x1024_S1x256x1024_5_0_0 x
  · exact query_place (storedQ x0 x3 x4 x5 x7 x10) 4 inb_S8x256x1024_S1x256x1024_4_0_0 x
  · exact query_place (storedQ x0 x3 x4 x5 x7 x10) 3 inb_S8x256x1024_S1x256x1024_3_0_0 x
  · exact query_place (storedQ x0 x3 x4 x5 x7 x10) 2 inb_S8x256x1024_S1x256x1024_2_0_0 x
  · exact query_place (storedQ x0 x3 x4 x5 x7 x10) 1 inb_S8x256x1024_S1x256x1024_1_0_0 x
  · exact query_place (storedQ x0 x3 x4 x5 x7 x10) 0 inb_S8x256x1024_S1x256x1024_0_0_0 x

theorem out_key (y : S8x1024x256.Idx) : out0_13 x0 x1 x2 x3 x4 x5 x6 x7 x8 x9 x10 x11 y = storedK x1 x2 x3 x4 x6 x8 x11 (y 0).val (ix3 0 (y 1) (y 2)) := by
  rw [stored_key]
  refine View.canon_apply_of_pieces (Val := Elt Ideal) (e := .bf16)
    (fun y : S8x1024x256.Idx => storedK x1 x2 x3 x4 x6 x8 x11 (y 0).val (ix3 0 (y 1) (y 2))) _ (fun p hp x => ?_) y (cover0_13 _ _ _ _ _ _ _ _ y)
  simp only [piecesK, List.mem_cons, List.not_mem_nil, or_false] at hp
  rcases hp with rfl | rfl | rfl | rfl | rfl | rfl | rfl | rfl
  · exact key_place (storedK x1 x2 x3 x4 x6 x8 x11) 7 inb_S8x1024x256_S1x1024x256_7_0_0 x
  · exact key_place (storedK x1 x2 x3 x4 x6 x8 x11) 6 inb_S8x1024x256_S1x1024x256_6_0_0 x
  · exact key_place (storedK x1 x2 x3 x4 x6 x8 x11) 5 inb_S8x1024x256_S1x1024x256_5_0_0 x
  · exact key_place (storedK x1 x2 x3 x4 x6 x8 x11) 4 inb_S8x1024x256_S1x1024x256_4_0_0 x
  · exact key_place (storedK x1 x2 x3 x4 x6 x8 x11) 3 inb_S8x1024x256_S1x1024x256_3_0_0 x
  · exact key_place (storedK x1 x2 x3 x4 x6 x8 x11) 2 inb_S8x1024x256_S1x1024x256_2_0_0 x
  · exact key_place (storedK x1 x2 x3 x4 x6 x8 x11) 1 inb_S8x1024x256_S1x1024x256_1_0_0 x
  · exact key_place (storedK x1 x2 x3 x4 x6 x8 x11) 0 inb_S8x1024x256_S1x1024x256_0_0_0 x

theorem out_value (y : S8x4x128x256.Idx) :
    out0_14 x0 x1 x2 x3 x4 x5 x6 x7 x8 x9 x10 x11 y = storedV x1 x6 x9 (y 0).val (y 1).val (ix4 0 0 (y 2) (y 3)) := by
  rw [stored_value]
  refine View.canon_apply_of_pieces (Val := Elt Ideal) (e := .bf16)
    (fun y : S8x4x128x256.Idx => storedV x1 x6 x9 (y 0).val (y 1).val (ix4 0 0 (y 2) (y 3))) _ (fun p hp x => ?_) y
    (cover0_14 _ _ _ _ _ _ _ _ _ _ _ _ _ _ _ _ _ _ _ _ _ _ _ _ _ _ _ _ _ _ _ _ y)
  simp only [piecesV, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact value_place (storedV x1 x6 x9) 7 3 inb_S8x4x128x256_S1x1x128x256_7_3_0_0 x
  · exact value_place (storedV x1 x6 x9) 7 2 inb_S8x4x128x256_S1x1x128x256_7_2_0_0 x
  · exact value_place (storedV x1 x6 x9) 7 1 inb_S8x4x128x256_S1x1x128x256_7_1_0_0 x
  · exact value_place (storedV x1 x6 x9) 7 0 inb_S8x4x128x256_S1x1x128x256_7_0_0_0 x
  · exact value_place (storedV x1 x6 x9) 6 3 inb_S8x4x128x256_S1x1x128x256_6_3_0_0 x
  · exact value_place (storedV x1 x6 x9) 6 2 inb_S8x4x128x256_S1x1x128x256_6_2_0_0 x
  · exact value_place (storedV x1 x6 x9) 6 1 inb_S8x4x128x256_S1x1x128x256_6_1_0_0 x
  · exact value_place (storedV x1 x6 x9) 6 0 inb_S8x4x128x256_S1x1x128x256_6_0_0_0 x
  · exact value_place (storedV x1 x6 x9) 5 3 inb_S8x4x128x256_S1x1x128x256_5_3_0_0 x
  · exact value_place (storedV x1 x6 x9) 5 2 inb_S8x4x128x256_S1x1x128x256_5_2_0_0 x
  · exact value_place (storedV x1 x6 x9) 5 1 inb_S8x4x128x256_S1x1x128x256_5_1_0_0 x
  · exact value_place (storedV x1 x6 x9) 5 0 inb_S8x4x128x256_S1x1x128x256_5_0_0_0 x
  · exact value_place (storedV x1 x6 x9) 4 3 inb_S8x4x128x256_S1x1x128x256_4_3_0_0 x
  · exact value_place (storedV x1 x6 x9) 4 2 inb_S8x4x128x256_S1x1x128x256_4_2_0_0 x
  · exact value_place (storedV x1 x6 x9) 4 1 inb_S8x4x128x256_S1x1x128x256_4_1_0_0 x
  · exact value_place (storedV x1 x6 x9) 4 0 inb_S8x4x128x256_S1x1x128x256_4_0_0_0 x
  · exact value_place (storedV x1 x6 x9) 3 3 inb_S8x4x128x256_S1x1x128x256_3_3_0_0 x
  · exact value_place (storedV x1 x6 x9) 3 2 inb_S8x4x128x256_S1x1x128x256_3_2_0_0 x
  · exact value_place (storedV x1 x6 x9) 3 1 inb_S8x4x128x256_S1x1x128x256_3_1_0_0 x
  · exact value_place (storedV x1 x6 x9) 3 0 inb_S8x4x128x256_S1x1x128x256_3_0_0_0 x
  · exact value_place (storedV x1 x6 x9) 2 3 inb_S8x4x128x256_S1x1x128x256_2_3_0_0 x
  · exact value_place (storedV x1 x6 x9) 2 2 inb_S8x4x128x256_S1x1x128x256_2_2_0_0 x
  · exact value_place (storedV x1 x6 x9) 2 1 inb_S8x4x128x256_S1x1x128x256_2_1_0_0 x
  · exact value_place (storedV x1 x6 x9) 2 0 inb_S8x4x128x256_S1x1x128x256_2_0_0_0 x
  · exact value_place (storedV x1 x6 x9) 1 3 inb_S8x4x128x256_S1x1x128x256_1_3_0_0 x
  · exact value_place (storedV x1 x6 x9) 1 2 inb_S8x4x128x256_S1x1x128x256_1_2_0_0 x
  · exact value_place (storedV x1 x6 x9) 1 1 inb_S8x4x128x256_S1x1x128x256_1_1_0_0 x
  · exact value_place (storedV x1 x6 x9) 1 0 inb_S8x4x128x256_S1x1x128x256_1_0_0_0 x
  · exact value_place (storedV x1 x6 x9) 0 3 inb_S8x4x128x256_S1x1x128x256_0_3_0_0 x
  · exact value_place (storedV x1 x6 x9) 0 2 inb_S8x4x128x256_S1x1x128x256_0_2_0_0 x
  · exact value_place (storedV x1 x6 x9) 0 1 inb_S8x4x128x256_S1x1x128x256_0_1_0_0 x
  · exact value_place (storedV x1 x6 x9) 0 0 inb_S8x4x128x256_S1x1x128x256_0_0_0_0 x

end Cert.Kernel6Ideal.Prep

end
-- ==== Proof.PrepHost.lean ====
/- What the host makes of the arguments of the preparation, and the blocks of it that a grid point reads. -/
module

public import proofs.«01_k».proof.Proof.PrepBlock

@[expose] public section

set_option maxRecDepth 16384

noncomputable section

namespace Cert.Kernel6Ideal.Prep

open Cert.Kernel6Ideal Cert.Kernel6Ideal.Gen Cert.Proof.Rotary Idealize.ShloMosaic Idealize.ShloMosaic.TcCoe

/-! ## The operands -/

/-- The packed projection: the latents and the shared key at their columns, zeros elsewhere. -/
def packed (cq : FVec Ideal S8192x512 .f32) (ckv : FVec Ideal S8192x256 .f32) (kpe : FVec Ideal S8192x64 .f32) : FVec Ideal S8192x5120 .bf16 :=
  truncf .bf16 (concatenate S8192x5120 1
    [⟨S8192x4096, broadcastInDim S8192x4096 ![] bcast_S_S8192x4096 (constant S_ .f32 0x00000000#32)⟩, ⟨S8192x512, cq⟩, ⟨S8192x256, ckv⟩,
     ⟨S8192x64, kpe⟩, ⟨S8192x192, broadcastInDim S8192x192 ![] bcast_S_S8192x192 (constant S_ .f32 0x00000000#32)⟩]
    concatenates_S8192x4096_S8192x512_S8192x256_S8192x64_S8192x192_S8192x5120_d1) bitsLt_bf16_f32

/-- The angles per position. -/
def frequencies : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- The queries' weights, each head padded with zeros to 256 columns, transposed. -/
def queryWeights (w : FVec Ideal S512x1536 .f32) : FVec Ideal S2048x512 .bf16 :=
  truncf .bf16 (transpose S2048x512 [1, 0] (shapeCast S512x2048 (pad S512x8x256 ![0, 0, 0] ![0, 0, 64] ![0, 0, 0]
    (shapeCast S512x8x192 w shapeCasts_S512x1536_S512x8x192) (sitofp .f32 (constantI S_ 32 0#32)) pads_S512x8x192_S512x8x256_000_000_0640 h_S_)
    shapeCasts_S512x8x256_S512x2048) transposes_S512x2048_S2048x512_1_0) bitsLt_bf16_f32

/-- The keys' weights. -/
def keyWeights (w : FVec Ideal S256x2048 .f32) : FVec Ideal S256x1024 .bf16 :=
  truncf .bf16 (shapeCast S256x1024 (extractStridedSlice S256x8x128 ![0, 0, 0] (shapeCast S256x8x256 w shapeCasts_S256x2048_S256x8x256)
    slices_S256x8x256_S256x8x128_0_0_0) shapeCasts_S256x8x128_S256x1024) bitsLt_bf16_f32

/-- The values' weights, transposed. -/
def valueWeights (w : FVec Ideal S256x2048 .f32) : FVec Ideal S1024x256 .bf16 :=
  truncf .bf16 (transpose S1024x256 [1, 0] (shapeCast S256x1024 (extractStridedSlice S256x8x128 ![0, 0, 128]
    (shapeCast S256x8x256 w shapeCasts_S256x2048_S256x8x256) slices_S256x8x256_S256x8x128_0_0_128) shapeCasts_S256x8x128_S256x1024)
    transposes_S256x1024_S1024x256_1_0) bitsLt_bf16_f32

/-- The queries' gains as a column. -/
def queryGains (g : FVec Ideal S192 .f32) : FVec Ideal S192x1 .f32 :=
  shapeCast S192x1 (shapeCast S1x192 g shapeCasts_S192_S1x192) shapeCasts_S1x192_S192x1

/-- The keys' gains, padded with zeros. -/
def keyGains (g : FVec Ideal S192 .f32) : FVec Ideal S1x256 .f32 :=
  pad S1x256 ![0, 0] ![0, 64] ![0, 0] (shapeCast S1x192 g shapeCasts_S192_S1x192) (sitofp .f32 (constantI S_ 32 0#32))
    pads_S1x192_S1x256_000_0640 h_S_

section Entry

variable (m : (ℓ : Loc nD τ sig) → Buf (Elt Ideal) ℓ) (c : Dev nD)

theorem entry_packed : V m c main_v3 = packed (m ((c : Thread nD τ).loc main_arg0)) (m ((c : Thread nD τ).loc main_arg1)) (m ((c : Thread nD τ).loc main_arg2)) := by
  show StableHlo.after (List.flatten [hostOps0, hostOps0_1, hostOps0_2, hostOps0_3]) _ (Proc.devRef .tc main_v3) = _
  simp only [hostOps0, hostOps0_1, hostOps0_2, hostOps0_3, List.flatten_cons, List.flatten_nil, List.append_nil, List.cons_append, List.nil_append]
  after_results <;> rfl

theorem entry_positions : V m c main_v26 = shapeCast S1x8192 (m ((c : Thread nD τ).loc main_arg3)) shapeCasts_S8192_S1x8192 := by
  show StableHlo.after (List.flatten [hostOps0, hostOps0_1, hostOps0_2, hostOps0_3]) _ (Proc.devRef .tc main_v26) = _
  simp only [hostOps0, hostOps0_1, hostOps0_2, hostOps0_3, List.flatten_cons, List.flatten_nil, List.append_nil, List.cons_append, List.nil_append]
  after_results <;> rfl

theorem entry_frequencies : V m c main_v10 = shapeCast S32x1 frequencies shapeCasts_S32_S32x1 := by
  show StableHlo.after (List.flatten [hostOps0, hostOps0_1, hostOps0_2, hostOps0_3]) _ (Proc.devRef .tc main_v10) = _
  simp only [hostOps0, hostOps0_1, hostOps0_2, hostOps0_3, List.flatten_cons, List.flatten_nil, List.append_nil, List.cons_append, List.nil_append]
  after_results <;> rfl

theorem entry_queryLatentGains : V m c main_v27 = shapeCast S1x512 (m ((c : Thread nD τ).loc main_arg4)) shapeCasts_S512_S1x512 := by
  show StableHlo.after (List.flatten [hostOps0, hostOps0_1, hostOps0_2, hostOps0_3]) _ (Proc.devRef .tc main_v27) = _
  simp only [hostOps0, hostOps0_1, hostOps0_2, hostOps0_3, List.flatten_cons, List.flatten_nil, List.append_nil, List.cons_append, List.nil_append]
  after_results <;> rfl

theorem entry_keyLatentGains : V m c main_v28 = shapeCast S1x256 (m ((c : Thread nD τ).loc main_arg6)) shapeCasts_S256_S1x256 := by
  show StableHlo.after (List.flatten [hostOps0, hostOps0_1, hostOps0_2, hostOps0_3]) _ (Proc.devRef .tc main_v28) = _
  simp only [hostOps0, hostOps0_1, hostOps0_2, hostOps0_3, List.flatten_cons, List.flatten_nil, List.append_nil, List.cons_append, List.nil_append]
  after_results <;> rfl

theorem entry_queryWeights : V m c main_v15 = queryWeights (m ((c : Thread nD τ).loc main_arg5)) := by
  show StableHlo.after (List.flatten [hostOps0, hostOps0_1, hostOps0_2, hostOps0_3]) _ (Proc.devRef .tc main_v15) = _
  simp only [hostOps0, hostOps0_1, hostOps0_2, hostOps0_3, List.flatten_cons, List.flatten_nil, List.append_nil, List.cons_append, List.nil_append]
  after_results <;> rfl

theorem entry_keyWeights : V m c main_v19 = keyWeights (m ((c : Thread nD τ).loc main_arg7)) := by
  show StableHlo.after (List.flatten [hostOps0, hostOps0_1, hostOps0_2, hostOps0_3]) _ (Proc.devRef .tc main_v19) = _
  simp only [hostOps0, hostOps0_1, hostOps0_2, hostOps0_3, List.flatten_cons, List.flatten_nil, List.append_nil, List.cons_append, List.nil_append]
  after_results <;> rfl

theorem entry_valueWeights : V m c main_v23 = valueWeights (m ((c : Thread nD τ).loc main_arg7)) := by
  show StableHlo.after (List.flatten [hostOps0, hostOps0_1, hostOps0_2, hostOps0_3]) _ (Proc.devRef .tc main_v23) = _
  simp only [hostOps0, hostOps0_1, hostOps0_2, hostOps0_3, List.flatten_cons, List.flatten_nil, List.append_nil, List.cons_append, List.nil_append]
  after_results <;> rfl

theorem entry_queryGains : V m c main_v29 = queryGains (m ((c : Thread nD τ).loc main_arg8)) := by
  show StableHlo.after (List.flatten [hostOps0, hostOps0_1, hostOps0_2, hostOps0_3]) _ (Proc.devRef .tc main_v29) = _
  simp only [hostOps0, hostOps0_1, hostOps0_2, hostOps0_3, List.flatten_cons, List.flatten_nil, List.append_nil, List.cons_append, List.nil_append]
  after_results <;> rfl

theorem entry_keyGains : V m c main_v30 = keyGains (m ((c : Thread nD τ).loc main_arg9)) := by
  show StableHlo.after (List.flatten [hostOps0, hostOps0_1, hostOps0_2, hostOps0_3]) _ (Proc.devRef .tc main_v30) = _
  simp only [hostOps0, hostOps0_1, hostOps0_2, hostOps0_3, List.flatten_cons, List.flatten_nil, List.append_nil, List.cons_append, List.nil_append]
  after_results <;> rfl

end Entry

/-! ## The operands at an index -/

/-- The number that fills the padding is zero. -/
theorem padding : (FloatOps.sitofp FTy.f32 0#32 : Ideal .f32) = 0 := by
  show (((0#32 : BitVec 32).toInt : ℝ) : EReal) = 0
  rw [show (0#32 : BitVec 32).toInt = 0 from rfl, Int.cast_zero, EReal.coe_zero]

/-- Column `n` of the packed projection, at one row. -/
def packedAt (cq : Fin 512 → EReal) (ckv : Fin 256 → EReal) (kpe : Fin 64 → EReal) (n : Fin 5120) : EReal :=
  if n.val < 4096 then 0
  else if h : n.val - 4096 < 512 then cq ⟨n.val - 4096, h⟩
  else if h : n.val - 4096 - 512 < 256 then ckv ⟨n.val - 4096 - 512, h⟩
  else if h : n.val - 4096 - 512 - 256 < 64 then kpe ⟨n.val - 4096 - 512 - 256, h⟩ else 0

theorem packed_apply (cq : FVec Ideal S8192x512 .f32) (ckv : FVec Ideal S8192x256 .f32) (kpe : FVec Ideal S8192x64 .f32)
    (s : Fin 8192) (n : Fin 5120) :
    packed cq ckv kpe (ix2 s n) = packedAt (fun e => cq (ix2 s e)) (fun e => ckv (ix2 s e)) (fun e => kpe (ix2 s e)) n := by
  pointwise [packed]
  rfl

theorem packedAt_query (cq : Fin 512 → EReal) (ckv : Fin 256 → EReal) (kpe : Fin 64 → EReal) (e : Fin 512) (h : 4096 + e.val < 5120) :
    packedAt cq ckv kpe ⟨4096 + e.val, h⟩ = cq e := by
  unfold packedAt
  rw [if_neg (show ¬4096 + e.val < 4096 by omega), dif_pos (show 4096 + e.val - 4096 < 512 by omega)]
  exact congrArg cq (Fin.ext (by show 4096 + e.val - 4096 = e.val; omega))

theorem packedAt_key (cq : Fin 512 → EReal) (ckv : Fin 256 → EReal) (kpe : Fin 64 → EReal) (e : Fin 256) (h : 4608 + e.val < 5120) :
    packedAt cq ckv kpe ⟨4608 + e.val, h⟩ = ckv e := by
  unfold packedAt
  rw [if_neg (show ¬4608 + e.val < 4096 by omega), dif_neg (show ¬4608 + e.val - 4096 < 512 by omega),
    dif_pos (show 4608 + e.val - 4096 - 512 < 256 by omega)]
  exact congrArg ckv (Fin.ext (by show 4608 + e.val - 4096 - 512 = e.val; omega))

theorem packedAt_shared (cq : Fin 512 → EReal) (ckv : Fin 256 → EReal) (kpe : Fin 64 → EReal) (e : Fin 128) (h : 4864 + e.val < 5120) :
    packedAt cq ckv kpe ⟨4864 + e.val, h⟩ = padded kpe e := by
  unfold packedAt padded
  rw [if_neg (show ¬4864 + e.val < 4096 by omega), dif_neg (show ¬4864 + e.val - 4096 < 512 by omega),
    dif_neg (show ¬4864 + e.val - 4096 - 512 < 256 by omega)]
  by_cases he : e.val < 64
  · rw [dif_pos (show 4864 + e.val - 4096 - 512 - 256 < 64 by omega), dif_pos he]
    exact congrArg kpe (Fin.ext (by show 4864 + e.val - 4096 - 512 - 256 = e.val; omega))
  · rw [dif_neg (show ¬4864 + e.val - 4096 - 512 - 256 < 64 by omega), dif_neg he]

theorem queryWeights_apply (w : FVec Ideal S512x1536 .f32) (n : Fin 2048) (e : Fin 512) :
    queryWeights w (ix2 n e) = if h : n.val / 256 < 8 ∧ n.val % 256 < 192 then w (ix2 e ⟨n.val / 256 * 192 + n.val % 256, by omega⟩) else 0 := by
  pointwise [queryWeights]
  rw [padding]

/-- Weight column `j` of head `h`'s queries. -/
theorem queryWeights_head (w : FVec Ideal S512x1536 .f32) (h : Fin 8) (j : Fin 192) (e : Fin 512) (hn : 256 * h.val + j.val < 2048) :
    queryWeights w (ix2 ⟨256 * h.val + j.val, hn⟩ e) = w (ix2 e ⟨h.val * 192 + j.val, by omega⟩) := by
  rw [queryWeights_apply, dif_pos (show (256 * h.val + j.val) / 256 < 8 ∧ (256 * h.val + j.val) % 256 < 192 by omega)]
  exact congrArg (fun n => w (ix2 e n)) (Fin.ext (by
    show (256 * h.val + j.val) / 256 * 192 + (256 * h.val + j.val) % 256 = h.val * 192 + j.val
    omega))

theorem keyWeights_apply (w : FVec Ideal S256x2048 .f32) (e : Fin 256) (n : Fin 1024) :
    keyWeights w (ix2 e n) = w (ix2 e ⟨n.val / 128 * 256 + n.val % 128, by omega⟩) := by
  pointwise [keyWeights]

/-- Weight column `j` of head `h`'s keys. -/
theorem keyWeights_head (w : FVec Ideal S256x2048 .f32) (h : Fin 8) (j : Fin 128) (e : Fin 256) (hn : 128 * h.val + j.val < 1024) :
    keyWeights w (ix2 e ⟨128 * h.val + j.val, hn⟩) = w (ix2 e ⟨h.val * 256 + j.val, by omega⟩) :=
  (keyWeights_apply w e _).trans (congrArg (fun n => w (ix2 e n)) (Fin.ext (by
    show (128 * h.val + j.val) / 128 * 256 + (128 * h.val + j.val) % 128 = h.val * 256 + j.val
    omega)))

theorem valueWeights_apply (w : FVec Ideal S256x2048 .f32) (n : Fin 1024) (e : Fin 256)  :
    valueWeights w (ix2 n e) = w (ix2 e ⟨n.val / 128 * 256 + (128 + n.val % 128), by omega⟩) := by
  pointwise [valueWeights]

/-- Weight column `j` of head `h`'s values. -/
theorem valueWeights_head (w : FVec Ideal S256x2048 .f32) (h : Fin 8) (j : Fin 128) (e : Fin 256) (hn : 128 * h.val + j.val < 1024) :
    valueWeights w (ix2 ⟨128 * h.val + j.val, hn⟩ e) = w (ix2 e ⟨h.val * 256 + (128 + j.val), by omega⟩) :=
  (valueWeights_apply w _ e).trans (congrArg (fun n => w (ix2 e n)) (Fin.ext (by
    show (128 * h.val + j.val) / 128 * 256 + (128 + (128 * h.val + j.val) % 128) = h.val * 256 + (128 + j.val)
    omega)))

theorem queryGains_apply (g : FVec Ideal S192 .f32) (j : Fin 192) : queryGains g (ix2 j 0) = g (ix1 j) := by
  pointwise [queryGains]

theorem keyGains_apply (g : FVec Ideal S192 .f32) (j : Fin 256) :
    keyGains g (ix2 0 j) = padded (fun i => g (ix1 i)) j := by
  pointwise [keyGains]
  rw [padding]
  rfl

theorem positions_apply (p : IVec S8192 32) (s : Fin 8192) :
    shapeCast S1x8192 p shapeCasts_S8192_S1x8192 (ix2 0 s) = p (ix1 s) := by
  pointwise []

theorem frequencies_apply (f : FVec Ideal S32 .f32) (i : Fin 32) :
    shapeCast S32x1 f shapeCasts_S32_S32x1 (ix2 i 0) = f (ix1 i) := by
  pointwise []

theorem queryLatentGains_apply (g : FVec Ideal S512 .f32) (i : Fin 512) :
    shapeCast S1x512 g shapeCasts_S512_S1x512 (ix2 0 i) = g (ix1 i) := by
  pointwise []

theorem keyLatentGains_apply (g : FVec Ideal S256 .f32) (i : Fin 256) :
    shapeCast S1x256 g shapeCasts_S256_S1x256 (ix2 0 i) = g (ix1 i) := by
  pointwise []

/-! ## The blocks -/

theorem index0 : ∀ t : Fin cfg0.N, win0_0.index t 0 = t.val ∧ win0_0.index t 1 = 8 :=
  (by decide +kernel : ∀ t : Fin grid0.N, win0_0.index t 0 = t.val ∧ win0_0.index t 1 = 8)
theorem index1 : ∀ t : Fin cfg0.N, win0_1.index t 0 = t.val ∧ win0_1.index t 1 = 18 :=
  (by decide +kernel : ∀ t : Fin grid0.N, win0_1.index t 0 = t.val ∧ win0_1.index t 1 = 18)
theorem index2 : ∀ t : Fin cfg0.N, win0_2.index t 0 = t.val ∧ win0_2.index t 1 = 38 :=
  (by decide +kernel : ∀ t : Fin grid0.N, win0_2.index t 0 = t.val ∧ win0_2.index t 1 = 38)
theorem index3 : ∀ t : Fin cfg0.N, win0_3.index t 0 = 0 ∧ win0_3.index t 1 = t.val :=
  (by decide +kernel : ∀ t : Fin grid0.N, win0_3.index t 0 = 0 ∧ win0_3.index t 1 = t.val)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)
theorem index9 : ∀ t : Fin cfg0.N, win0_9.index t 0 = 0 ∧ win0_9.index t 1 = 0 :=
  (by decide +kernel : ∀ t : Fin grid0.N, win0_9.index t 0 = 0 ∧ win0_9.index t 1 = 0)
theorem index10 : ∀ t : Fin cfg0.N, win0_10.index t 0 = 0 ∧ win0_10.index t 1 = 0 :=
  (by decide +kernel : ∀ t : Fin grid0.N, win0_10.index t 0 = 0 ∧ win0_10.index t 1 = 0)
theorem index11 : ∀ t : Fin cfg0.N, win0_11.index t 0 = 0 ∧ win0_11.index t 1 = 0 :=
  (by decide +kernel : ∀ t : Fin grid0.N, win0_11.index t 0 = 0 ∧ win0_11.index t 1 = 0)

theorem points (t : Fin cfg0.N) : t.val < 8 := t.isLt

/-- Row `r` of block `t`. -/
abbrev rowIn (t : Fin cfg0.N) (r : Fin 1024) : Fin 8192 := ⟨t.val * 1024 + r.val, by have := points t; omega⟩

section Blocks

variable (m : (ℓ : Loc nD τ sig) → Buf (Elt Ideal) ℓ) (c : Dev nD) (t : Fin cfg0.N)

theorem block0 (r : Fin 1024) (e : Fin 512) :
    iblk m c 0 t (ix2 r e) = m ((c : Thread nD τ).loc main_arg0) (ix2 (rowIn t r) e) := by
  have hi := index0 t
  refine (congrArg (V m c main_v3) (funext fun x => Fin.ext ?_)).trans ((congrFun (entry_packed m c) _).trans ((packed_apply _ _ _ (rowIn t r) ⟨4096 + e.val, by omega⟩).trans (packedAt_query _ _ _ e _)))
  match x with
  | ⟨0, _⟩ => exact (win0_0.rect_emb_val t _ 0).trans (by rw [hi.1]; show t.val * 1024 + r.val = t.val * 1024 + r.val; omega)
  | ⟨1, _⟩ => exact (win0_0.rect_emb_val t _ 1).trans (by rw [hi.2]; show 8 * 512 + e.val = 4096 + e.val; omega)

theorem block1 (r : Fin 1024) (e : Fin 256) :
    iblk m c 1 t (ix2 r e) = m ((c : Thread nD τ).loc main_arg1) (ix2 (rowIn t r) e) := by
  have hi := index1 t
  refine (congrArg (V m c main_v3) (funext fun x => Fin.ext ?_)).trans ((congrFun (entry_packed m c) _).trans ((packed_apply _ _ _ (rowIn t r) ⟨4608 + e.val, by omega⟩).trans (packedAt_key _ _ _ e _)))
  match x with
  | ⟨0, _⟩ => exact (win0_1.rect_emb_val t _ 0).trans (by rw [hi.1]; show t.val * 1024 + r.val = t.val * 1024 + r.val; omega)
  | ⟨1, _⟩ => exact (win0_1.rect_emb_val t _ 1).trans (by rw [hi.2]; show 18 * 256 + e.val = 4608 + e.val; omega)

theorem block2 (r : Fin 1024) (e : Fin 128) :
    iblk m c 2 t (ix2 r e) = padded (fun e => m ((c : Thread nD τ).loc main_arg2) (ix2 (rowIn t r) e)) e := by
  have hi := index2 t
  refine (congrArg (V m c main_v3) (funext fun x => Fin.ext ?_)).trans ((congrFun (entry_packed m c) _).trans ((packed_apply _ _ _ (rowIn t r) ⟨4864 + e.val, by omega⟩).trans (packedAt_shared _ _ _ e _)))
  match x with
  | ⟨0, _⟩ => exact (win0_2.rect_emb_val t _ 0).trans (by rw [hi.1]; show t.val * 1024 + r.val = t.val * 1024 + r.val; omega)
  | ⟨1, _⟩ => exact (win0_2.rect_emb_val t _ 1).trans (by rw [hi.2]; show 38 * 128 + e.val = 4864 + e.val; omega)

theorem block3 (r : Fin 1024) :
    iblk m c 3 t (ix2 0 r) = m ((c : Thread nD τ).loc main_arg3) (ix1 (rowIn t r)) := by
  have hi := index3 t
  refine (congrArg (V m c main_v26) (funext fun x => Fin.ext ?_)).trans ((congrFun (entry_positions m c) _).trans (positions_apply _ (rowIn t r)))
  match x with
  | ⟨0, _⟩ => exact (win0_3.rect_emb_val t _ 0).trans (by rw [hi.1]; show 0 * 1 + 0 = 0; omega)
  | ⟨1, _⟩ => exact (win0_3.rect_emb_val t _ 1).trans (by rw [hi.2]; show t.val * 1024 + r.val = t.val * 1024 + r.val; omega)

theorem block4 (i : Fin 32) :
    iblk m c 4 t (ix2 i 0) = frequencies (ix1 i) := by
  have hi := index4 t
  refine (congrArg (V m c main_v10) (funext fun x => Fin.ext ?_)).trans ((congrFun (entry_frequencies m c) _).trans (frequencies_apply _ i))
  match x with
  | ⟨0, _⟩ => exact (win0_4.rect_emb_val t _ 0).trans (by rw [hi.1]; show 0 * 32 + i.val = i.val; omega)
  | ⟨1, _⟩ => exact (win0_4.rect_emb_val t _ 1).trans (by rw [hi.2]; show 0 * 1 + 0 = 0; omega)

theorem block5 (e : Fin 512) :
    iblk m c 5 t (ix2 0 e) = m ((c : Thread nD τ).loc main_arg4) (ix1 e) := by
  have hi := index5 t
  refine (congrArg (V m c main_v27) (funext fun x => Fin.ext ?_)).trans ((congrFun (entry_queryLatentGains m c) _).trans (queryLatentGains_apply _ e))
  match x with
  | ⟨0, _⟩ => exact (win0_5.rect_emb_val t _ 0).trans (by rw [hi.1]; show 0 * 1 + 0 = 0; omega)
  | ⟨1, _⟩ => exact (win0_5.rect_emb_val t _ 1).trans (by rw [hi.2]; show 0 * 512 + e.val = e.val; omega)

theorem block6 (e : Fin 256) :
    iblk m c 6 t (ix2 0 e) = m ((c : Thread nD τ).loc main_arg6) (ix1 e) := by
  have hi := index6 t
  refine (congrArg (V m c main_v28) (funext fun x => Fin.ext ?_)).trans ((congrFun (entry_keyLatentGains m c) _).trans (keyLatentGains_apply _ e))
  match x with
  | ⟨0, _⟩ => exact (win0_6.rect_emb_val t _ 0).trans (by rw [hi.1]; show 0 * 1 + 0 = 0; omega)
  | ⟨1, _⟩ => exact (win0_6.rect_emb_val t _ 1).trans (by rw [hi.2]; show 0 * 256 + e.val = e.val; omega)

theorem block7 (h : Fin 8) (j : Fin 192) (e : Fin 512) (hn : 256 * h.val + j.val < 2048) :
    iblk m c 7 t (ix2 (⟨256 * h.val + j.val, hn⟩ : Fin 2048) e) = m ((c : Thread nD τ).loc main_arg5) (ix2 e ⟨h.val * 192 + j.val, by omega⟩) := by
  have hi := index7 t
  refine (congrArg (V m c main_v15) (funext fun x => Fin.ext ?_)).trans ((congrFun (entry_queryWeights m c) _).trans (queryWeights_head _ h j e hn))
  match x with
  | ⟨0, _⟩ => exact (win0_7.rect_emb_val t _ 0).trans (by rw [hi.1]; show 0 * 2048 + (256 * h.val + j.val) = 256 * h.val + j.val; omega)
  | ⟨1, _⟩ => exact (win0_7.rect_emb_val t _ 1).trans (by rw [hi.2]; show 0 * 512 + e.val = e.val; omega)

theorem block8 (h : Fin 8) (j : Fin 128) (e : Fin 256) (hn : 128 * h.val + j.val < 1024) :
    iblk m c 8 t (ix2 e (⟨128 * h.val + j.val, hn⟩ : Fin 1024)) = m ((c : Thread nD τ).loc main_arg7) (ix2 e ⟨h.val * 256 + j.val, by omega⟩) := by
  have hi := index8 t
  refine (congrArg (V m c main_v19) (funext fun x => Fin.ext ?_)).trans ((congrFun (entry_keyWeights m c) _).trans (keyWeights_head _ h j e hn))
  match x with
  | ⟨0, _⟩ => exact (win0_8.rect_emb_val t _ 0).trans (by rw [hi.1]; show 0 * 256 + e.val = e.val; omega)
  | ⟨1, _⟩ => exact (win0_8.rect_emb_val t _ 1).trans (by rw [hi.2]; show 0 * 1024 + (128 * h.val + j.val) = 128 * h.val + j.val; omega)

theorem block9 (h : Fin 8) (j : Fin 128) (e : Fin 256) (hn : 128 * h.val + j.val < 1024) :
    iblk m c 9 t (ix2 (⟨128 * h.val + j.val, hn⟩ : Fin 1024) e) = m ((c : Thread nD τ).loc main_arg7) (ix2 e ⟨h.val * 256 + (128 + j.val), by omega⟩) := by
  have hi := index9 t
  refine (congrArg (V m c main_v23) (funext fun x => Fin.ext ?_)).trans ((congrFun (entry_valueWeights m c) _).trans (valueWeights_head _ h j e hn))
  match x with
  | ⟨0, _⟩ => exact (win0_9.rect_emb_val t _ 0).trans (by rw [hi.1]; show 0 * 1024 + (128 * h.val + j.val) = 128 * h.val + j.val; omega)
  | ⟨1, _⟩ => exact (win0_9.rect_emb_val t _ 1).trans (by rw [hi.2]; show 0 * 256 + e.val = e.val; omega)

theorem block10 (j : Fin 192) :
    iblk m c 10 t (ix2 j 0) = m ((c : Thread nD τ).loc main_arg8) (ix1 j) := by
  have hi := index10 t
  refine (congrArg (V m c main_v29) (funext fun x => Fin.ext ?_)).trans ((congrFun (entry_queryGains m c) _).trans (queryGains_apply _ j))
  match x with
  | ⟨0, _⟩ => exact (win0_10.rect_emb_val t _ 0).trans (by rw [hi.1]; show 0 * 192 + j.val = j.val; omega)
  | ⟨1, _⟩ => exact (win0_10.rect_emb_val t _ 1).trans (by rw [hi.2]; show 0 * 1 + 0 = 0; omega)

theorem block11 (j : Fin 256) :
    iblk m c 11 t (ix2 0 j) = padded (fun i => m ((c : Thread nD τ).loc main_arg9) (ix1 i)) j := by
  have hi := index11 t
  refine (congrArg (V m c main_v30) (funext fun x => Fin.ext ?_)).trans ((congrFun (entry_keyGains m c) _).trans (keyGains_apply _ j))
  match x with
  | ⟨0, _⟩ => exact (win0_11.rect_emb_val t _ 0).trans (by rw [hi.1]; show 0 * 1 + 0 = 0; omega)
  | ⟨1, _⟩ => exact (win0_11.rect_emb_val t _ 1).trans (by rw [hi.2]; show 0 * 256 + j.val = j.val; omega)

end Blocks

end Cert.Kernel6Ideal.Prep

end
-- ==== Proof.RotaryClaim.lean ====
/-
  The two ways to prepare a head's query and key agree. A query: the kernel multiplies each gain by the attention's scale,
  the reference divides the rotated query by the scale's reciprocal. A key: the kernel rotates the shared part with its
  gains first and multiplies by the norm's factor last, the reference norms first. The factor is a nonnegative real at any
  arguments, a sum of squares plus a positive number being positive, so it may be taken out of the rotation's sums.
-/
module

public import proofs.«01_k».proof.Proof.Rotary
public import proofs.«01_k».proof.Proof.Softmax

@[expose] public section

noncomputable section

namespace Cert.Proof.Rotary

open Idealize.ShloMosaic

/-- The values `x` over the root of their mean square, `w` being their number, times the gains `g`. -/
def scaled {n : ℕ} (w : EReal) (x g : Fin n → EReal) (j : Fin n) : EReal :=
  x j * Ideal.rsqrt (Ideal.div (∑ i, x i * x i) w + Ideal.ofBits FTy.f32 0x358637BD#32) * g j

/-- The last 64 of the 192 values `n` rotated by the angles with cosines `c` and sines `s`. -/
def rotated (n : Fin 192 → EReal) (c s : Fin 32 → EReal) (j : Fin 192) : EReal :=
  if h : j.val < 128 then n j
  else if h : j.val - 128 < 32 then
    n ⟨128 + (j.val - 128), by omega⟩ * c ⟨j.val - 128, h⟩ - n ⟨128 + (32 + (j.val - 128)), by omega⟩ * s ⟨j.val - 128, h⟩
  else n ⟨128 + (j.val - 128 - 32), by omega⟩ * s ⟨j.val - 128 - 32, by omega⟩
    + n ⟨128 + (32 + (j.val - 128 - 32)), by omega⟩ * c ⟨j.val - 128 - 32, by omega⟩

/-- A head's key before the norm: its own 128 values, then the 64 shared ones. -/
def keyRow (k : Fin 128 → EReal) (p : Fin 64 → EReal) (j : Fin 192) : EReal :=
  if h : j.val < 128 then k ⟨j.val, h⟩ else p ⟨j.val - 128, by omega⟩

/-- What the reference divides the queries by. -/
def divisor : EReal := Ideal.sqrt (Ideal.ofBits FTy.f32 0x43400000#32) * Ideal.log (Ideal.ofBits FTy.f32 0x40000000#32)

/-- What the kernel multiplies the queries' gains by. -/
def queryScale : ℝ := (Real.sqrt 192 * Real.log 2)⁻¹

/-! ## The constants -/

theorem word_512 : Ideal.ofBits .f32 0x44000000#32 = ((512 : ℝ) : EReal) := by
  simp [Ideal.ofBits, Ideal.ieee, -EReal.coe_mul]; norm_num

theorem word_256 : Ideal.ofBits .f32 0x43800000#32 = ((256 : ℝ) : EReal) := by
  simp [Ideal.ofBits, Ideal.ieee, -EReal.coe_mul]; norm_num

theorem word_inv_512 : Ideal.ofBits .f32 0x3B000000#32 = ((1 / 512 : ℝ) : EReal) := by
  simp [Ideal.ofBits, Ideal.ieee, -EReal.coe_mul]; norm_num

theorem word_inv_256 : Ideal.ofBits .f32 0x3B800000#32 = ((1 / 256 : ℝ) : EReal) := by
  simp [Ideal.ofBits, Ideal.ieee, -EReal.coe_mul]; norm_num

theorem word_small : ∃ r : ℝ, 0 < r ∧ Ideal.ofBits .f32 0x358637BD#32 = (r : EReal) := by
  refine ⟨8796093 * (2 : ℝ) ^ (-43 : ℤ), by positivity, ?_⟩
  simp [Ideal.ofBits, Ideal.ieee, -EReal.coe_mul]

theorem mean_512 (q : EReal) : q * Ideal.ofBits .f32 0x3B000000#32 = Ideal.div q (Ideal.ofBits .f32 0x44000000#32) := by
  rw [word_inv_512, word_512, Ideal.div_coe (by norm_num)]

theorem mean_256 (q : EReal) : q * Ideal.ofBits .f32 0x3B800000#32 = Ideal.div q (Ideal.ofBits .f32 0x43800000#32) := by
  rw [word_inv_256, word_256, Ideal.div_coe (by norm_num)]

theorem factor_eq (q : EReal) : factor q
    = Ideal.rsqrt (Ideal.div q (Ideal.ofBits .f32 0x43400000#32) + Ideal.ofBits FTy.f32 0x358637BD#32) := by
  unfold factor
  rw [Softmax.word_192, Ideal.div_coe (by norm_num)]

theorem queryScale_nonneg : 0 ≤ queryScale :=
  inv_nonneg.2 (mul_nonneg (Real.sqrt_nonneg _) (Real.log_nonneg (by norm_num)))

theorem div_divisor (x : EReal) : Ideal.div x divisor = x * (queryScale : EReal) := by
  have hs : Ideal.sqrt ((192 : ℝ) : EReal) = ((Real.sqrt 192 : ℝ) : EReal) := if_neg (by norm_num)
  have hl : Ideal.log ((2 : ℝ) : EReal) = ((Real.log 2 : ℝ) : EReal) := if_neg (by norm_num)
  have h1 : Real.sqrt 192 ≠ 0 := (Real.sqrt_pos.2 (by norm_num)).ne'
  have h2 : Real.log 2 ≠ 0 := (Real.log_pos (by norm_num)).ne'
  unfold divisor queryScale
  rw [Softmax.word_192, Softmax.word_2, hs, hl, ← EReal.coe_mul, Ideal.div_coe (mul_ne_zero h1 h2), one_div]

/-! ## The norm's factor is a nonnegative real -/

theorem square_nonneg (x : EReal) : 0 ≤ x * x := by
  rcases le_total 0 x with h | h
  · exact mul_nonneg h h
  · rw [← neg_mul_neg]
    exact mul_nonneg (EReal.neg_nonneg.2 h) (EReal.neg_nonneg.2 h)

theorem rsqrt_real {x : EReal} (h : 0 < x) : ∃ r : ℝ, 0 ≤ r ∧ Ideal.rsqrt x = (r : EReal) := by
  induction x with
  | bot => simp at h
  | top => exact ⟨0, le_rfl, rfl⟩
  | coe r =>
    have hr : 0 < r := EReal.coe_pos.1 h
    exact ⟨(Real.sqrt r)⁻¹, inv_nonneg.2 (Real.sqrt_nonneg r), (if_neg hr.not_gt).trans (if_neg hr.ne')⟩

theorem factor_real {q : EReal} (h : 0 ≤ q) : ∃ r : ℝ, 0 ≤ r ∧ factor q = (r : EReal) := by
  obtain ⟨e, he, hw⟩ := word_small
  refine rsqrt_real ?_
  rw [hw]
  exact lt_of_lt_of_le (EReal.coe_pos.2 he)
    (le_add_of_nonneg_left (mul_nonneg h (EReal.coe_nonneg.2 (by norm_num))))

/-! ## Taking a nonnegative real out -/

theorem add_mul_real {r : ℝ} (h : 0 ≤ r) (x y : EReal) : (x + y) * (r : EReal) = x * r + y * r :=
  EReal.right_distrib_of_nonneg_of_ne_top (EReal.coe_nonneg.2 h) (EReal.coe_ne_top r) x y

theorem sub_mul_real {r : ℝ} (h : 0 ≤ r) (x y : EReal) : (x - y) * (r : EReal) = x * r - y * r := by
  rw [sub_eq_add_neg, add_mul_real h, neg_mul, ← sub_eq_add_neg]

/-! ## A query -/

theorem query_eq (u g : Fin 192 → EReal) (c s : Fin 32 → EReal) (j : Fin 256) :
    turned (fun i => u i * factor (∑ i, u i * u i) * (g i * (queryScale : EReal))) c s j
      = if h : j.val < 192 then
          Ideal.div (rotated (scaled (Ideal.ofBits .f32 0x43400000#32) u g) c s ⟨j.val, h⟩) divisor else 0 := by
  have hx : ∀ i, u i * factor (∑ i, u i * u i) * (g i * (queryScale : EReal))
      = scaled (Ideal.ofBits .f32 0x43400000#32) u g i * (queryScale : EReal) := fun i => by
    rw [factor_eq, ← mul_assoc]; rfl
  simp only [hx, div_divisor]
  generalize scaled (Ideal.ofBits .f32 0x43400000#32) u g = n
  unfold turned rotated
  by_cases h1 : j.val < 128
  · rw [dif_pos h1, dif_pos (by omega), dif_pos h1]
  · rw [dif_neg h1]
    by_cases h2 : j.val - 128 < 32
    · rw [dif_pos h2, dif_pos (by omega), dif_neg h1, dif_pos h2, sub_mul_real queryScale_nonneg, mul_right_comm, mul_right_comm (n _) _ (s _)]
      exact congrArg (fun i => _ - n i * s _ * _) (Fin.ext (by dsimp only; omega))
    · rw [dif_neg h2]
      by_cases h3 : j.val - 128 - 32 < 32
      · rw [dif_pos h3, dif_pos (by omega), dif_neg h1, dif_neg h2, add_mul_real queryScale_nonneg, mul_right_comm, mul_right_comm (n _) _ (c _)]
        exact congrArg (fun i => _ + n i * c _ * _) (Fin.ext (by dsimp only; omega))
      · rw [dif_neg h3, dif_neg (by omega)]

/-! ## A key -/

/-- The sum of a key's squares, its own values and the shared ones apart. -/
theorem sum_squares (k : Fin 128 → EReal) (p : Fin 64 → EReal) :
    (∑ i, k i * k i) + ∑ l : Fin 128, padded p l * padded p l = ∑ i, keyRow k p i * keyRow k p i := by
  have hp : ∑ l : Fin (64 + 64), padded p l * padded p l = ∑ l, p l * p l := by
    rw [Fin.sum_univ_add]
    have h0 : ∀ i : Fin 64, padded p (Fin.natAdd 64 i) = 0 := fun i => dif_neg (by simp)
    have h1 : ∀ i : Fin 64, padded p (Fin.castAdd 64 i) = p i := fun i => dif_pos i.isLt
    simp only [h0, h1, mul_zero, Finset.sum_const_zero, add_zero]
  refine (congrArg ((∑ i, k i * k i) + ·) hp).trans ?_
  refine Eq.symm ((Fin.sum_univ_add (fun i : Fin (128 + 64) => keyRow k p i * keyRow k p i)).trans ?_)
  have h0 : ∀ i : Fin 64, keyRow k p (Fin.natAdd 128 i) = p i := fun i =>
    (dif_neg (by simp)).trans (congrArg p (Fin.ext (by simp)))
  have h1 : ∀ i : Fin 128, keyRow k p (Fin.castAdd 64 i) = k i := fun i => dif_pos i.isLt
  simp only [h0, h1]

theorem low_lanes {r : ℝ} (h : 0 ≤ r) (a b x d e y z : EReal) :
    (a * b * x + z * 0 + d * e * (0 - y)) * (r : EReal) = a * r * b * x - d * r * e * y := by
  rw [mul_zero, add_zero, zero_sub, mul_neg, ← sub_eq_add_neg, sub_mul_real h]
  congr 1 <;> ac_rfl

theorem high_lanes {r : ℝ} (h : 0 ≤ r) (a b x d e y z : EReal) :
    (a * b * x + d * e * y + z * 0) * (r : EReal) = d * r * e * y + a * r * b * x := by
  rw [mul_zero, add_zero, add_mul_real h, add_comm]
  congr 1 <;> ac_rfl

theorem key_eq (k : Fin 128 → EReal) (p : Fin 64 → EReal) (g : Fin 192 → EReal) (c s : Fin 32 → EReal) (j : Fin 256) :
    joined k (spun (padded p) (padded g) c s) (padded g) (∑ l : Fin 128, padded p l * padded p l) j
      = if h : j.val < 192 then rotated (scaled (Ideal.ofBits .f32 0x43400000#32) (keyRow k p) g) c s ⟨j.val, h⟩ else 0 := by
  obtain ⟨r, hr, hf⟩ := factor_real (q := ∑ i, keyRow k p i * keyRow k p i) (Finset.sum_nonneg fun i _ => square_nonneg _)
  have hn : ∀ i, scaled (Ideal.ofBits .f32 0x43400000#32) (keyRow k p) g i = keyRow k p i * (r : EReal) * g i := fun i => by
    rw [← hf, factor_eq]; rfl
  have key : ∀ (l : ℕ) (hl : l < 64), keyRow k p ⟨128 + l, by omega⟩ = p ⟨l, hl⟩ := fun l hl =>
    (dif_neg (by dsimp only; omega)).trans (congrArg p (Fin.ext (by dsimp only; omega)))
  have pad : ∀ (l : ℕ) (h : l < 128) (i : ℕ) (hi : i < 64), l = i → padded p (⟨l, h⟩ : Fin 128) = p ⟨i, hi⟩ :=
    fun l h i hi e => by subst e; exact dif_pos hi
  have gain : ∀ (l : ℕ) (h : l < 256) (i : ℕ) (hi : i < 192), l = i → padded g (⟨l, h⟩ : Fin 256) = g ⟨i, hi⟩ :=
    fun l h i hi e => by subst e; exact dif_pos hi
  unfold joined rotated
  simp only [hn, sum_squares, hf]
  have hj := j.isLt
  by_cases h1 : j.val < 128
  · rw [dif_pos h1, dif_pos (by omega), dif_pos h1, gain j.val j.isLt j.val (by omega) rfl]
    exact congrArg (fun a => a * (r : EReal) * g ⟨j.val, by omega⟩) (show k ⟨j.val, h1⟩ = keyRow k p ⟨j.val, by omega⟩ from by
      unfold keyRow; rw [dif_pos h1])
  · rw [dif_neg h1]
    unfold spun
    by_cases h2 : j.val - 128 < 32
    · simp only [dif_pos h2]
      rw [dif_pos (by omega), dif_neg h1, low_lanes hr, pad (j.val - 128) _ (j.val - 128) (by omega) rfl,
        gain (128 + (j.val - 128)) _ (128 + (j.val - 128)) (by omega) rfl,
        pad ((j.val - 128 + 128 - 96) % 128) _ (32 + (j.val - 128)) (by omega) (by omega),
        gain (128 + (j.val - 128 + 128 - 96) % 128) _ (128 + (32 + (j.val - 128))) (by omega) (by omega),
        key (j.val - 128) (by omega), key (32 + (j.val - 128)) (by omega)]
    · simp only [dif_neg h2]
      by_cases h3 : j.val - 128 - 32 < 32
      · simp only [dif_pos h3]
        rw [dif_pos (by omega), dif_neg h1, high_lanes hr, pad (j.val - 128) _ (32 + (j.val - 128 - 32)) (by omega) (by omega),
          gain (128 + (j.val - 128)) _ (128 + (32 + (j.val - 128 - 32))) (by omega) (by omega),
          pad ((j.val - 128 + 128 - 32) % 128) _ (j.val - 128 - 32) (by omega) (by omega),
          gain (128 + (j.val - 128 + 128 - 32) % 128) _ (128 + (j.val - 128 - 32)) (by omega) (by omega),
          key (j.val - 128 - 32) (by omega), key (32 + (j.val - 128 - 32)) (by omega)]
      · simp only [dif_neg h3, mul_zero, add_zero, zero_mul]
        rw [dif_neg (by omega)]

end Cert.Proof.Rotary

end
-- ==== Proof.PrepValue.lean ====
/-
  What the preparation's three results hold, as functions of the arguments: the normed latents times the weights, each
  head's query and key normed and rotated, the values in chunks of 256 rows.
-/
module

public import proofs.«01_k».proof.Proof.PrepBlock
public import proofs.«01_k».proof.Proof.PrepHost
public import proofs.«01_k».proof.Proof.RotaryClaim
public import Idealize.ShloMosaic.Lib.Pipeline.ValueKit

@[expose] public section

set_option maxRecDepth 16384

noncomputable section

namespace Cert.Kernel6Ideal.Prep

open Cert.Kernel6Ideal Cert.Kernel6Ideal.Gen Cert.Proof.Rotary Idealize.ShloMosaic Idealize.ShloMosaic.TcCoe

/-! ## The body's products, angles and gains at an index -/

theorem projQ_apply (x : Vec Ideal S1024x512 .bf16) (g : Vec Ideal S1x512 .f32) (w : Vec Ideal S2048x512 .bf16) (n : Fin 2048)
    (r : Fin 1024) : projQ x g w (ix2 n r)
      = ∑ e, w (ix2 n e) * scaled (Ideal.ofBits .f32 0x44000000#32) (fun i => x (ix2 r i)) (fun i => g (ix2 0 i)) e := by
  unfold scaled
  simp only [← mean_512]
  pointwise [projQ, k0_pay3]

theorem latent_apply (x : Vec Ideal S1024x256 .bf16) (g : Vec Ideal S1x256 .f32) (r : Fin 1024) (e : Fin 256) :
    latent x g (ix2 r e) = scaled (Ideal.ofBits .f32 0x43800000#32) (fun i => x (ix2 r i)) (fun i => g (ix2 0 i)) e := by
  unfold scaled
  simp only [← mean_256]
  pointwise [latent, k0_pay2]

theorem keyProduct (l : FVec Ideal S1024x256 .bf16) (w : Vec Ideal S256x1024 .bf16) (r n : Fin 1024) :
    k0_pay4 l (View.ld w r0_5) (ix2 r n) = ∑ e, l (ix2 r e) * w (ix2 e n) := by
  pointwise [k0_pay4]

theorem valueProduct (l : FVec Ideal S1024x256 .bf16) (w : Vec Ideal S1024x256 .bf16) (n r : Fin 1024) :
    k0_pay5 l (View.ld w r0_2) (ix2 n r) = ∑ e, w (ix2 n e) * l (ix2 r e) := by
  pointwise [k0_pay5]

theorem cosines_apply (p : Vec Ideal S1x1024 .i32) (f : Vec Ideal S32x1 .f32) (i : Fin 32) (r : Fin 1024) :
    cosines p f (ix2 i r) = Ideal.cos (f (ix2 i 0) * FloatOps.sitofp (F := Ideal) FTy.f32 (p (ix2 0 r))) := by
  pointwise [cosines, k0_pay7, k0_pay6]

theorem sines_apply (p : Vec Ideal S1x1024 .i32) (f : Vec Ideal S32x1 .f32) (i : Fin 32) (r : Fin 1024) :
    sines p f (ix2 i r) = Ideal.sin (f (ix2 i 0) * FloatOps.sitofp (F := Ideal) FTy.f32 (p (ix2 0 r))) := by
  pointwise [sines, k0_pay8, k0_pay6]

theorem gains_apply (g : Vec Ideal S192x1 .f32) (j : Fin 192) (r : Fin 1024) :
    k0_pay9 (View.ld g r0_8) (ix2 j r) = g (ix2 j 0) * (queryScale : EReal) := by
  pointwise [k0_pay9]
  rfl

theorem squares_apply (p : Vec Ideal S1024x128 .bf16) (r : Fin 1024) :
    k0_pay70 (View.ld p r0_49) (ix2 r 0) = ∑ l, p (ix2 r l) * p (ix2 r l) := by
  pointwise [k0_pay70, k0_pay68]

theorem spun_apply (p : Vec Ideal S1024x128 .bf16) (t : Vec Ideal S1x1024 .i32) (f : Vec Ideal S32x1 .f32) (g : Vec Ideal S1x256 .f32)
    (r : Fin 1024) (l : Fin 128) : turnedKey p t f g (ix2 r l)
      = spun (fun i => p (ix2 r i)) (fun i => g (ix2 0 i)) (fun i => cosines t f (ix2 i r)) (fun i => sines t f (ix2 i r)) l := by
  refine (turnedKey_apply _ _ _ _ r l).trans ?_
  pointwise

theorem keyGains_at (g : Vec Ideal S1x256 .f32) (i : Fin 256) : k0_pay67 (View.ld g r0_3) (ix2 0 i) = g (ix2 0 i) := by
  pointwise [k0_pay67]

/-! ## The results of the arguments -/

/-- Value `j` of head `h`'s projected query at row `s`. -/
def queryOf (x : FVec Ideal S8192x512 .f32) (g : FVec Ideal S512 .f32) (w : FVec Ideal S512x1536 .f32) (s : Fin 8192) (h : Fin 8)
    (j : Fin 192) : EReal :=
  ∑ e, scaled (Ideal.ofBits .f32 0x44000000#32) (fun i => x (ix2 s i)) (fun i => g (ix1 i)) e * w (ix2 e ⟨h.val * 192 + j.val, by omega⟩)

/-- Value `j` of head `h`'s projected key and value at row `s`. -/
def keyValueOf (x : FVec Ideal S8192x256 .f32) (g : FVec Ideal S256 .f32) (w : FVec Ideal S256x2048 .f32) (s : Fin 8192) (h : Fin 8)
    (j : Fin 256) : EReal :=
  ∑ e, scaled (Ideal.ofBits .f32 0x43800000#32) (fun i => x (ix2 s i)) (fun i => g (ix1 i)) e * w (ix2 e ⟨h.val * 256 + j.val, by omega⟩)

/-- The angle of pair `i` at position `p`. -/
def angle (p : BitVec 32) (i : Fin 32) : EReal := FloatOps.sitofp (F := Ideal) FTy.f32 p * frequencies (ix1 i)

/-- The 192 values `x` normed with gains `g` and rotated for position `p`. -/
def prepared (x g : Fin 192 → EReal) (p : BitVec 32) (j : Fin 192) : EReal :=
  rotated (scaled (Ideal.ofBits .f32 0x43400000#32) x g) (fun i => Ideal.cos (angle p i)) (fun i => Ideal.sin (angle p i)) j

/-- The queries, transposed and filled up with zeros. -/
def queryAt (x : FVec Ideal S8192x512 .f32) (p : IVec S8192 32) (g : FVec Ideal S512 .f32) (w : FVec Ideal S512x1536 .f32)
    (gq : FVec Ideal S192 .f32) (h : Fin 8) (j : Fin 256) (s : Fin 8192) : EReal :=
  if hj : j.val < 192 then Ideal.div (prepared (queryOf x g w s h) (fun i => gq (ix1 i)) (p (ix1 s)) ⟨j.val, hj⟩) divisor else 0

/-- The keys, filled up with zeros. -/
def keyAt (x : FVec Ideal S8192x256 .f32) (q : FVec Ideal S8192x64 .f32) (p : IVec S8192 32) (g : FVec Ideal S256 .f32)
    (w : FVec Ideal S256x2048 .f32) (gk : FVec Ideal S192 .f32) (h : Fin 8) (s : Fin 8192) (j : Fin 256) : EReal :=
  if hj : j.val < 192 then
    prepared (keyRow (fun i => keyValueOf x g w s h ⟨i.val, by omega⟩) (fun i => q (ix2 s i))) (fun i => gk (ix1 i)) (p (ix1 s)) ⟨j.val, hj⟩
  else 0

/-- The values, transposed in chunks of 256 rows. -/
def valueAt (x : FVec Ideal S8192x256 .f32) (g : FVec Ideal S256 .f32) (w : FVec Ideal S256x2048 .f32)
    (h : Fin 8) (b : Fin 32) (j : Fin 128) (r : Fin 256) : EReal :=
  keyValueOf x g w ⟨b.val * 256 + r.val, by omega⟩ h ⟨128 + j.val, by omega⟩

/-! ## A head's query and key of its parts -/

theorem query_of_parts (A : FVec Ideal S2048x1024 .f32) (G : FVec Ideal S192x1024 .f32) (C S : FVec Ideal S32x1024 .f32) (h : ℕ)
    (r : Fin 1024) (u g : Fin 192 → EReal) (c s : Fin 32 → EReal) (hu : ∀ i, queryRows A h (ix2 i r) = u i)
    (hg : ∀ i, G (ix2 i r) = g i * (queryScale : EReal)) (hc : ∀ i, C (ix2 i r) = c i) (hs : ∀ i, S (ix2 i r) = s i) (j : Fin 256) :
    queryHead A C S G h (ix3 0 j r) = if hj : j.val < 192 then
      Ideal.div (rotated (scaled (Ideal.ofBits .f32 0x43400000#32) u g) c s ⟨j.val, hj⟩) divisor else 0 := by
  refine (turnedQuery_apply _ _ _ j r).trans (Eq.trans ?_ (query_eq u g c s j))
  simp only [normedQuery_apply, hu, hg, hc, hs]

theorem key_of_parts (A : FVec Ideal S1024x1024 .f32) (R : FVec Ideal S1024x128 .f32) (G : FVec Ideal S1x256 .f32) (Q : FVec Ideal S1024x1 .f32)
    (h : ℕ) (r : Fin 1024) (k : Fin 128 → EReal) (p : Fin 64 → EReal) (g : Fin 192 → EReal) (c s : Fin 32 → EReal)
    (hk : ∀ i, keyColumns A h (ix2 r i) = k i) (hr : ∀ l, R (ix2 r l) = spun (padded p) (padded g) c s l)
    (hg : ∀ i, G (ix2 0 i) = padded g i) (hq : Q (ix2 r 0) = ∑ l : Fin 128, padded p l * padded p l) (j : Fin 256) :
    keyHead A R G Q h (ix3 0 r j) = if hj : j.val < 192 then
      rotated (scaled (Ideal.ofBits .f32 0x43400000#32) (keyRow k p) g) c s ⟨j.val, hj⟩ else 0 := by
  refine (joinedKey_apply _ _ _ _ r j).trans (Eq.trans ?_ (key_eq k p g c s j))
  rw [funext hk, funext hr, funext hg, hq]

/-! ## The blocks' results -/

section Blocks

variable (m : (ℓ : Loc nD τ sig) → Buf (Elt Ideal) ℓ) (c : Dev nD) (t : Fin cfg0.N)

theorem block_projQ (h : Fin 8) (j : Fin 192) (r : Fin 1024) (hn : 256 * h.val + j.val < 2048) :
    projQ (iblk m c 0 t) (iblk m c 5 t) (iblk m c 7 t) (ix2 (⟨256 * h.val + j.val, hn⟩ : Fin 2048) r)
      = queryOf (m ((c : Thread nD τ).loc main_arg0)) (m ((c : Thread nD τ).loc main_arg4)) (m ((c : Thread nD τ).loc main_arg5)) (rowIn t r) h j := by
  refine (projQ_apply (iblk m c 0 t) (iblk m c 5 t) (iblk m c 7 t) _ r).trans (Finset.sum_congr rfl fun e _ => ?_)
  rw [mul_comm, block7 m c t h j e hn, funext (block0 m c t r), funext (block5 m c t)]

theorem block_latent (r : Fin 1024) (e : Fin 256) : latent (iblk m c 1 t) (iblk m c 6 t) (ix2 r e)
    = scaled (Ideal.ofBits .f32 0x43800000#32) (fun i => m ((c : Thread nD τ).loc main_arg1) (ix2 (rowIn t r) i))
        (fun i => m ((c : Thread nD τ).loc main_arg6) (ix1 i)) e := by
  rw [latent_apply (iblk m c 1 t) (iblk m c 6 t) r e, funext (block1 m c t r), funext (block6 m c t)]

theorem block_projK (h : Fin 8) (j : Fin 128) (r : Fin 1024) (hn : 128 * h.val + j.val < 1024) :
    projK (iblk m c 1 t) (iblk m c 6 t) (iblk m c 8 t) (ix2 r (⟨128 * h.val + j.val, hn⟩ : Fin 1024))
      = keyValueOf (m ((c : Thread nD τ).loc main_arg1)) (m ((c : Thread nD τ).loc main_arg6)) (m ((c : Thread nD τ).loc main_arg7)) (rowIn t r) h ⟨j.val, by omega⟩ := by
  refine (keyProduct _ (iblk m c 8 t) r _).trans (Finset.sum_congr rfl fun e _ => ?_)
  rw [block8 m c t h j e hn, block_latent m c t r e]

theorem block_projV (h : Fin 8) (j : Fin 128) (r : Fin 1024) (hn : 128 * h.val + j.val < 1024) :
    projV (iblk m c 1 t) (iblk m c 6 t) (iblk m c 9 t) (ix2 (⟨128 * h.val + j.val, hn⟩ : Fin 1024) r)
      = keyValueOf (m ((c : Thread nD τ).loc main_arg1)) (m ((c : Thread nD τ).loc main_arg6)) (m ((c : Thread nD τ).loc main_arg7)) (rowIn t r) h ⟨128 + j.val, by omega⟩ := by
  refine (valueProduct _ (iblk m c 9 t) _ r).trans (Finset.sum_congr rfl fun e _ => ?_)
  rw [mul_comm, block9 m c t h j e hn, block_latent m c t r e]

theorem block_cosines (r : Fin 1024) (i : Fin 32) : cosines (iblk m c 3 t) (iblk m c 4 t) (ix2 i r)
    = Ideal.cos (angle (m ((c : Thread nD τ).loc main_arg3) (ix1 (rowIn t r))) i) := by
  rw [cosines_apply (iblk m c 3 t) (iblk m c 4 t) i r, block3 m c t r, block4 m c t i, mul_comm]; rfl

theorem block_sines (r : Fin 1024) (i : Fin 32) : sines (iblk m c 3 t) (iblk m c 4 t) (ix2 i r)
    = Ideal.sin (angle (m ((c : Thread nD τ).loc main_arg3) (ix1 (rowIn t r))) i) := by
  rw [sines_apply (iblk m c 3 t) (iblk m c 4 t) i r, block3 m c t r, block4 m c t i, mul_comm]; rfl

theorem block_query (h : Fin 8) (j : Fin 256) (r : Fin 1024) :
    storedQ (iblk m c 0 t) (iblk m c 3 t) (iblk m c 4 t) (iblk m c 5 t) (iblk m c 7 t) (iblk m c 10 t) h.val (ix3 0 j r)
      = queryAt (m ((c : Thread nD τ).loc main_arg0)) (m ((c : Thread nD τ).loc main_arg3)) (m ((c : Thread nD τ).loc main_arg4))
          (m ((c : Thread nD τ).loc main_arg5)) (m ((c : Thread nD τ).loc main_arg8)) h j (rowIn t r) := by
  exact query_of_parts _ _ _ _ h.val r _ _ _ _ (fun i => (queryRows_apply _ h i r).trans (block_projQ m c t h i r _))
    (fun i => (gains_apply (iblk m c 10 t) i r).trans (congrArg (· * (queryScale : EReal)) (block10 m c t i)))
    (block_cosines m c t r) (block_sines m c t r) j

theorem block_key (h : Fin 8) (r : Fin 1024) (j : Fin 256) :
    storedK (iblk m c 1 t) (iblk m c 2 t) (iblk m c 3 t) (iblk m c 4 t) (iblk m c 6 t) (iblk m c 8 t) (iblk m c 11 t) h.val (ix3 0 r j)
      = keyAt (m ((c : Thread nD τ).loc main_arg1)) (m ((c : Thread nD τ).loc main_arg2)) (m ((c : Thread nD τ).loc main_arg3))
          (m ((c : Thread nD τ).loc main_arg6)) (m ((c : Thread nD τ).loc main_arg7)) (m ((c : Thread nD τ).loc main_arg9)) h (rowIn t r) j := by
  refine key_of_parts _ _ _ _ h.val r _ _ _ _ _ (fun i => (keyColumns_apply _ h r i).trans (block_projK m c t h i r _))
    (fun l => ?_) (fun i => (keyGains_at (iblk m c 11 t) i).trans (block11 m c t i)) ?_ j
  · rw [spun_apply (iblk m c 2 t) (iblk m c 3 t) (iblk m c 4 t) (iblk m c 11 t) r l, funext (block2 m c t r), funext (block11 m c t),
      funext (block_cosines m c t r), funext (block_sines m c t r)]
  · rw [squares_apply (iblk m c 2 t) r]
    exact Finset.sum_congr rfl fun l _ => by rw [block2 m c t r l]

theorem block_values (h : Fin 8) (b : Fin 4) (j : Fin 128) (r : Fin 256) :
    storedV (iblk m c 1 t) (iblk m c 6 t) (iblk m c 9 t) h.val b.val (ix4 0 0 j r)
      = valueAt (m ((c : Thread nD τ).loc main_arg1)) (m ((c : Thread nD τ).loc main_arg6)) (m ((c : Thread nD τ).loc main_arg7))
          h ⟨t.val * 4 + b.val, by have := points t; omega⟩ j r := by
  refine (valueTile_apply _ h b j r).trans ((block_projV m c t h j _ _).trans ?_)
  unfold valueAt
  exact congrArg (fun s => keyValueOf _ _ _ s h _) (Fin.ext (by dsimp only; omega))

end Blocks

/-! ## The results -/

theorem index12 : ∀ t : Fin cfg0.N, win0_12.index t 0 = 0 ∧ win0_12.index t 1 = 0 ∧ win0_12.index t 2 = t.val :=
  (by decide +kernel : ∀ t : Fin grid0.N, win0_12.index t 0 = 0 ∧ win0_12.index t 1 = 0 ∧ win0_12.index t 2 = t.val)
theorem index13 : ∀ t : Fin cfg0.N, win0_13.index t 0 = 0 ∧ win0_13.index t 1 = t.val ∧ win0_13.index t 2 = 0 :=
  (by decide +kernel : ∀ t : Fin grid0.N, win0_13.index t 0 = 0 ∧ win0_13.index t 1 = t.val ∧ win0_13.index t 2 = 0)
theorem index14 : ∀ t : Fin cfg0.N, win0_14.index t 0 = 0 ∧ win0_14.index t 1 = t.val ∧ win0_14.index t 2 = 0 ∧ win0_14.index t 3 = 0 :=
  (by decide +kernel : ∀ t : Fin grid0.N, win0_14.index t 0 = 0 ∧ win0_14.index t 1 = t.val ∧ win0_14.index t 2 = 0 ∧ win0_14.index t 3 = 0)

section Results

variable (m : (ℓ : Loc nD τ sig) → Buf (Elt Ideal) ℓ) (c : Dev nD)

/-- The three results. -/
def queries : FVec Ideal S8x256x8192 .bf16 := fun i =>
  queryAt (m ((c : Thread nD τ).loc main_arg0)) (m ((c : Thread nD τ).loc main_arg3)) (m ((c : Thread nD τ).loc main_arg4))
    (m ((c : Thread nD τ).loc main_arg5)) (m ((c : Thread nD τ).loc main_arg8)) (i 0) (i 1) (i 2)
def keys : FVec Ideal S8x8192x256 .bf16 := fun i =>
  keyAt (m ((c : Thread nD τ).loc main_arg1)) (m ((c : Thread nD τ).loc main_arg2)) (m ((c : Thread nD τ).loc main_arg3))
    (m ((c : Thread nD τ).loc main_arg6)) (m ((c : Thread nD τ).loc main_arg7)) (m ((c : Thread nD τ).loc main_arg9)) (i 0) (i 1) (i 2)
def values : FVec Ideal S8x32x128x256 .bf16 := fun i =>
  valueAt (m ((c : Thread nD τ).loc main_arg1)) (m ((c : Thread nD τ).loc main_arg6)) (m ((c : Thread nD τ).loc main_arg7))
    (i 0) (i 1) (i 2) (i 3)

theorem congr3 {α β γ δ : Type} (f : α → β → γ → δ) {a a' : α} {b b' : β} {d d' : γ} (ha : a = a') (hb : b = b') (hd : d = d') :
    f a b d = f a' b' d' := by subst ha hb hd; rfl

theorem flushed_queries (t : Fin cfg0.N) : (dats m 0 c).flushed 12 t = ((cfg0.win 12).blk t).view.read (Elt Ideal) (queries m c) := by
  have e := index12 t
  rw [Value.flushed12]
  funext y
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (y : S8x256x1024.Idx) = queries m c ((win0_12.rect t).emb y)
  refine (out_query _ _ _ _ _ _ _ _ _ _ _ _ y).trans ((block_query m c t (y 0) (y 1) (y 2)).trans ?_)
  unfold queries
  refine congr3 (queryAt _ _ _ _ _) (Fin.ext ?_) (Fin.ext ?_) (Fin.ext ?_)
  · exact ((win0_12.rect_emb_val t y 0).trans (by rw [e.1]; exact Nat.zero_add _)).symm
  · exact ((win0_12.rect_emb_val t y 1).trans (by rw [e.2.1]; exact Nat.zero_add _)).symm
  · exact ((win0_12.rect_emb_val t y 2).trans (by rw [e.2.2]; rfl)).symm

theorem flushed_keys (t : Fin cfg0.N) : (dats m 0 c).flushed 13 t = ((cfg0.win 13).blk t).view.read (Elt Ideal) (keys m c) := by
  have e := index13 t
  rw [Value.flushed13]
  funext y
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (y : S8x1024x256.Idx) = keys m c ((win0_13.rect t).emb y)
  refine (out_key _ _ _ _ _ _ _ _ _ _ _ _ y).trans ((block_key m c t (y 0) (y 1) (y 2)).trans ?_)
  unfold keys
  refine congr3 (keyAt _ _ _ _ _ _) (Fin.ext ?_) (Fin.ext ?_) (Fin.ext ?_)
  · exact ((win0_13.rect_emb_val t y 0).trans (by rw [e.1]; exact Nat.zero_add _)).symm
  · exact ((win0_13.rect_emb_val t y 1).trans (by rw [e.2.1]; rfl)).symm
  · exact ((win0_13.rect_emb_val t y 2).trans (by rw [e.2.2]; exact Nat.zero_add _)).symm

theorem flushed_values (t : Fin cfg0.N) : (dats m 0 c).flushed 14 t = ((cfg0.win 14).blk t).view.read (Elt Ideal) (values m c) := by
  have e := index14 t
  rw [Value.flushed14]
  funext y
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (y : S8x4x128x256.Idx) = values m c ((win0_14.rect t).emb y)
  refine (out_value _ _ _ _ _ _ _ _ _ _ _ _ y).trans ((block_values m c t (y 0) (y 1) (y 2) (y 3)).trans ?_)
  unfold values
  have h0 : y 0 = (win0_14.rect t).emb y 0 := Fin.ext ((win0_14.rect_emb_val t y 0).trans (by rw [e.1]; exact Nat.zero_add _)).symm
  refine (congrArg (fun h => valueAt _ _ _ h _ _ _) h0).trans (congr3 (valueAt _ _ _ _) (Fin.ext ?_) (Fin.ext ?_) (Fin.ext ?_))
  · exact ((win0_14.rect_emb_val t y 1).trans (by rw [e.2.1]; rfl)).symm
  · exact ((win0_14.rect_emb_val t y 2).trans (by rw [e.2.2.1]; exact Nat.zero_add _)).symm
  · exact ((win0_14.rect_emb_val t y 3).trans (by rw [e.2.2.2]; exact Nat.zero_add _)).symm

theorem cover12 : ∀ i : S8x256x8192.Idx, ∃ t : Fin cfg0.N, (cfg0.win 12).flush t = true ∧ i ∈ ((cfg0.win 12).blk t).view.set :=
  Pipeline.Window.Covers.cover _ (by decide +kernel : (cfg0.win 12).Covers) (Memref.isWhole_whole _)
theorem cover13 : ∀ i : S8x8192x256.Idx, ∃ t : Fin cfg0.N, (cfg0.win 13).flush t = true ∧ i ∈ ((cfg0.win 13).blk t).view.set :=
  Pipeline.Window.Covers.cover _ (by decide +kernel : (cfg0.win 13).Covers) (Memref.isWhole_whole _)
theorem cover14 : ∀ i : S8x32x128x256.Idx, ∃ t : Fin cfg0.N, (cfg0.win 14).flush t = true ∧ i ∈ ((cfg0.win 14).blk t).view.set :=
  Pipeline.Window.Covers.cover _ (by decide +kernel : (cfg0.win 14).Covers) (Memref.isWhole_whole _)

theorem queries_eq : (dats m 0 c).arrAt 12 cfg0.N = queries m c :=
  (dats m 0 c).arrAt_eq_of_cover 12 _ (fun t _ => flushed_queries m c t) cover12

theorem keys_eq : (dats m 0 c).arrAt 13 cfg0.N = keys m c :=
  (dats m 0 c).arrAt_eq_of_cover 13 _ (fun t _ => flushed_keys m c t) cover13

theorem values_eq : (dats m 0 c).arrAt 14 cfg0.N = values m c :=
  (dats m 0 c).arrAt_eq_of_cover 14 _ (fun t _ => flushed_values m c t) cover14

end Results

end Cert.Kernel6Ideal.Prep

end
-- ==== Proof.PrepReference.lean ====
/- The reference of the preparation of queries, keys and values, step by step and at an index. -/
module

public import proofs.«01_k».proof.Proof.RotaryClaim
public import proofs.«01_k».proof.Proof.Gen.Reference6Ideal.Run
public import Idealize.ShloMosaic.Lib.Pointwise

@[expose] public section

set_option maxRecDepth 16384

noncomputable section

namespace Cert.Reference6Ideal.Prep

open Cert.Proof.Rotary (scaled keyRow)
open Cert.Reference6Ideal Cert.Reference6Ideal.Gen Idealize.ShloMosaic Idealize.ShloMosaic.TcCoe

/-- The query latent, normed. -/
def latentQ (x : FVec Ideal S8192x512 .f32) (g : FVec Ideal S512 .f32) : FVec Ideal S8192x512 .f32 :=
  mulf (mulf x (broadcastInDim S8192x512 ![0, 1] bcast_S8192x1_S8192x512_0_1 (Host.rsqrt (addf (Host.divf
    (broadcastInDim S8192x1 ![0] bcast_S8192_S8192x1_0 (Host.reduceAdd (mulf x x) (constant S_ .f32 0x00000000#32) reducesTo_S8192x512_S8192_d1 h_S_))
    (broadcastInDim S8192x1 ![] bcast_S_S8192x1 (constant S_ .f32 0x44000000#32))) (broadcastInDim S8192x1 ![] bcast_S_S8192x1 (constant S_ .f32 0x358637BD#32))))))
    (broadcastInDim S8192x512 ![0, 1] bcast_S1x512_S8192x512_0_1 (broadcastInDim S1x512 ![1] bcast_S512_S1x512_1 g))

/-- The latent of keys and values, normed. -/
def latentKV (x : FVec Ideal S8192x256 .f32) (g : FVec Ideal S256 .f32) : FVec Ideal S8192x256 .f32 :=
  mulf (mulf x (broadcastInDim S8192x256 ![0, 1] bcast_S8192x1_S8192x256_0_1 (Host.rsqrt (addf (Host.divf
    (broadcastInDim S8192x1 ![0] bcast_S8192_S8192x1_0 (Host.reduceAdd (mulf x x) (constant S_ .f32 0x00000000#32) reducesTo_S8192x256_S8192_d1 h_S_))
    (broadcastInDim S8192x1 ![] bcast_S_S8192x1 (constant S_ .f32 0x43800000#32))) (broadcastInDim S8192x1 ![] bcast_S_S8192x1 (constant S_ .f32 0x358637BD#32))))))
    (broadcastInDim S8192x256 ![0, 1] bcast_S1x256_S8192x256_0_1 (broadcastInDim S1x256 ![1] bcast_S256_S1x256_1 g))

/-- The heads' projected queries. -/
def projQ (l : FVec Ideal S8192x512 .f32) (w : FVec Ideal S512x1536 .f32) : FVec Ideal S8192x8x192 .f32 :=
  shapeCast S8192x8x192 (Host.dotGeneral dot_S8192x512_S512x1536_S8192x1536_1_0_0_1_n_n none l w) shapeCasts_S8192x1536_S8192x8x192

/-- The heads' projected keys and values. -/
def projKV (l : FVec Ideal S8192x256 .f32) (w : FVec Ideal S256x2048 .f32) : FVec Ideal S8192x8x256 .f32 :=
  shapeCast S8192x8x256 (Host.dotGeneral dot_S8192x256_S256x2048_S8192x2048_1_0_0_1_n_n none l w) shapeCasts_S8192x2048_S8192x8x256

/-- The heads' keys before the norm. -/
def keys (kv : FVec Ideal S8192x8x256 .f32) (p : FVec Ideal S8192x64 .f32) : FVec Ideal S8192x8x192 .f32 :=
  concatenate S8192x8x192 2 [⟨S8192x8x128, extractStridedSlice S8192x8x128 ![0, 0, 0] kv slices_S8192x8x256_S8192x8x128_0_0_0⟩,
    ⟨S8192x8x64, broadcastInDim S8192x8x64 ![0, 1, 2] bcast_S8192x1x64_S8192x8x64_0_1_2 (broadcastInDim S8192x1x64 ![0, 2] bcast_S8192x64_S8192x1x64_0_2 p)⟩]
    concatenates_S8192x8x128_S8192x8x64_S8192x8x192_d2

/-- Each head's 192 values normed. -/
def normed (x : FVec Ideal S8192x8x192 .f32) (g : FVec Ideal S192 .f32) : FVec Ideal S8192x8x192 .f32 :=
  mulf (mulf x (broadcastInDim S8192x8x192 ![0, 1, 2] bcast_S8192x8x1_S8192x8x192_0_1_2 (Host.rsqrt (addf (Host.divf
    (broadcastInDim S8192x8x1 ![0, 1] bcast_S8192x8_S8192x8x1_0_1 (Host.reduceAdd (mulf x x) (constant S_ .f32 0x00000000#32) reducesTo_S8192x8x192_S8192x8_d2 h_S_))
    (broadcastInDim S8192x8x1 ![] bcast_S_S8192x8x1 (constant S_ .f32 0x43400000#32))) (broadcastInDim S8192x8x1 ![] bcast_S_S8192x8x1 (constant S_ .f32 0x358637BD#32))))))
    (broadcastInDim S8192x8x192 ![0, 1, 2] bcast_S1x1x192_S8192x8x192_0_1_2 (broadcastInDim S1x1x192 ![2] bcast_S192_S1x1x192_2 g))

/-- The angles per position. -/
def frequencies : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- The angles. -/
def angles (p : IVec S8192 32) (f : FVec Ideal S32 .f32) : FVec Ideal S8192x32 .f32 :=
  mulf (broadcastInDim S8192x32 ![0, 1] bcast_S8192x1_S8192x32_0_1 (broadcastInDim S8192x1 ![0] bcast_S8192_S8192x1_0 (sitofp .f32 p)))
    (broadcastInDim S8192x32 ![0, 1] bcast_S1x32_S8192x32_0_1 (broadcastInDim S1x32 ![1] bcast_S32_S1x32_1 f))

/-- A table for all heads. -/
def spread (a : FVec Ideal S8192x32 .f32) : FVec Ideal S8192x8x32 .f32 :=
  broadcastInDim S8192x8x32 ![0, 1, 2] bcast_S8192x1x32_S8192x8x32_0_1_2 (broadcastInDim S8192x1x32 ![0, 2] bcast_S8192x32_S8192x1x32_0_2 a)

/-- Each head's last 64 values rotated by the angles. -/
def rotated (n : FVec Ideal S8192x8x192 .f32) (a : FVec Ideal S8192x32 .f32) : FVec Ideal S8192x8x192 .f32 :=
  concatenate S8192x8x192 2 [⟨S8192x8x128, extractStridedSlice S8192x8x128 ![0, 0, 0] n slices_S8192x8x192_S8192x8x128_0_0_0⟩,
    ⟨S8192x8x64, concatenate S8192x8x64 2
      [⟨S8192x8x32, subf (mulf (extractStridedSlice S8192x8x32 ![0, 0, 0] (extractStridedSlice S8192x8x64 ![0, 0, 128] n slices_S8192x8x192_S8192x8x64_0_0_128) slices_S8192x8x64_S8192x8x32_0_0_0) (spread (Host.cos a)))
          (mulf (extractStridedSlice S8192x8x32 ![0, 0, 32] (extractStridedSlice S8192x8x64 ![0, 0, 128] n slices_S8192x8x192_S8192x8x64_0_0_128) slices_S8192x8x64_S8192x8x32_0_0_32) (spread (Host.sin a)))⟩,
       ⟨S8192x8x32, addf (mulf (extractStridedSlice S8192x8x32 ![0, 0, 0] (extractStridedSlice S8192x8x64 ![0, 0, 128] n slices_S8192x8x192_S8192x8x64_0_0_128) slices_S8192x8x64_S8192x8x32_0_0_0) (spread (Host.sin a)))
          (mulf (extractStridedSlice S8192x8x32 ![0, 0, 32] (extractStridedSlice S8192x8x64 ![0, 0, 128] n slices_S8192x8x192_S8192x8x64_0_0_128) slices_S8192x8x64_S8192x8x32_0_0_32) (spread (Host.cos a)))⟩]
      concatenates_S8192x8x32_S8192x8x32_S8192x8x64_d2⟩] concatenates_S8192x8x128_S8192x8x64_S8192x8x192_d2

/-- The queries' divisor, the root of 192 times the logarithm of 2. -/
def divisor : FVec Ideal S_ .f32 := mulf (Host.sqrt (constant S_ .f32 0x43400000#32)) (Host.log (constant S_ .f32 0x40000000#32))

/-- The queries as attention reads them. -/
def queriesOut (r : FVec Ideal S8192x8x192 .f32) : FVec Ideal S8x256x8192 .bf16 :=
  truncf .bf16 (pad S8x256x8192 ![0, 0, 0] ![0, 64, 0] ![0, 0, 0] (transpose S8x192x8192 [1, 2, 0]
    (Host.divf r (broadcastInDim S8192x8x192 ![] bcast_S_S8192x8x192 divisor)) transposes_S8192x8x192_S8x192x8192_1_2_0)
    (sitofp .f32 (constantI S_ 32 0#32)) pads_S8x192x8192_S8x256x8192_000_0640_000 h_S_) bitsLt_bf16_f32

/-- The keys as attention reads them. -/
def keysOut (r : FVec Ideal S8192x8x192 .f32) : FVec Ideal S8x8192x256 .bf16 :=
  truncf .bf16 (pad S8x8192x256 ![0, 0, 0] ![0, 0, 64] ![0, 0, 0] (transpose S8x8192x192 [1, 0, 2] r transposes_S8192x8x192_S8x8192x192_1_0_2)
    (sitofp .f32 (constantI S_ 32 0#32)) pads_S8x8192x192_S8x8192x256_000_000_0640 h_S_) bitsLt_bf16_f32

/-- The values as attention reads them. -/
def valuesOut (kv : FVec Ideal S8192x8x256 .f32) : FVec Ideal S8x32x128x256 .bf16 :=
  truncf .bf16 (transpose S8x32x128x256 [2, 0, 3, 1] (shapeCast S32x256x8x128 (extractStridedSlice S8192x8x128 ![0, 0, 128] kv
    slices_S8192x8x256_S8192x8x128_0_0_128) shapeCasts_S8192x8x128_S32x256x8x128) transposes_S32x256x8x128_S8x32x128x256_2_0_3_1) bitsLt_bf16_f32

section Run

variable (m : (ℓ : Loc nD τ sig) → Buf (Elt Ideal) ℓ) (c : Dev nD)

theorem queries_eq : Value.res_out0 m c = queriesOut (rotated (normed (projQ (latentQ (m ((c.tc : Thread nD τ).loc main_arg0)) (m ((c.tc : Thread nD τ).loc main_arg4))) (m ((c.tc : Thread nD τ).loc main_arg5))) (m ((c.tc : Thread nD τ).loc main_arg8)))
    (angles (m ((c.tc : Thread nD τ).loc main_arg3)) frequencies)) := rfl

theorem keys_eq : Value.res_out1 m c = keysOut (rotated (normed (keys (projKV (latentKV (m ((c.tc : Thread nD τ).loc main_arg1)) (m ((c.tc : Thread nD τ).loc main_arg6))) (m ((c.tc : Thread nD τ).loc main_arg7))) (m ((c.tc : Thread nD τ).loc main_arg2))) (m ((c.tc : Thread nD τ).loc main_arg9)))
    (angles (m ((c.tc : Thread nD τ).loc main_arg3)) frequencies)) := rfl

end Run

/-! ## The steps at an index -/

theorem latentQ_apply (x : FVec Ideal S8192x512 .f32) (g : FVec Ideal S512 .f32) (s : Fin 8192) (e : Fin 512) :
    latentQ x g (ix2 s e) = scaled (Ideal.ofBits .f32 0x44000000#32) (fun i => x (ix2 s i)) (fun i => g (ix1 i)) e := by
  pointwise [latentQ]
  rfl

theorem latentKV_apply (x : FVec Ideal S8192x256 .f32) (g : FVec Ideal S256 .f32) (s : Fin 8192) (e : Fin 256) :
    latentKV x g (ix2 s e) = scaled (Ideal.ofBits .f32 0x43800000#32) (fun i => x (ix2 s i)) (fun i => g (ix1 i)) e := by
  pointwise [latentKV]
  rfl

theorem projQ_apply (l : FVec Ideal S8192x512 .f32) (w : FVec Ideal S512x1536 .f32) (s : Fin 8192) (h : Fin 8) (j : Fin 192) :
    projQ l w (ix3 s h j) = ∑ e, l (ix2 s e) * w (ix2 e ⟨h.val * 192 + j.val, by omega⟩) := by
  pointwise [projQ]

theorem projKV_apply (l : FVec Ideal S8192x256 .f32) (w : FVec Ideal S256x2048 .f32) (s : Fin 8192) (h : Fin 8) (j : Fin 256) :
    projKV l w (ix3 s h j) = ∑ e, l (ix2 s e) * w (ix2 e ⟨h.val * 256 + j.val, by omega⟩) := by
  pointwise [projKV]

theorem keys_apply (kv : FVec Ideal S8192x8x256 .f32) (p : FVec Ideal S8192x64 .f32) (s : Fin 8192) (h : Fin 8) (j : Fin 192) :
    keys kv p (ix3 s h j) = keyRow (fun i => kv (ix3 s h ⟨i.val, by omega⟩)) (fun i => p (ix2 s i)) j := by
  pointwise [keys]
  rfl

theorem normed_apply (x : FVec Ideal S8192x8x192 .f32) (g : FVec Ideal S192 .f32) (s : Fin 8192) (h : Fin 8) (j : Fin 192) :
    normed x g (ix3 s h j) = scaled (Ideal.ofBits .f32 0x43400000#32) (fun i => x (ix3 s h i)) (fun i => g (ix1 i)) j := by
  pointwise [normed]
  rfl

/-- The angle of pair `i` at position `p`. -/
def angle (f : FVec Ideal S32 .f32) (p : BitVec 32) (i : Fin 32) : EReal := FloatOps.sitofp (F := Ideal) FTy.f32 p * f (ix1 i)

theorem rotated_apply (n : FVec Ideal S8192x8x192 .f32) (p : IVec S8192 32) (f : FVec Ideal S32 .f32) (s : Fin 8192) (h : Fin 8)
    (j : Fin 192) : rotated n (angles p f) (ix3 s h j)
      = Cert.Proof.Rotary.rotated (fun i => n (ix3 s h i)) (fun i => Ideal.cos (angle f (p (ix1 s)) i)) (fun i => Ideal.sin (angle f (p (ix1 s)) i)) j := by
  pointwise [rotated, spread, angles]
  rfl

theorem padding : FloatOps.sitofp (F := Ideal) FTy.f32 0#32 = (0 : EReal) := by
  show (((0#32).toInt : ℝ) : EReal) = 0
  rw [show (0#32).toInt = 0 from rfl, Int.cast_zero, EReal.coe_zero]

theorem queriesOut_apply (r : FVec Ideal S8192x8x192 .f32) (h : Fin 8) (j : Fin 256) (s : Fin 8192) :
    queriesOut r (ix3 h j s) = if hj : j.val < 192 then Ideal.div (r (ix3 s h ⟨j.val, hj⟩)) Cert.Proof.Rotary.divisor else 0 := by
  pointwise [queriesOut, divisor]
  rw [padding]
  rfl

theorem keysOut_apply (r : FVec Ideal S8192x8x192 .f32) (h : Fin 8) (s : Fin 8192) (j : Fin 256) :
    keysOut r (ix3 h s j) = if hj : j.val < 192 then r (ix3 s h ⟨j.val, hj⟩) else 0 := by
  pointwise [keysOut]
  rw [padding]

theorem valuesOut_apply (kv : FVec Ideal S8192x8x256 .f32) (h : Fin 8) (b : Fin 32) (j : Fin 128) (r : Fin 256) :
    valuesOut kv (ix4 h b j r) = kv (ix3 ⟨b.val * 256 + r.val, by omega⟩ h ⟨128 + j.val, by omega⟩) := by
  pointwise [valuesOut]

end Cert.Reference6Ideal.Prep

end
-- ==== Proof.PrepProof.lean ====
/-
  The claims about the preparation of queries, keys and values: it runs, its arguments end as they began and its counters
  at zero, its two named constants are what their numbers round, and over the extended reals its three results are the
  reference's, at any arguments.
-/
module

public import proofs.«01_k».proof.Defs
public import proofs.«01_k».proof.Proof.PrepValue
public import proofs.«01_k».proof.Proof.PrepReference
public import proofs.«01_k».proof.Proof.Gen.Kernel6
public import proofs.«01_k».proof.Proof.Gen.Kernel6.Frame

@[expose] public section

set_option maxRecDepth 16384

noncomputable section

namespace Cert.Proof.Prep

open Cert.Kernel6Ideal Idealize.ShloMosaic Idealize.ShloMosaic.TcCoe Idealize.SL.Sem
open Cert.Kernel6Ideal.Prep (queryAt keyAt valueAt)
open Cert.Reference6Ideal.Prep

theorem queries_apply (x : FVec Ideal S8192x512 .f32) (p : IVec S8192 32) (g : FVec Ideal S512 .f32) (w : FVec Ideal S512x1536 .f32)
    (gq : FVec Ideal S192 .f32) (h : Fin 8) (j : Fin 256) (s : Fin 8192) :
    queriesOut (rotated (normed (projQ (latentQ x g) w) gq) (angles p frequencies)) (ix3 h j s) = queryAt x p g w gq h j s := by
  rw [queriesOut_apply]
  simp only [rotated_apply, normed_apply, projQ_apply, latentQ_apply]
  rfl

theorem keys_apply (x : FVec Ideal S8192x256 .f32) (q : FVec Ideal S8192x64 .f32) (p : IVec S8192 32) (g : FVec Ideal S256 .f32)
    (w : FVec Ideal S256x2048 .f32) (gk : FVec Ideal S192 .f32) (h : Fin 8) (s : Fin 8192) (j : Fin 256) :
    keysOut (rotated (normed (keys (projKV (latentKV x g) w) q) gk) (angles p frequencies)) (ix3 h s j) = keyAt x q p g w gk h s j := by
  rw [keysOut_apply]
  simp only [rotated_apply, normed_apply, Cert.Reference6Ideal.Prep.keys_apply, projKV_apply, latentKV_apply]
  rfl

theorem values_apply (x : FVec Ideal S8192x256 .f32) (g : FVec Ideal S256 .f32) (w : FVec Ideal S256x2048 .f32)
    (h : Fin 8) (b : Fin 32) (j : Fin 128) (r : Fin 256) :
    valuesOut (projKV (latentKV x g) w) (ix4 h b j r) = valueAt x g w h b j r := by
  rw [valuesOut_apply]
  simp only [projKV_apply, latentKV_apply]
  rfl

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem preserves : Cert.preserves_Kernel6_Kernel6Ideal :=
  ⟨IdealRules.named_const.statement Cert.Kernel6Ideal.κ "query_scale" .f32 0x3DD53B95#32 _ rfl,
    IdealRules.named_const.statement Cert.Kernel6Ideal.κ "inv_192" .f32 0x3BAAAAAB#32 _ rfl⟩

theorem algebraic : Cert.algebraic_Kernel6Ideal_Reference6Ideal := by
  intro m g m' g' _ hargs
  refine ⟨fun c => Cert.Kernel6Ideal.Prep.queries m c, fun c => Cert.Kernel6Ideal.Prep.keys m c, fun c => Cert.Kernel6Ideal.Prep.values m c,
    (θ_run Cert.Kernel6Ideal.defs _ _).mono
    (fun r h c => ⟨(h c).1.trans (Cert.Kernel6Ideal.Prep.queries_eq m c), (h c).2.1.trans (Cert.Kernel6Ideal.Prep.keys_eq m c),
      (h c).2.2.1.trans (Cert.Kernel6Ideal.Prep.values_eq m c), (h c).2.2.2⟩)
    (Cert.Kernel6Ideal.Value.run_blocks m g), ?_⟩
  refine (θ_run Cert.Reference6Ideal.defs _ _).mono (fun r h c => ⟨(h c).1.trans ((queries_eq m' c).trans ?_),
    (h c).2.1.trans ((keys_eq m' c).trans ?_), (h c).2.2.1.trans ?_, (h c).2.2.2⟩)
    (Cert.Reference6Ideal.Value.run (F := Ideal) m' g')
  · obtain ⟨a0, a1, a2, a3, a4, a5, a6, a7, a8, a9⟩ := hargs c
    rw [a0, a3, a4, a5, a8]
    funext i
    exact (congrArg _ (ix3_eta i).symm).trans (queries_apply _ _ _ _ _ (i 0) (i 1) (i 2))
  · obtain ⟨a0, a1, a2, a3, a4, a5, a6, a7, a8, a9⟩ := hargs c
    rw [a1, a2, a3, a6, a7, a9]
    funext i
    exact (congrArg _ (ix3_eta i).symm).trans (keys_apply _ _ _ _ _ _ (i 0) (i 1) (i 2))
  · obtain ⟨a0, a1, a2, a3, a4, a5, a6, a7, a8, a9⟩ := hargs c
    rw [a1, a6, a7]
    show valuesOut (projKV (latentKV _ _) _) = Cert.Kernel6Ideal.Prep.values m c
    funext i
    exact (congrArg _ (ix4_eta i).symm).trans (values_apply _ _ _ (i 0) (i 1) (i 2) (i 3))

end Cert.Proof.Prep

end
-- ==== Proof.Conv.lean ====
/-
  The convolution of five taps along one column, and the two ways of writing its gate: the kernel's through a hyperbolic
  tangent of half the sum, the reference's through a logistic. Over real sums they agree.
-/
module

public import Idealize.ShloMosaic.Lib.Pipeline.Value
public import Idealize.ShloMosaic.Lib.Pipeline.ValueKit
public import Idealize.ShloMosaic.Lib.Pointwise
public import proofs.«01_k».proof.Proof.Softmax

@[expose] public section

set_option maxRecDepth 16384

noncomputable section

namespace Cert.Proof.Conv

open Idealize.ShloMosaic

/-- A column between two halos of eight zeros. -/
def padded (x : Fin 8192 → EReal) (n : ℕ) : EReal := if h : 8 ≤ n ∧ n < 8200 then x ⟨n - 8, by omega⟩ else 0

/-- The bias and the five taps around place `n`, in the kernel's order. -/
def filter (x : Fin 8192 → EReal) (w : Fin 5 → EReal) (b : EReal) (n : ℕ) : EReal :=
  b + w 0 * padded x (n + 6) + w 1 * padded x (n + 7) + w 2 * padded x (n + 8) + w 3 * padded x (n + 9) + w 4 * padded x (n + 10)

/-- A whole buffer read from its corner. -/
theorem whole {sig : RefSig} {κ : Kind} {sp : Space} {Val : EltTy → Type} {A B : ℕ} {e : EltTy} (arg : Memref sig κ sp ⟨2, ![A, B]⟩ e)
    (h : arg.IsWhole) (x : Shape.Idx ⟨2, ![A, B]⟩ → Val e)
    (inb : ∀ a, (![0, 0] : Fin 2 → ℕ) a + (![A, B] : Fin 2 → ℕ) a ≤ (⟨2, ![A, B]⟩ : Shape).size a) (i : Shape.Idx ⟨2, ![A, B]⟩) :
    View.readAt Val arg.view (Rect.unit (s := ⟨2, ![A, B]⟩) ![0, 0] ![A, B] inb).toLoadRect (h.unread x) i = x i := by
  refine (congrFun (h.read_unread x) _).trans (congrArg x (funext fun a => Fin.ext ?_))
  match a with
  | ⟨0, _⟩ => exact (Rect.idx_unit_val (s := ⟨2, ![A, B]⟩) ![0, 0] ![A, B] inb i 0).trans (Nat.zero_add _)
  | ⟨1, _⟩ => exact (Rect.idx_unit_val (s := ⟨2, ![A, B]⟩) ![0, 0] ![A, B] inb i 1).trans (Nat.zero_add _)

/-- The convolution of column `n`, whose weights and bias stand `o` columns further on. -/
def convolved (o : ℕ) (ho : o ≤ 1024) (x : FVec Ideal ⟨2, ![8192, 1024]⟩ .f32) (w : FVec Ideal ⟨2, ![5, 2048]⟩ .f32)
    (b : FVec Ideal ⟨1, ![2048]⟩ .f32) (s : ℕ) (n : Fin 1024) : EReal :=
  filter (fun s => x (ix2 s n)) (fun j => w (ix2 j ⟨o + n.val, by omega⟩)) (b (ix1 ⟨o + n.val, by omega⟩)) s

/-- The taps as the reference adds them up. -/
theorem taps (x : Fin 8192 → EReal) (w : Fin 5 → EReal) (b : EReal) (n : ℕ) :
    0 + padded x (n + 6) * w 0 + padded x (n + 7) * w 1 + padded x (n + 8) * w 2 + padded x (n + 9) * w 3 + padded x (n + 10) * w 4 + b
      = filter x w b n := by
  unfold filter
  rw [zero_add, mul_comm (w 0), mul_comm (w 1), mul_comm (w 2), mul_comm (w 3), mul_comm (w 4), add_comm]
  simp only [add_assoc]

/-- The kernel's gate: `h` is half of what the result is scaled by. -/
def gate (h a : EReal) : EReal := a * h + a * h * Ideal.tanh (a * Ideal.ofBits .f32 0x3F000000#32)

theorem padded_real (x : Fin 8192 → EReal) (x' : Fin 8192 → ℝ) (hx : ∀ s, x s = x' s) (n : ℕ) : ∃ r : ℝ, padded x n = r := by
  unfold padded
  split
  · exact ⟨_, hx _⟩
  · exact ⟨0, rfl⟩

theorem filter_real (x : Fin 8192 → EReal) (w : Fin 5 → EReal) (b : EReal) (hx : ∀ s, ∃ r : ℝ, x s = r)
    (hw : ∀ j, ∃ r : ℝ, w j = r) (hb : ∃ r : ℝ, b = r) (n : ℕ) : ∃ r : ℝ, filter x w b n = r := by
  choose x' hx using hx
  choose w' hw using hw
  obtain ⟨b', rfl⟩ := hb
  choose p hp using padded_real x x' hx
  refine ⟨b' + w' 0 * p (n + 6) + w' 1 * p (n + 7) + w' 2 * p (n + 8) + w' 3 * p (n + 9) + w' 4 * p (n + 10), ?_⟩
  simp only [filter, hw, hp, EReal.coe_add, EReal.coe_mul]

theorem word_half : Ideal.ofBits .f32 0x3F000000#32 = ((1 / 2 : ℝ) : EReal) := by
  simp [Ideal.ofBits, Ideal.ieee, -EReal.coe_mul]; norm_num

theorem word_32nd : Ideal.ofBits .f32 0x3D000000#32 = ((1 / 32 : ℝ) : EReal) := by
  simp [Ideal.ofBits, Ideal.ieee, -EReal.coe_mul]; norm_num

theorem word_16th : Ideal.ofBits .f32 0x3D800000#32 = ((1 / 16 : ℝ) : EReal) := by
  simp [Ideal.ofBits, Ideal.ieee, -EReal.coe_mul]; norm_num

theorem word_1 : Ideal.ofBits .f32 0x3F800000#32 = ((1 : ℝ) : EReal) := by
  simp [Ideal.ofBits, Ideal.ieee, -EReal.coe_mul]; norm_num

/-- The reference's gate. -/
def silu (a : EReal) : EReal :=
  a * Ideal.div (Ideal.ofBits .f32 0x3F800000#32) (Ideal.ofBits .f32 0x3F800000#32 + Ideal.exp (-a))

theorem half_tanh (r : ℝ) : 1 / 2 + 1 / 2 * Real.tanh (r * (1 / 2)) = 1 / (1 + Real.exp (-r)) := by
  have e : Real.exp (-r) = Real.exp (-(r * (1 / 2))) * Real.exp (-(r * (1 / 2))) := by rw [← Real.exp_add]; ring_nf
  have p : Real.exp (r * (1 / 2)) * Real.exp (-(r * (1 / 2))) = 1 := by rw [← Real.exp_add]; simp
  rw [Real.tanh_eq_sinh_div_cosh, Real.sinh_eq, Real.cosh_eq, e]
  have h1 := Real.exp_pos (r * (1 / 2))
  have h2 := Real.exp_pos (-(r * (1 / 2)))
  generalize Real.exp (r * (1 / 2)) = u at *
  generalize Real.exp (-(r * (1 / 2))) = v at *
  field_simp
  nlinarith [p]

theorem silu_real (r : ℝ) : silu r = ((r * (1 / (1 + Real.exp (-r))) : ℝ) : EReal) := by
  have h : (0 : ℝ) < 1 + Real.exp (-r) := by have := Real.exp_pos (-r); linarith
  unfold silu
  rw [word_1, show Ideal.exp (-(r : EReal)) = ((Real.exp (-r) : ℝ) : EReal) from rfl, ← EReal.coe_add,
    Ideal.div_coe h.ne', ← EReal.coe_mul, ← EReal.coe_mul, one_mul]

theorem gate_real (r t : ℝ) : gate ((1 / 2 * t : ℝ) : EReal) r = ((r * (1 / (1 + Real.exp (-r))) * t : ℝ) : EReal) := by
  unfold gate
  rw [word_half, ← EReal.coe_mul, ← EReal.coe_mul, show Ideal.tanh ((r * (1 / 2) : ℝ) : EReal) = ((Real.tanh (r * (1 / 2)) : ℝ) : EReal) from rfl,
    ← EReal.coe_mul, ← EReal.coe_add, ← half_tanh]
  congr 1; ring

theorem gate_half (a : EReal) (h : ∃ r : ℝ, a = r) : gate (Ideal.ofBits .f32 0x3F000000#32) a = silu a := by
  obtain ⟨r, rfl⟩ := h
  rw [word_half, silu_real, show (1 / 2 : ℝ) = 1 / 2 * 1 by norm_num, gate_real, mul_one]

theorem gate_32nd (a : EReal) (h : ∃ r : ℝ, a = r) :
    gate (Ideal.ofBits .f32 0x3D000000#32) a = silu a * Ideal.ofBits .f32 0x3D800000#32 := by
  obtain ⟨r, rfl⟩ := h
  rw [word_32nd, word_16th, silu_real, show (1 / 32 : ℝ) = 1 / 2 * (1 / 16) by norm_num, gate_real, ← EReal.coe_mul]

/-- The scratch after its three stores holds the columns, padded. -/
theorem scratch (x : (⟨2, ![8192, 128]⟩ : Shape).Idx → EReal) (z z' : (⟨2, ![8, 128]⟩ : Shape).Idx → EReal) (hz : ∀ i, z i = 0)
    (hz' : ∀ i, z' i = 0) (inb1 : ∀ a, (![8, 0] : Fin 2 → ℕ) a + (![8192, 128] : Fin 2 → ℕ) a ≤ (⟨2, ![8208, 128]⟩ : Shape).size a)
    (inb2 : ∀ a, (![8200, 0] : Fin 2 → ℕ) a + (![8, 128] : Fin 2 → ℕ) a ≤ (⟨2, ![8208, 128]⟩ : Shape).size a)
    (inb3 : ∀ a, (![0, 0] : Fin 2 → ℕ) a + (![8, 128] : Fin 2 → ℕ) a ≤ (⟨2, ![8208, 128]⟩ : Shape).size a)
    (y : (⟨2, ![8208, 128]⟩ : Shape).Idx) :
    View.canon (Val := Elt Ideal) (e := .f32) [⟨Rect.unit (s := ⟨2, ![8208, 128]⟩) ![8, 0] ![8192, 128] inb1, x⟩,
      ⟨Rect.unit (s := ⟨2, ![8208, 128]⟩) ![8200, 0] ![8, 128] inb2, z⟩, ⟨Rect.unit (s := ⟨2, ![8208, 128]⟩) ![0, 0] ![8, 128] inb3, z'⟩] y
      = padded (fun s => x (ix2 s (y 1))) (y 0).val := by
  have l0 : (y 0).val < 8208 := (y 0).isLt
  have l1 : (y 1).val < 128 := (y 1).isLt
  refine View.canon_apply_of_pieces (Val := Elt Ideal) (e := .f32)
    (fun y : (⟨2, ![8208, 128]⟩ : Shape).Idx => padded (fun s => x (ix2 s (y 1))) (y 0).val) _ (fun p hp u => ?_) y ?_
  · simp only [List.mem_cons, List.not_mem_nil, or_false] at hp
    rcases hp with rfl | rfl | rfl
    · have h0 : ((Rect.unit (s := ⟨2, ![8208, 128]⟩) ![8, 0] ![8192, 128] inb1).emb u 0).val = 8 + (u 0).val :=
        Rect.idx_unit_val (s := ⟨2, ![8208, 128]⟩) ![8, 0] ![8192, 128] inb1 u 0
      have h1 : (Rect.unit (s := ⟨2, ![8208, 128]⟩) ![8, 0] ![8192, 128] inb1).emb u 1 = u 1 :=
        Fin.ext ((Rect.idx_unit_val (s := ⟨2, ![8208, 128]⟩) ![8, 0] ![8192, 128] inb1 u 1).trans (Nat.zero_add _))
      have lu : (u 0).val < 8192 := (u 0).isLt
      show x u = padded (fun s => x (ix2 s ((Rect.unit (s := ⟨2, ![8208, 128]⟩) ![8, 0] ![8192, 128] inb1).emb u 1)))
        ((Rect.unit (s := ⟨2, ![8208, 128]⟩) ![8, 0] ![8192, 128] inb1).emb u 0).val
      rw [h0, h1]
      unfold padded
      rw [dif_pos ⟨by omega, by omega⟩]
      refine congrArg x (funext fun k => ?_)
      match k with
      | ⟨0, _⟩ => exact Fin.ext (by show (u 0).val = 8 + (u 0).val - 8; omega)
      | ⟨1, _⟩ => rfl
    · have h0 : ((Rect.unit (s := ⟨2, ![8208, 128]⟩) ![8200, 0] ![8, 128] inb2).emb u 0).val = 8200 + (u 0).val :=
        Rect.idx_unit_val (s := ⟨2, ![8208, 128]⟩) ![8200, 0] ![8, 128] inb2 u 0
      show z u = padded _ ((Rect.unit (s := ⟨2, ![8208, 128]⟩) ![8200, 0] ![8, 128] inb2).emb u 0).val
      rw [h0, hz]
      unfold padded
      rw [dif_neg (by omega)]
    · have h0 : ((Rect.unit (s := ⟨2, ![8208, 128]⟩) ![0, 0] ![8, 128] inb3).emb u 0).val = 0 + (u 0).val :=
        Rect.idx_unit_val (s := ⟨2, ![8208, 128]⟩) ![0, 0] ![8, 128] inb3 u 0
      have lu : (u 0).val < 8 := (u 0).isLt
      show z' u = padded _ ((Rect.unit (s := ⟨2, ![8208, 128]⟩) ![0, 0] ![8, 128] inb3).emb u 0).val
      rw [h0, hz']
      unfold padded
      rw [dif_neg (by omega)]
  · by_cases c1 : (y 0).val < 8
    · refine ⟨_, List.mem_cons_of_mem _ (List.mem_cons_of_mem _ (List.mem_cons_self ..)), ?_⟩
      refine (Rect.mem_set_unit (s := ⟨2, ![8208, 128]⟩) (inb := inb3)).2 fun a => ?_
      match a with
      | ⟨0, _⟩ => exact ⟨Nat.zero_le _, by show (y 0).val < 0 + 8; omega⟩
      | ⟨1, _⟩ => exact ⟨Nat.zero_le _, by show (y 1).val < 0 + 128; omega⟩
    · by_cases c2 : (y 0).val < 8200
      · refine ⟨_, List.mem_cons_self .., ?_⟩
        refine (Rect.mem_set_unit (s := ⟨2, ![8208, 128]⟩) (inb := inb1)).2 fun a => ?_
        match a with
        | ⟨0, _⟩ => exact ⟨by show 8 ≤ (y 0).val; omega, by show (y 0).val < 8 + 8192; omega⟩
        | ⟨1, _⟩ => exact ⟨Nat.zero_le _, by show (y 1).val < 0 + 128; omega⟩
      · refine ⟨_, List.mem_cons_of_mem _ (List.mem_cons_self ..), ?_⟩
        refine (Rect.mem_set_unit (s := ⟨2, ![8208, 128]⟩) (inb := inb2)).2 fun a => ?_
        match a with
        | ⟨0, _⟩ => exact ⟨by show 8200 ≤ (y 0).val; omega, by show (y 0).val < 8200 + 8; omega⟩
        | ⟨1, _⟩ => exact ⟨Nat.zero_le _, by show (y 1).val < 0 + 128; omega⟩

end Cert.Proof.Conv

end
-- ==== Proof.ConvQ.lean ====
/-
  The queries' convolution over the extended reals, a block of 128 columns at a time: the block is stored between two halos
  of zeros, and each 256 rows of the result are read from it at five offsets.
-/
module

public import proofs.«01_k».proof.Proof.Gen.Kernel7Ideal.Value
public import proofs.«01_k».proof.Proof.Conv

@[expose] public section

set_option maxRecDepth 16384

noncomputable section

namespace Cert.Proof.ConvQ

open Cert.Kernel7Ideal Cert.Kernel7Ideal.Gen Cert.Proof.Conv
open Idealize.ShloMosaic Idealize.ShloMosaic.TcCoe Idealize.ShloMosaic.Tactic

section Block

variable (c : Dev nD) (arg1 : Memref sig .tc .vmem S8192x128 .bf16) (harg1 : arg1.IsWhole)
  (arg2 : Memref sig .tc .vmem S5x128 .f32) (harg2 : arg2.IsWhole) (arg3 : Memref sig .tc .vmem S1x128 .f32) (harg3 : arg3.IsWhole)
  (arg5 : Memref sig .tc .vmem S8208x128 .f32)
  (x0 : Vec Ideal S8192x128 .bf16) (x1 : Vec Ideal S5x128 .f32) (x2 : Vec Ideal S1x128 .f32)

/-- 256 rows of the scratch, from row `o`. -/
def rows (o : ℕ) (inb : ∀ a, (![o, 0] : Fin 2 → ℕ) a + S256x128.size a ≤ S8208x128.size a) : FVec Ideal S256x128 .f32 :=
  arg5.view.readCov (kernelRun0_A.sl.HS0_3 c arg1 harg1 x0) (Rect.unit (s := S8208x128) ![o, 0] S256x128.size inb).toLoadRect

theorem halo_top (i : S8x128.Idx) : k0_pay3 (F := Ideal) i = 0 := by
  pointwise [k0_pay3, k0_pay2]

theorem halo_bottom (i : S8x128.Idx) : k0_pay4 (F := Ideal) i = 0 := by
  pointwise [k0_pay4, k0_pay2]

theorem widened (v : Vec Ideal S8192x128 .bf16) (i : S8192x128.Idx) : k0_pay5 (F := Ideal) v i = v i := by
  pointwise [k0_pay5]

theorem rows_apply (o : ℕ) (inb : ∀ a, (![o, 0] : Fin 2 → ℕ) a + S256x128.size a ≤ S8208x128.size a) (r : Fin 256) (l : Fin 128) :
    rows c arg1 harg1 arg5 x0 o inb (ix2 r l) = padded (fun s => x0 (ix2 s l)) (o + r.val) := by
  unfold rows
  rw [View.readCov_eq_canon']
  refine (scratch _ _ _ halo_bottom halo_top inb_S8208x128_S8192x128_8_0 inb_S8208x128_S8x128_8200_0 inb_S8208x128_S8x128_0_0 _).trans ?_
  have h0 : ((Rect.unit (s := S8208x128) ![o, 0] S256x128.size inb).emb (ix2 r l) 0).val = o + r.val :=
    Rect.idx_unit_val (s := S8208x128) ![o, 0] S256x128.size inb (ix2 r l) 0
  have h1 : (Rect.unit (s := S8208x128) ![o, 0] S256x128.size inb).emb (ix2 r l) 1 = l :=
    Fin.ext ((Rect.idx_unit_val (s := S8208x128) ![o, 0] S256x128.size inb (ix2 r l) 1).trans (Nat.zero_add _))
  refine congrArg₂ padded (funext fun s => ?_) h0
  refine (widened _ _).trans ((whole arg1 harg1 x0 _ _).trans ?_)
  exact congrArg (fun q => x0 (ix2 s q)) h1

/-- 256 rows of the result. -/
def chunk (w : Vec Ideal S5x128 .f32) (b : Vec Ideal S1x128 .f32) (l0 l1 l2 l3 l4 : Vec Ideal S256x128 .f32) : FVec Ideal S256x128 .bf16 :=
  k0_pay12 w (k0_pay6 b) l0 l1 l2 l3 l4

theorem chunk_apply (w : Vec Ideal S5x128 .f32) (b : Vec Ideal S1x128 .f32) (l0 l1 l2 l3 l4 : Vec Ideal S256x128 .f32) (r : Fin 256)
    (l : Fin 128) : chunk w b l0 l1 l2 l3 l4 (ix2 r l) = gate (Ideal.ofBits .f32 0x3F000000#32)
      (b (ix2 0 l) + w (ix2 0 l) * l0 (ix2 r l) + w (ix2 1 l) * l1 (ix2 r l) + w (ix2 2 l) * l2 (ix2 r l)
        + w (ix2 3 l) * l3 (ix2 r l) + w (ix2 4 l) * l4 (ix2 r l)) := by
  unfold gate
  pointwise [chunk, k0_pay12, k0_pay6]

/-- What a block of columns gives at row `n` and column `l` of the block. -/
def column (n : ℕ) (l : Fin 128) : EReal :=
  gate (Ideal.ofBits .f32 0x3F000000#32) (filter (fun s => x0 (ix2 s l)) (fun j => x1 (ix2 j l)) (x2 (ix2 0 l)) n)

theorem piece_value (o : ℕ) (inb : ∀ a, (![o, 0] : Fin 2 → ℕ) a + (![256, 128] : Fin 2 → ℕ) a ≤ S8192x128.size a)
    (i6 : ∀ a, (![o + 6, 0] : Fin 2 → ℕ) a + S256x128.size a ≤ S8208x128.size a)
    (i7 : ∀ a, (![o + 7, 0] : Fin 2 → ℕ) a + S256x128.size a ≤ S8208x128.size a)
    (i8 : ∀ a, (![o + 8, 0] : Fin 2 → ℕ) a + S256x128.size a ≤ S8208x128.size a)
    (i9 : ∀ a, (![o + 9, 0] : Fin 2 → ℕ) a + S256x128.size a ≤ S8208x128.size a)
    (i10 : ∀ a, (![o + 10, 0] : Fin 2 → ℕ) a + S256x128.size a ≤ S8208x128.size a) (x : S256x128.Idx) :
    chunk (kernelRun0_A.sl.r c arg2 harg2 x1)
        (View.readAt (Elt Ideal) arg3.view (Rect.unit ![0, 0] S1x128.size inb_S1x128_S1x128_0_0).toLoadRect (harg3.unread x2))
        (rows c arg1 harg1 arg5 x0 (o + 6) i6) (rows c arg1 harg1 arg5 x0 (o + 7) i7) (rows c arg1 harg1 arg5 x0 (o + 8) i8)
        (rows c arg1 harg1 arg5 x0 (o + 9) i9) (rows c arg1 harg1 arg5 x0 (o + 10) i10) x
      = column x0 x1 x2 ((Rect.unit (s := S8192x128) ![o, 0] ![256, 128] inb).emb x 0).val
        ((Rect.unit (s := S8192x128) ![o, 0] ![256, 128] inb).emb x 1) := by
  have h0 : ((Rect.unit (s := S8192x128) ![o, 0] ![256, 128] inb).emb x 0).val = o + (x 0).val :=
    Rect.idx_unit_val (s := S8192x128) ![o, 0] ![256, 128] inb x 0
  have h1 : (Rect.unit (s := S8192x128) ![o, 0] ![256, 128] inb).emb x 1 = x 1 :=
    Fin.ext ((Rect.idx_unit_val (s := S8192x128) ![o, 0] ![256, 128] inb x 1).trans (Nat.zero_add _))
  rw [h0, h1]
  refine (congrArg _ (ix2_eta x).symm).trans ((chunk_apply _ _ _ _ _ _ _ (x 0) (x 1)).trans ?_)
  unfold column filter kernelRun0_A.sl.r
  have tap (j : Fin 5) (d : ℕ) (id : ∀ a, (![o + d, 0] : Fin 2 → ℕ) a + S256x128.size a ≤ S8208x128.size a) :
      (View.readAt (Elt Ideal) arg2.view (Rect.unit ![0, 0] S5x128.size inb_S5x128_S5x128_0_0).toLoadRect (harg2.unread x1) (ix2 j (x 1)) : EReal)
          * rows c arg1 harg1 arg5 x0 (o + d) id (ix2 (x 0) (x 1))
        = x1 (ix2 j (x 1)) * padded (fun s => x0 (ix2 s (x 1))) (o + (x 0).val + d) :=
    congrArg₂ (· * ·) (whole arg2 harg2 x1 _ _) ((rows_apply c arg1 harg1 arg5 x0 _ id (x 0) (x 1)).trans (congrArg _ (by omega)))
  exact congrArg (gate _) (congrArg₂ (· + ·) (congrArg₂ (· + ·) (congrArg₂ (· + ·) (congrArg₂ (· + ·) (congrArg₂ (· + ·)
    (whole arg3 harg3 x2 _ _) (tap 0 6 i6)) (tap 1 7 i7)) (tap 2 8 i8)) (tap 3 9 i9)) (tap 4 10 i10))

theorem block_value (i : grid0.Coords) (arg4 : Memref sig .tc .vmem S8192x128 .bf16) (harg4 : arg4.IsWhole) (harg5 : arg5.IsWhole)
    (y : S8192x128.Idx) :
    out0_A_3 c i arg1 harg1 arg2 harg2 arg3 harg3 arg4 harg4 arg5 harg5 x0 x1 x2 y = column x0 x1 x2 (y 0).val (y 1) := by
  unfold out0_A_3
  rw [View.read_writes_eq_canon _ _ _ (cover0_A_3 c i arg1 harg1 arg2 harg2 arg3 harg3 arg4 harg4 arg5 harg5 x0 x1 x2)]
  refine View.canon_apply_of_pieces (Val := Elt Ideal) (e := .bf16) (fun y : S8192x128.Idx => column x0 x1 x2 (y 0).val (y 1)) _
    (fun p hp x => ?_) y (cover0_A_3 c i arg1 harg1 arg2 harg2 arg3 harg3 arg4 harg4 arg5 harg5 x0 x1 x2 y)
  unfold kernelRun0_A at hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact piece_value c arg1 harg1 arg2 harg2 arg3 harg3 arg5 x0 x1 x2 7936 inb_S8192x128_S256x128_7936_0 inb_S8208x128_S256x128_7942_0 inb_S8208x128_S256x128_7943_0 inb_S8208x128_S256x128_7944_0 inb_S8208x128_S256x128_7945_0 inb_S8208x128_S256x128_7946_0 x
  · exact piece_value c arg1 harg1 arg2 harg2 arg3 harg3 arg5 x0 x1 x2 7680 inb_S8192x128_S256x128_7680_0 inb_S8208x128_S256x128_7686_0 inb_S8208x128_S256x128_7687_0 inb_S8208x128_S256x128_7688_0 inb_S8208x128_S256x128_7689_0 inb_S8208x128_S256x128_7690_0 x
  · exact piece_value c arg1 harg1 arg2 harg2 arg3 harg3 arg5 x0 x1 x2 7424 inb_S8192x128_S256x128_7424_0 inb_S8208x128_S256x128_7430_0 inb_S8208x128_S256x128_7431_0 inb_S8208x128_S256x128_7432_0 inb_S8208x128_S256x128_7433_0 inb_S8208x128_S256x128_7434_0 x
  · exact piece_value c arg1 harg1 arg2 harg2 arg3 harg3 arg5 x0 x1 x2 7168 inb_S8192x128_S256x128_7168_0 inb_S8208x128_S256x128_7174_0 inb_S8208x128_S256x128_7175_0 inb_S8208x128_S256x128_7176_0 inb_S8208x128_S256x128_7177_0 inb_S8208x128_S256x128_7178_0 x
  · exact piece_value c arg1 harg1 arg2 harg2 arg3 harg3 arg5 x0 x1 x2 6912 inb_S8192x128_S256x128_6912_0 inb_S8208x128_S256x128_6918_0 inb_S8208x128_S256x128_6919_0 inb_S8208x128_S256x128_6920_0 inb_S8208x128_S256x128_6921_0 inb_S8208x128_S256x128_6922_0 x
  · exact piece_value c arg1 harg1 arg2 harg2 arg3 harg3 arg5 x0 x1 x2 6656 inb_S8192x128_S256x128_6656_0 inb_S8208x128_S256x128_6662_0 inb_S8208x128_S256x128_6663_0 inb_S8208x128_S256x128_6664_0 inb_S8208x128_S256x128_6665_0 inb_S8208x128_S256x128_6666_0 x
  · exact piece_value c arg1 harg1 arg2 harg2 arg3 harg3 arg5 x0 x1 x2 6400 inb_S8192x128_S256x128_6400_0 inb_S8208x128_S256x128_6406_0 inb_S8208x128_S256x128_6407_0 inb_S8208x128_S256x128_6408_0 inb_S8208x128_S256x128_6409_0 inb_S8208x128_S256x128_6410_0 x
  · exact piece_value c arg1 harg1 arg2 harg2 arg3 harg3 arg5 x0 x1 x2 6144 inb_S8192x128_S256x128_6144_0 inb_S8208x128_S256x128_6150_0 inb_S8208x128_S256x128_6151_0 inb_S8208x128_S256x128_6152_0 inb_S8208x128_S256x128_6153_0 inb_S8208x128_S256x128_6154_0 x
  · exact piece_value c arg1 harg1 arg2 harg2 arg3 harg3 arg5 x0 x1 x2 5888 inb_S8192x128_S256x128_5888_0 inb_S8208x128_S256x128_5894_0 inb_S8208x128_S256x128_5895_0 inb_S8208x128_S256x128_5896_0 inb_S8208x128_S256x128_5897_0 inb_S8208x128_S256x128_5898_0 x
  · exact piece_value c arg1 harg1 arg2 harg2 arg3 harg3 arg5 x0 x1 x2 5632 inb_S8192x128_S256x128_5632_0 inb_S8208x128_S256x128_5638_0 inb_S8208x128_S256x128_5639_0 inb_S8208x128_S256x128_5640_0 inb_S8208x128_S256x128_5641_0 inb_S8208x128_S256x128_5642_0 x
  · exact piece_value c arg1 harg1 arg2 harg2 arg3 harg3 arg5 x0 x1 x2 5376 inb_S8192x128_S256x128_5376_0 inb_S8208x128_S256x128_5382_0 inb_S8208x128_S256x128_5383_0 inb_S8208x128_S256x128_5384_0 inb_S8208x128_S256x128_5385_0 inb_S8208x128_S256x128_5386_0 x
  · exact piece_value c arg1 harg1 arg2 harg2 arg3 harg3 arg5 x0 x1 x2 5120 inb_S8192x128_S256x128_5120_0 inb_S8208x128_S256x128_5126_0 inb_S8208x128_S256x128_5127_0 inb_S8208x128_S256x128_5128_0 inb_S8208x128_S256x128_5129_0 inb_S8208x128_S256x128_5130_0 x
  · exact piece_value c arg1 harg1 arg2 harg2 arg3 harg3 arg5 x0 x1 x2 4864 inb_S8192x128_S256x128_4864_0 inb_S8208x128_S256x128_4870_0 inb_S8208x128_S256x128_4871_0 inb_S8208x128_S256x128_4872_0 inb_S8208x128_S256x128_4873_0 inb_S8208x128_S256x128_4874_0 x
  · exact piece_value c arg1 harg1 arg2 harg2 arg3 harg3 arg5 x0 x1 x2 4608 inb_S8192x128_S256x128_4608_0 inb_S8208x128_S256x128_4614_0 inb_S8208x128_S256x128_4615_0 inb_S8208x128_S256x128_4616_0 inb_S8208x128_S256x128_4617_0 inb_S8208x128_S256x128_4618_0 x
  · exact piece_value c arg1 harg1 arg2 harg2 arg3 harg3 arg5 x0 x1 x2 4352 inb_S8192x128_S256x128_4352_0 inb_S8208x128_S256x128_4358_0 inb_S8208x128_S256x128_4359_0 inb_S8208x128_S256x128_4360_0 inb_S8208x128_S256x128_4361_0 inb_S8208x128_S256x128_4362_0 x
  · exact piece_value c arg1 harg1 arg2 harg2 arg3 harg3 arg5 x0 x1 x2 4096 inb_S8192x128_S256x128_4096_0 inb_S8208x128_S256x128_4102_0 inb_S8208x128_S256x128_4103_0 inb_S8208x128_S256x128_4104_0 inb_S8208x128_S256x128_4105_0 inb_S8208x128_S256x128_4106_0 x
  · exact piece_value c arg1 harg1 arg2 harg2 arg3 harg3 arg5 x0 x1 x2 3840 inb_S8192x128_S256x128_3840_0 inb_S8208x128_S256x128_3846_0 inb_S8208x128_S256x128_3847_0 inb_S8208x128_S256x128_3848_0 inb_S8208x128_S256x128_3849_0 inb_S8208x128_S256x128_3850_0 x
  · exact piece_value c arg1 harg1 arg2 harg2 arg3 harg3 arg5 x0 x1 x2 3584 inb_S8192x128_S256x128_3584_0 inb_S8208x128_S256x128_3590_0 inb_S8208x128_S256x128_3591_0 inb_S8208x128_S256x128_3592_0 inb_S8208x128_S256x128_3593_0 inb_S8208x128_S256x128_3594_0 x
  · exact piece_value c arg1 harg1 arg2 harg2 arg3 harg3 arg5 x0 x1 x2 3328 inb_S8192x128_S256x128_3328_0 inb_S8208x128_S256x128_3334_0 inb_S8208x128_S256x128_3335_0 inb_S8208x128_S256x128_3336_0 inb_S8208x128_S256x128_3337_0 inb_S8208x128_S256x128_3338_0 x
  · exact piece_value c arg1 harg1 arg2 harg2 arg3 harg3 arg5 x0 x1 x2 3072 inb_S8192x128_S256x128_3072_0 inb_S8208x128_S256x128_3078_0 inb_S8208x128_S256x128_3079_0 inb_S8208x128_S256x128_3080_0 inb_S8208x128_S256x128_3081_0 inb_S8208x128_S256x128_3082_0 x
  · exact piece_value c arg1 harg1 arg2 harg2 arg3 harg3 arg5 x0 x1 x2 2816 inb_S8192x128_S256x128_2816_0 inb_S8208x128_S256x128_2822_0 inb_S8208x128_S256x128_2823_0 inb_S8208x128_S256x128_2824_0 inb_S8208x128_S256x128_2825_0 inb_S8208x128_S256x128_2826_0 x
  · exact piece_value c arg1 harg1 arg2 harg2 arg3 harg3 arg5 x0 x1 x2 2560 inb_S8192x128_S256x128_2560_0 inb_S8208x128_S256x128_2566_0 inb_S8208x128_S256x128_2567_0 inb_S8208x128_S256x128_2568_0 inb_S8208x128_S256x128_2569_0 inb_S8208x128_S256x128_2570_0 x
  · exact piece_value c arg1 harg1 arg2 harg2 arg3 harg3 arg5 x0 x1 x2 2304 inb_S8192x128_S256x128_2304_0 inb_S8208x128_S256x128_2310_0 inb_S8208x128_S256x128_2311_0 inb_S8208x128_S256x128_2312_0 inb_S8208x128_S256x128_2313_0 inb_S8208x128_S256x128_2314_0 x
  · exact piece_value c arg1 harg1 arg2 harg2 arg3 harg3 arg5 x0 x1 x2 2048 inb_S8192x128_S256x128_2048_0 inb_S8208x128_S256x128_2054_0 inb_S8208x128_S256x128_2055_0 inb_S8208x128_S256x128_2056_0 inb_S8208x128_S256x128_2057_0 inb_S8208x128_S256x128_2058_0 x
  · exact piece_value c arg1 harg1 arg2 harg2 arg3 harg3 arg5 x0 x1 x2 1792 inb_S8192x128_S256x128_1792_0 inb_S8208x128_S256x128_1798_0 inb_S8208x128_S256x128_1799_0 inb_S8208x128_S256x128_1800_0 inb_S8208x128_S256x128_1801_0 inb_S8208x128_S256x128_1802_0 x
  · exact piece_value c arg1 harg1 arg2 harg2 arg3 harg3 arg5 x0 x1 x2 1536 inb_S8192x128_S256x128_1536_0 inb_S8208x128_S256x128_1542_0 inb_S8208x128_S256x128_1543_0 inb_S8208x128_S256x128_1544_0 inb_S8208x128_S256x128_1545_0 inb_S8208x128_S256x128_1546_0 x
  · exact piece_value c arg1 harg1 arg2 harg2 arg3 harg3 arg5 x0 x1 x2 1280 inb_S8192x128_S256x128_1280_0 inb_S8208x128_S256x128_1286_0 inb_S8208x128_S256x128_1287_0 inb_S8208x128_S256x128_1288_0 inb_S8208x128_S256x128_1289_0 inb_S8208x128_S256x128_1290_0 x
  · exact piece_value c arg1 harg1 arg2 harg2 arg3 harg3 arg5 x0 x1 x2 1024 inb_S8192x128_S256x128_1024_0 inb_S8208x128_S256x128_1030_0 inb_S8208x128_S256x128_1031_0 inb_S8208x128_S256x128_1032_0 inb_S8208x128_S256x128_1033_0 inb_S8208x128_S256x128_1034_0 x
  · exact piece_value c arg1 harg1 arg2 harg2 arg3 harg3 arg5 x0 x1 x2 768 inb_S8192x128_S256x128_768_0 inb_S8208x128_S256x128_774_0 inb_S8208x128_S256x128_775_0 inb_S8208x128_S256x128_776_0 inb_S8208x128_S256x128_777_0 inb_S8208x128_S256x128_778_0 x
  · exact piece_value c arg1 harg1 arg2 harg2 arg3 harg3 arg5 x0 x1 x2 512 inb_S8192x128_S256x128_512_0 inb_S8208x128_S256x128_518_0 inb_S8208x128_S256x128_519_0 inb_S8208x128_S256x128_520_0 inb_S8208x128_S256x128_521_0 inb_S8208x128_S256x128_522_0 x
  · exact piece_value c arg1 harg1 arg2 harg2 arg3 harg3 arg5 x0 x1 x2 256 inb_S8192x128_S256x128_256_0 inb_S8208x128_S256x128_262_0 inb_S8208x128_S256x128_263_0 inb_S8208x128_S256x128_264_0 inb_S8208x128_S256x128_265_0 inb_S8208x128_S256x128_266_0 x
  · exact piece_value c arg1 harg1 arg2 harg2 arg3 harg3 arg5 x0 x1 x2 0 inb_S8192x128_S256x128_0_0 inb_S8208x128_S256x128_6_0 inb_S8208x128_S256x128_7_0 inb_S8208x128_S256x128_8_0 inb_S8208x128_S256x128_9_0 inb_S8208x128_S256x128_10_0 x

end Block

/-! ## The call -/

section Call

variable (m : (ℓ : Loc nD τ sig) → Buf (Elt Ideal) ℓ)

/-- The packed projection: the queries at their columns, zeros elsewhere. -/
def packed (x : FVec Ideal S8192x1024 .f32) : FVec Ideal S8192x5120 .bf16 :=
  truncf .bf16 (concatenate S8192x5120 1 [⟨S8192x1024, x⟩,
    ⟨S8192x4096, broadcastInDim S8192x4096 ![] bcast_S_S8192x4096 (constant S_ .f32 0x00000000#32)⟩]
    concatenates_S8192x1024_S8192x4096_S8192x5120_d1) bitsLt_bf16_f32

theorem packed_apply (x : FVec Ideal S8192x1024 .f32) (s : Fin 8192) (n : Fin 1024) :
    packed x (ix2 s ⟨n.val, by omega⟩) = x (ix2 s n) := by
  pointwise [packed]

theorem bias_apply (b : FVec Ideal S2048 .f32) (n : Fin 2048) : shapeCast S1x2048 b shapeCasts_S2048_S1x2048 (ix2 0 n) = b (ix1 n) := by
  pointwise []

theorem entry0 (c : Dev nD) : V m c main_v2 = packed (m ((c : Thread nD τ).loc main_arg0)) := by
  show StableHlo.after (List.flatten [hostOps0]) _ (Proc.devRef .tc main_v2) = _
  simp only [hostOps0, List.flatten_cons, List.flatten_nil, List.append_nil, List.cons_append, List.nil_append]
  after_results <;> rfl

theorem entry2 (c : Dev nD) : V m c main_v3 = shapeCast S1x2048 (m ((c : Thread nD τ).loc main_arg2)) shapeCasts_S2048_S1x2048 := by
  show StableHlo.after (List.flatten [hostOps0]) _ (Proc.devRef .tc main_v3) = _
  simp only [hostOps0, List.flatten_cons, List.flatten_nil, List.append_nil, List.cons_append, List.nil_append]
  after_results <;> rfl

theorem index0 : ∀ t : Fin cfg0.N, win0_0.index t 0 = 0 ∧ win0_0.index t 1 = t.val :=
  (by decide +kernel : ∀ t : Fin grid0.N, win0_0.index t 0 = 0 ∧ win0_0.index t 1 = t.val)
theorem index1 : ∀ t : Fin cfg0.N, win0_1.index t 0 = 0 ∧ win0_1.index t 1 = t.val :=
  (by decide +kernel : ∀ t : Fin grid0.N, win0_1.index t 0 = 0 ∧ win0_1.index t 1 = t.val)
theorem index2 : ∀ t : Fin cfg0.N, win0_2.index t 0 = 0 ∧ win0_2.index t 1 = t.val :=
  (by decide +kernel : ∀ t : Fin grid0.N, win0_2.index t 0 = 0 ∧ win0_2.index t 1 = t.val)
theorem index3 : ∀ t : Fin cfg0.N, win0_3.index t 0 = 0 ∧ win0_3.index t 1 = t.val :=
  (by decide +kernel : ∀ t : Fin grid0.N, win0_3.index t 0 = 0 ∧ win0_3.index t 1 = t.val)

theorem points (t : Fin cfg0.N) : t.val < 8 := t.isLt

/-- Column `l` of step `t`'s block. -/
abbrev columnIn (t : Fin cfg0.N) (l : Fin 128) : Fin 1024 := ⟨t.val * 128 + l.val, by have := points t; omega⟩

variable (c : Dev nD) (t : Fin cfg0.N)

theorem block0 (s : Fin 8192) (l : Fin 128) : (iblk m c 0 t (ix2 s l) : EReal) = m ((c : Thread nD τ).loc main_arg0) (ix2 s (columnIn t l)) := by
  have e := index0 t
  refine (congrArg (V m c main_v2) (funext fun x => Fin.ext ?_)).trans ((congrFun (entry0 m c) _).trans (packed_apply _ s (columnIn t l)))
  match x with
  | ⟨0, _⟩ => exact (win0_0.rect_emb_val t _ 0).trans (by rw [e.1]; exact Nat.zero_add _)
  | ⟨1, _⟩ => exact (win0_0.rect_emb_val t _ 1).trans (by rw [e.2]; rfl)

theorem block1 (j : Fin 5) (l : Fin 128) : (iblk m c 1 t (ix2 j l) : EReal)
    = m ((c : Thread nD τ).loc main_arg1) (ix2 j ⟨0 + (columnIn t l).val, by omega⟩) := by
  have e := index1 t
  refine (congrArg (V m c main_arg1) (funext fun x => Fin.ext ?_)).trans (congrFun (V_main_arg1 m c) _)
  match x with
  | ⟨0, _⟩ => exact (win0_1.rect_emb_val t _ 0).trans (by rw [e.1]; exact Nat.zero_add _)
  | ⟨1, _⟩ => exact (win0_1.rect_emb_val t _ 1).trans (by rw [e.2]; exact (Nat.zero_add _).symm)

theorem block2 (l : Fin 128) : (iblk m c 2 t (ix2 0 l) : EReal)
    = m ((c : Thread nD τ).loc main_arg2) (ix1 ⟨0 + (columnIn t l).val, by omega⟩) := by
  have e := index2 t
  refine (congrArg (V m c main_v3) (funext fun x => Fin.ext ?_)).trans
    ((congrFun (entry2 m c) _).trans (bias_apply _ ⟨0 + (columnIn t l).val, by omega⟩))
  match x with
  | ⟨0, _⟩ => exact (win0_2.rect_emb_val t _ 0).trans (by rw [e.1]; rfl)
  | ⟨1, _⟩ => exact (win0_2.rect_emb_val t _ 1).trans (by rw [e.2]; exact (Nat.zero_add _).symm)

theorem column_value (n : ℕ) (l : Fin 128) : column (iblk m c 0 t) (iblk m c 1 t) (iblk m c 2 t) n l
    = gate (Ideal.ofBits .f32 0x3F000000#32) (convolved 0 (by omega) (m ((c : Thread nD τ).loc main_arg0)) (m ((c : Thread nD τ).loc main_arg1))
      (m ((c : Thread nD τ).loc main_arg2)) n (columnIn t l)) := by
  unfold column convolved
  rw [funext fun s => block0 m c t s l, funext fun j => block1 m c t j l, block2 m c t l]

/-- The call's result. -/
def result : FVec Ideal S8192x1024 .bf16 := fun i =>
  gate (Ideal.ofBits .f32 0x3F000000#32) (convolved 0 (by omega) (m ((c : Thread nD τ).loc main_arg0)) (m ((c : Thread nD τ).loc main_arg1))
    (m ((c : Thread nD τ).loc main_arg2)) (i 0).val (i 1))

theorem flushed_result : (dats m 0 c).flushed 3 t = ((cfg0.win 3).blk t).view.read (Elt Ideal) (result m c) := by
  have e := index3 t
  rw [Value.flushed3_A]
  funext y
  show out0_A_3 c (grid0.coords t) (ms0_0 t) (hs0_0 t) (ms0_1 t) (hs0_1 t) (ms0_2 t) (hs0_2 t) (ms0_3 t) (hs0_3 t) scM0_0
    (Memref.isWhole_whole _) (iblk m c 0 t) (iblk m c 1 t) (iblk m c 2 t) (y : S8192x128.Idx) = result m c ((win0_3.rect t).emb y)
  refine (block_value c _ _ _ _ _ _ _ (iblk m c 0 t) (iblk m c 1 t) (iblk m c 2 t) _ _ _ _ y).trans ((column_value m c t _ (y 1)).trans ?_)
  unfold result
  refine congrArg (gate _) (congrArg₂ (convolved _ _ _ _ _) ?_ (Fin.ext ?_))
  · exact ((win0_3.rect_emb_val t y 0).trans (by rw [e.1]; exact Nat.zero_add _)).symm
  · exact ((win0_3.rect_emb_val t y 1).trans (by rw [e.2]; rfl)).symm

theorem covered : ∀ i : S8192x1024.Idx, ∃ t : Fin cfg0.N, (cfg0.win 3).flush t = true ∧ i ∈ ((cfg0.win 3).blk t).view.set :=
  Pipeline.Window.Covers.cover _ (by decide +kernel : (cfg0.win 3).Covers) (Memref.isWhole_whole _)

theorem result_eq : (dats m 0 c).arrAt 3 cfg0.N = result m c :=
  (dats m 0 c).arrAt_eq_of_cover 3 _ (fun t _ => flushed_result m c t) covered

end Call

end Cert.Proof.ConvQ

end
-- ==== Proof.ConvK.lean ====
/-
  The keys' convolution over the extended reals, a block of 128 columns at a time: the block is stored between two halos
  of zeros, and each 256 rows of the result are read from it at five offsets.
-/
module

public import proofs.«01_k».proof.Proof.Gen.Kernel8Ideal.Value
public import proofs.«01_k».proof.Proof.Conv

@[expose] public section

set_option maxRecDepth 16384

noncomputable section

namespace Cert.Proof.ConvK

open Cert.Kernel8Ideal Cert.Kernel8Ideal.Gen Cert.Proof.Conv
open Idealize.ShloMosaic Idealize.ShloMosaic.TcCoe Idealize.ShloMosaic.Tactic

section Block

variable (c : Dev nD) (arg1 : Memref sig .tc .vmem S8192x128 .bf16) (harg1 : arg1.IsWhole)
  (arg2 : Memref sig .tc .vmem S5x128 .f32) (harg2 : arg2.IsWhole) (arg3 : Memref sig .tc .vmem S1x128 .f32) (harg3 : arg3.IsWhole)
  (arg5 : Memref sig .tc .vmem S8208x128 .f32)
  (x0 : Vec Ideal S8192x128 .bf16) (x1 : Vec Ideal S5x128 .f32) (x2 : Vec Ideal S1x128 .f32)

/-- 256 rows of the scratch, from row `o`. -/
def rows (o : ℕ) (inb : ∀ a, (![o, 0] : Fin 2 → ℕ) a + S256x128.size a ≤ S8208x128.size a) : FVec Ideal S256x128 .f32 :=
  arg5.view.readCov (kernelRun0_A.sl.HS0_3 c arg1 harg1 x0) (Rect.unit (s := S8208x128) ![o, 0] S256x128.size inb).toLoadRect

theorem halo_top (i : S8x128.Idx) : k0_pay3 (F := Ideal) i = 0 := by
  pointwise [k0_pay3, k0_pay2]

theorem halo_bottom (i : S8x128.Idx) : k0_pay4 (F := Ideal) i = 0 := by
  pointwise [k0_pay4, k0_pay2]

theorem widened (v : Vec Ideal S8192x128 .bf16) (i : S8192x128.Idx) : k0_pay5 (F := Ideal) v i = v i := by
  pointwise [k0_pay5]

theorem rows_apply (o : ℕ) (inb : ∀ a, (![o, 0] : Fin 2 → ℕ) a + S256x128.size a ≤ S8208x128.size a) (r : Fin 256) (l : Fin 128) :
    rows c arg1 harg1 arg5 x0 o inb (ix2 r l) = padded (fun s => x0 (ix2 s l)) (o + r.val) := by
  unfold rows
  rw [View.readCov_eq_canon']
  refine (scratch _ _ _ halo_bottom halo_top inb_S8208x128_S8192x128_8_0 inb_S8208x128_S8x128_8200_0 inb_S8208x128_S8x128_0_0 _).trans ?_
  have h0 : ((Rect.unit (s := S8208x128) ![o, 0] S256x128.size inb).emb (ix2 r l) 0).val = o + r.val :=
    Rect.idx_unit_val (s := S8208x128) ![o, 0] S256x128.size inb (ix2 r l) 0
  have h1 : (Rect.unit (s := S8208x128) ![o, 0] S256x128.size inb).emb (ix2 r l) 1 = l :=
    Fin.ext ((Rect.idx_unit_val (s := S8208x128) ![o, 0] S256x128.size inb (ix2 r l) 1).trans (Nat.zero_add _))
  refine congrArg₂ padded (funext fun s => ?_) h0
  refine (widened _ _).trans ((whole arg1 harg1 x0 _ _).trans ?_)
  exact congrArg (fun q => x0 (ix2 s q)) h1

/-- 256 rows of the result. -/
def chunk (w : Vec Ideal S5x128 .f32) (b : Vec Ideal S1x128 .f32) (l0 l1 l2 l3 l4 : Vec Ideal S256x128 .f32) : FVec Ideal S128x256 .bf16 :=
  k0_pay14 w (k0_pay6 b) l0 l1 l2 l3 l4

theorem chunk_apply (w : Vec Ideal S5x128 .f32) (b : Vec Ideal S1x128 .f32) (l0 l1 l2 l3 l4 : Vec Ideal S256x128 .f32) (r : Fin 256)
    (l : Fin 128) : chunk w b l0 l1 l2 l3 l4 (ix2 l r) = gate (Ideal.ofBits .f32 0x3D000000#32)
      (b (ix2 0 l) + w (ix2 0 l) * l0 (ix2 r l) + w (ix2 1 l) * l1 (ix2 r l) + w (ix2 2 l) * l2 (ix2 r l)
        + w (ix2 3 l) * l3 (ix2 r l) + w (ix2 4 l) * l4 (ix2 r l)) := by
  unfold gate
  pointwise [chunk, k0_pay14, k0_pay6]

/-- What a block of columns gives at row `n` and column `l` of the block. -/
def column (n : ℕ) (l : Fin 128) : EReal :=
  gate (Ideal.ofBits .f32 0x3D000000#32) (filter (fun s => x0 (ix2 s l)) (fun j => x1 (ix2 j l)) (x2 (ix2 0 l)) n)

theorem piece_value (o : ℕ) (inb : ∀ a, (![0, o] : Fin 2 → ℕ) a + (![128, 256] : Fin 2 → ℕ) a ≤ S128x8192.size a)
    (i6 : ∀ a, (![o + 6, 0] : Fin 2 → ℕ) a + S256x128.size a ≤ S8208x128.size a)
    (i7 : ∀ a, (![o + 7, 0] : Fin 2 → ℕ) a + S256x128.size a ≤ S8208x128.size a)
    (i8 : ∀ a, (![o + 8, 0] : Fin 2 → ℕ) a + S256x128.size a ≤ S8208x128.size a)
    (i9 : ∀ a, (![o + 9, 0] : Fin 2 → ℕ) a + S256x128.size a ≤ S8208x128.size a)
    (i10 : ∀ a, (![o + 10, 0] : Fin 2 → ℕ) a + S256x128.size a ≤ S8208x128.size a) (x : S128x256.Idx) :
    chunk (kernelRun0_A.sl.r c arg2 harg2 x1)
        (View.readAt (Elt Ideal) arg3.view (Rect.unit ![0, 0] S1x128.size inb_S1x128_S1x128_0_0).toLoadRect (harg3.unread x2))
        (rows c arg1 harg1 arg5 x0 (o + 6) i6) (rows c arg1 harg1 arg5 x0 (o + 7) i7) (rows c arg1 harg1 arg5 x0 (o + 8) i8)
        (rows c arg1 harg1 arg5 x0 (o + 9) i9) (rows c arg1 harg1 arg5 x0 (o + 10) i10) x
      = column x0 x1 x2 ((Rect.unit (s := S128x8192) ![0, o] ![128, 256] inb).emb x 1).val
        ((Rect.unit (s := S128x8192) ![0, o] ![128, 256] inb).emb x 0) := by
  have h0 : (Rect.unit (s := S128x8192) ![0, o] ![128, 256] inb).emb x 0 = x 0 :=
    Fin.ext ((Rect.idx_unit_val (s := S128x8192) ![0, o] ![128, 256] inb x 0).trans (Nat.zero_add _))
  have h1 : ((Rect.unit (s := S128x8192) ![0, o] ![128, 256] inb).emb x 1).val = o + (x 1).val :=
    Rect.idx_unit_val (s := S128x8192) ![0, o] ![128, 256] inb x 1
  rw [h0, h1]
  refine (congrArg _ (ix2_eta x).symm).trans ((chunk_apply _ _ _ _ _ _ _ (x 1) (x 0)).trans ?_)
  unfold column filter kernelRun0_A.sl.r
  have tap (j : Fin 5) (d : ℕ) (id : ∀ a, (![o + d, 0] : Fin 2 → ℕ) a + S256x128.size a ≤ S8208x128.size a) :
      (View.readAt (Elt Ideal) arg2.view (Rect.unit ![0, 0] S5x128.size inb_S5x128_S5x128_0_0).toLoadRect (harg2.unread x1) (ix2 j (x 0)) : EReal)
          * rows c arg1 harg1 arg5 x0 (o + d) id (ix2 (x 1) (x 0))
        = x1 (ix2 j (x 0)) * padded (fun s => x0 (ix2 s (x 0))) (o + (x 1).val + d) :=
    congrArg₂ (· * ·) (whole arg2 harg2 x1 _ _) ((rows_apply c arg1 harg1 arg5 x0 _ id (x 1) (x 0)).trans (congrArg _ (by omega)))
  exact congrArg (gate _) (congrArg₂ (· + ·) (congrArg₂ (· + ·) (congrArg₂ (· + ·) (congrArg₂ (· + ·) (congrArg₂ (· + ·)
    (whole arg3 harg3 x2 _ _) (tap 0 6 i6)) (tap 1 7 i7)) (tap 2 8 i8)) (tap 3 9 i9)) (tap 4 10 i10))

theorem block_value (i : grid0.Coords) (arg4 : Memref sig .tc .vmem S128x8192 .bf16) (harg4 : arg4.IsWhole) (harg5 : arg5.IsWhole)
    (y : S128x8192.Idx) :
    out0_A_3 c i arg1 harg1 arg2 harg2 arg3 harg3 arg4 harg4 arg5 harg5 x0 x1 x2 y = column x0 x1 x2 (y 1).val (y 0) := by
  unfold out0_A_3
  rw [View.read_writes_eq_canon _ _ _ (cover0_A_3 c i arg1 harg1 arg2 harg2 arg3 harg3 arg4 harg4 arg5 harg5 x0 x1 x2)]
  refine View.canon_apply_of_pieces (Val := Elt Ideal) (e := .bf16) (fun y : S128x8192.Idx => column x0 x1 x2 (y 1).val (y 0)) _
    (fun p hp x => ?_) y (cover0_A_3 c i arg1 harg1 arg2 harg2 arg3 harg3 arg4 harg4 arg5 harg5 x0 x1 x2 y)
  unfold kernelRun0_A at hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact piece_value c arg1 harg1 arg2 harg2 arg3 harg3 arg5 x0 x1 x2 7936 inb_S128x8192_S128x256_0_7936 inb_S8208x128_S256x128_7942_0 inb_S8208x128_S256x128_7943_0 inb_S8208x128_S256x128_7944_0 inb_S8208x128_S256x128_7945_0 inb_S8208x128_S256x128_7946_0 x
  · exact piece_value c arg1 harg1 arg2 harg2 arg3 harg3 arg5 x0 x1 x2 7680 inb_S128x8192_S128x256_0_7680 inb_S8208x128_S256x128_7686_0 inb_S8208x128_S256x128_7687_0 inb_S8208x128_S256x128_7688_0 inb_S8208x128_S256x128_7689_0 inb_S8208x128_S256x128_7690_0 x
  · exact piece_value c arg1 harg1 arg2 harg2 arg3 harg3 arg5 x0 x1 x2 7424 inb_S128x8192_S128x256_0_7424 inb_S8208x128_S256x128_7430_0 inb_S8208x128_S256x128_7431_0 inb_S8208x128_S256x128_7432_0 inb_S8208x128_S256x128_7433_0 inb_S8208x128_S256x128_7434_0 x
  · exact piece_value c arg1 harg1 arg2 harg2 arg3 harg3 arg5 x0 x1 x2 7168 inb_S128x8192_S128x256_0_7168 inb_S8208x128_S256x128_7174_0 inb_S8208x128_S256x128_7175_0 inb_S8208x128_S256x128_7176_0 inb_S8208x128_S256x128_7177_0 inb_S8208x128_S256x128_7178_0 x
  · exact piece_value c arg1 harg1 arg2 harg2 arg3 harg3 arg5 x0 x1 x2 6912 inb_S128x8192_S128x256_0_6912 inb_S8208x128_S256x128_6918_0 inb_S8208x128_S256x128_6919_0 inb_S8208x128_S256x128_6920_0 inb_S8208x128_S256x128_6921_0 inb_S8208x128_S256x128_6922_0 x
  · exact piece_value c arg1 harg1 arg2 harg2 arg3 harg3 arg5 x0 x1 x2 6656 inb_S128x8192_S128x256_0_6656 inb_S8208x128_S256x128_6662_0 inb_S8208x128_S256x128_6663_0 inb_S8208x128_S256x128_6664_0 inb_S8208x128_S256x128_6665_0 inb_S8208x128_S256x128_6666_0 x
  · exact piece_value c arg1 harg1 arg2 harg2 arg3 harg3 arg5 x0 x1 x2 6400 inb_S128x8192_S128x256_0_6400 inb_S8208x128_S256x128_6406_0 inb_S8208x128_S256x128_6407_0 inb_S8208x128_S256x128_6408_0 inb_S8208x128_S256x128_6409_0 inb_S8208x128_S256x128_6410_0 x
  · exact piece_value c arg1 harg1 arg2 harg2 arg3 harg3 arg5 x0 x1 x2 6144 inb_S128x8192_S128x256_0_6144 inb_S8208x128_S256x128_6150_0 inb_S8208x128_S256x128_6151_0 inb_S8208x128_S256x128_6152_0 inb_S8208x128_S256x128_6153_0 inb_S8208x128_S256x128_6154_0 x
  · exact piece_value c arg1 harg1 arg2 harg2 arg3 harg3 arg5 x0 x1 x2 5888 inb_S128x8192_S128x256_0_5888 inb_S8208x128_S256x128_5894_0 inb_S8208x128_S256x128_5895_0 inb_S8208x128_S256x128_5896_0 inb_S8208x128_S256x128_5897_0 inb_S8208x128_S256x128_5898_0 x
  · exact piece_value c arg1 harg1 arg2 harg2 arg3 harg3 arg5 x0 x1 x2 5632 inb_S128x8192_S128x256_0_5632 inb_S8208x128_S256x128_5638_0 inb_S8208x128_S256x128_5639_0 inb_S8208x128_S256x128_5640_0 inb_S8208x128_S256x128_5641_0 inb_S8208x128_S256x128_5642_0 x
  · exact piece_value c arg1 harg1 arg2 harg2 arg3 harg3 arg5 x0 x1 x2 5376 inb_S128x8192_S128x256_0_5376 inb_S8208x128_S256x128_5382_0 inb_S8208x128_S256x128_5383_0 inb_S8208x128_S256x128_5384_0 inb_S8208x128_S256x128_5385_0 inb_S8208x128_S256x128_5386_0 x
  · exact piece_value c arg1 harg1 arg2 harg2 arg3 harg3 arg5 x0 x1 x2 5120 inb_S128x8192_S128x256_0_5120 inb_S8208x128_S256x128_5126_0 inb_S8208x128_S256x128_5127_0 inb_S8208x128_S256x128_5128_0 inb_S8208x128_S256x128_5129_0 inb_S8208x128_S256x128_5130_0 x
  · exact piece_value c arg1 harg1 arg2 harg2 arg3 harg3 arg5 x0 x1 x2 4864 inb_S128x8192_S128x256_0_4864 inb_S8208x128_S256x128_4870_0 inb_S8208x128_S256x128_4871_0 inb_S8208x128_S256x128_4872_0 inb_S8208x128_S256x128_4873_0 inb_S8208x128_S256x128_4874_0 x
  · exact piece_value c arg1 harg1 arg2 harg2 arg3 harg3 arg5 x0 x1 x2 4608 inb_S128x8192_S128x256_0_4608 inb_S8208x128_S256x128_4614_0 inb_S8208x128_S256x128_4615_0 inb_S8208x128_S256x128_4616_0 inb_S8208x128_S256x128_4617_0 inb_S8208x128_S256x128_4618_0 x
  · exact piece_value c arg1 harg1 arg2 harg2 arg3 harg3 arg5 x0 x1 x2 4352 inb_S128x8192_S128x256_0_4352 inb_S8208x128_S256x128_4358_0 inb_S8208x128_S256x128_4359_0 inb_S8208x128_S256x128_4360_0 inb_S8208x128_S256x128_4361_0 inb_S8208x128_S256x128_4362_0 x
  · exact piece_value c arg1 harg1 arg2 harg2 arg3 harg3 arg5 x0 x1 x2 4096 inb_S128x8192_S128x256_0_4096 inb_S8208x128_S256x128_4102_0 inb_S8208x128_S256x128_4103_0 inb_S8208x128_S256x128_4104_0 inb_S8208x128_S256x128_4105_0 inb_S8208x128_S256x128_4106_0 x
  · exact piece_value c arg1 harg1 arg2 harg2 arg3 harg3 arg5 x0 x1 x2 3840 inb_S128x8192_S128x256_0_3840 inb_S8208x128_S256x128_3846_0 inb_S8208x128_S256x128_3847_0 inb_S8208x128_S256x128_3848_0 inb_S8208x128_S256x128_3849_0 inb_S8208x128_S256x128_3850_0 x
  · exact piece_value c arg1 harg1 arg2 harg2 arg3 harg3 arg5 x0 x1 x2 3584 inb_S128x8192_S128x256_0_3584 inb_S8208x128_S256x128_3590_0 inb_S8208x128_S256x128_3591_0 inb_S8208x128_S256x128_3592_0 inb_S8208x128_S256x128_3593_0 inb_S8208x128_S256x128_3594_0 x
  · exact piece_value c arg1 harg1 arg2 harg2 arg3 harg3 arg5 x0 x1 x2 3328 inb_S128x8192_S128x256_0_3328 inb_S8208x128_S256x128_3334_0 inb_S8208x128_S256x128_3335_0 inb_S8208x128_S256x128_3336_0 inb_S8208x128_S256x128_3337_0 inb_S8208x128_S256x128_3338_0 x
  · exact piece_value c arg1 harg1 arg2 harg2 arg3 harg3 arg5 x0 x1 x2 3072 inb_S128x8192_S128x256_0_3072 inb_S8208x128_S256x128_3078_0 inb_S8208x128_S256x128_3079_0 inb_S8208x128_S256x128_3080_0 inb_S8208x128_S256x128_3081_0 inb_S8208x128_S256x128_3082_0 x
  · exact piece_value c arg1 harg1 arg2 harg2 arg3 harg3 arg5 x0 x1 x2 2816 inb_S128x8192_S128x256_0_2816 inb_S8208x128_S256x128_2822_0 inb_S8208x128_S256x128_2823_0 inb_S8208x128_S256x128_2824_0 inb_S8208x128_S256x128_2825_0 inb_S8208x128_S256x128_2826_0 x
  · exact piece_value c arg1 harg1 arg2 harg2 arg3 harg3 arg5 x0 x1 x2 2560 inb_S128x8192_S128x256_0_2560 inb_S8208x128_S256x128_2566_0 inb_S8208x128_S256x128_2567_0 inb_S8208x128_S256x128_2568_0 inb_S8208x128_S256x128_2569_0 inb_S8208x128_S256x128_2570_0 x
  · exact piece_value c arg1 harg1 arg2 harg2 arg3 harg3 arg5 x0 x1 x2 2304 inb_S128x8192_S128x256_0_2304 inb_S8208x128_S256x128_2310_0 inb_S8208x128_S256x128_2311_0 inb_S8208x128_S256x128_2312_0 inb_S8208x128_S256x128_2313_0 inb_S8208x128_S256x128_2314_0 x
  · exact piece_value c arg1 harg1 arg2 harg2 arg3 harg3 arg5 x0 x1 x2 2048 inb_S128x8192_S128x256_0_2048 inb_S8208x128_S256x128_2054_0 inb_S8208x128_S256x128_2055_0 inb_S8208x128_S256x128_2056_0 inb_S8208x128_S256x128_2057_0 inb_S8208x128_S256x128_2058_0 x
  · exact piece_value c arg1 harg1 arg2 harg2 arg3 harg3 arg5 x0 x1 x2 1792 inb_S128x8192_S128x256_0_1792 inb_S8208x128_S256x128_1798_0 inb_S8208x128_S256x128_1799_0 inb_S8208x128_S256x128_1800_0 inb_S8208x128_S256x128_1801_0 inb_S8208x128_S256x128_1802_0 x
  · exact piece_value c arg1 harg1 arg2 harg2 arg3 harg3 arg5 x0 x1 x2 1536 inb_S128x8192_S128x256_0_1536 inb_S8208x128_S256x128_1542_0 inb_S8208x128_S256x128_1543_0 inb_S8208x128_S256x128_1544_0 inb_S8208x128_S256x128_1545_0 inb_S8208x128_S256x128_1546_0 x
  · exact piece_value c arg1 harg1 arg2 harg2 arg3 harg3 arg5 x0 x1 x2 1280 inb_S128x8192_S128x256_0_1280 inb_S8208x128_S256x128_1286_0 inb_S8208x128_S256x128_1287_0 inb_S8208x128_S256x128_1288_0 inb_S8208x128_S256x128_1289_0 inb_S8208x128_S256x128_1290_0 x
  · exact piece_value c arg1 harg1 arg2 harg2 arg3 harg3 arg5 x0 x1 x2 1024 inb_S128x8192_S128x256_0_1024 inb_S8208x128_S256x128_1030_0 inb_S8208x128_S256x128_1031_0 inb_S8208x128_S256x128_1032_0 inb_S8208x128_S256x128_1033_0 inb_S8208x128_S256x128_1034_0 x
  · exact piece_value c arg1 harg1 arg2 harg2 arg3 harg3 arg5 x0 x1 x2 768 inb_S128x8192_S128x256_0_768 inb_S8208x128_S256x128_774_0 inb_S8208x128_S256x128_775_0 inb_S8208x128_S256x128_776_0 inb_S8208x128_S256x128_777_0 inb_S8208x128_S256x128_778_0 x
  · exact piece_value c arg1 harg1 arg2 harg2 arg3 harg3 arg5 x0 x1 x2 512 inb_S128x8192_S128x256_0_512 inb_S8208x128_S256x128_518_0 inb_S8208x128_S256x128_519_0 inb_S8208x128_S256x128_520_0 inb_S8208x128_S256x128_521_0 inb_S8208x128_S256x128_522_0 x
  · exact piece_value c arg1 harg1 arg2 harg2 arg3 harg3 arg5 x0 x1 x2 256 inb_S128x8192_S128x256_0_256 inb_S8208x128_S256x128_262_0 inb_S8208x128_S256x128_263_0 inb_S8208x128_S256x128_264_0 inb_S8208x128_S256x128_265_0 inb_S8208x128_S256x128_266_0 x
  · exact piece_value c arg1 harg1 arg2 harg2 arg3 harg3 arg5 x0 x1 x2 0 inb_S128x8192_S128x256_0_0 inb_S8208x128_S256x128_6_0 inb_S8208x128_S256x128_7_0 inb_S8208x128_S256x128_8_0 inb_S8208x128_S256x128_9_0 inb_S8208x128_S256x128_10_0 x

end Block

/-! ## The call -/

section Call

variable (m : (ℓ : Loc nD τ sig) → Buf (Elt Ideal) ℓ)

/-- The packed projection: the keys at their columns, zeros elsewhere. -/
def packed (x : FVec Ideal S8192x1024 .f32) : FVec Ideal S8192x5120 .bf16 :=
  truncf .bf16 (concatenate S8192x5120 1
    [⟨S8192x1024, broadcastInDim S8192x1024 ![] bcast_S_S8192x1024 (constant S_ .f32 0x00000000#32)⟩, ⟨S8192x1024, x⟩,
     ⟨S8192x3072, broadcastInDim S8192x3072 ![] bcast_S_S8192x3072 (constant S_ .f32 0x00000000#32)⟩]
    concatenates_S8192x1024_S8192x1024_S8192x3072_S8192x5120_d1) bitsLt_bf16_f32

theorem packed_apply (x : FVec Ideal S8192x1024 .f32) (s : Fin 8192) (n : Fin 1024) :
    packed x (ix2 s ⟨1024 + n.val, by omega⟩) = x (ix2 s n) := by
  pointwise [packed]

theorem bias_apply (b : FVec Ideal S2048 .f32) (n : Fin 2048) : shapeCast S1x2048 b shapeCasts_S2048_S1x2048 (ix2 0 n) = b (ix1 n) := by
  pointwise []

theorem entry0 (c : Dev nD) : V m c main_v3 = packed (m ((c : Thread nD τ).loc main_arg0)) := by
  show StableHlo.after (List.flatten [hostOps0]) _ (Proc.devRef .tc main_v3) = _
  simp only [hostOps0, List.flatten_cons, List.flatten_nil, List.append_nil, List.cons_append, List.nil_append]
  after_results <;> rfl

theorem entry2 (c : Dev nD) : V m c main_v4 = shapeCast S1x2048 (m ((c : Thread nD τ).loc main_arg2)) shapeCasts_S2048_S1x2048 := by
  show StableHlo.after (List.flatten [hostOps0]) _ (Proc.devRef .tc main_v4) = _
  simp only [hostOps0, List.flatten_cons, List.flatten_nil, List.append_nil, List.cons_append, List.nil_append]
  after_results <;> rfl

theorem index0 : ∀ t : Fin cfg0.N, win0_0.index t 0 = 0 ∧ win0_0.index t 1 = 8 + t.val :=
  (by decide +kernel : ∀ t : Fin grid0.N, win0_0.index t 0 = 0 ∧ win0_0.index t 1 = 8 + t.val)
theorem index1 : ∀ t : Fin cfg0.N, win0_1.index t 0 = 0 ∧ win0_1.index t 1 = 8 + t.val :=
  (by decide +kernel : ∀ t : Fin grid0.N, win0_1.index t 0 = 0 ∧ win0_1.index t 1 = 8 + t.val)
theorem index2 : ∀ t : Fin cfg0.N, win0_2.index t 0 = 0 ∧ win0_2.index t 1 = 8 + t.val :=
  (by decide +kernel : ∀ t : Fin grid0.N, win0_2.index t 0 = 0 ∧ win0_2.index t 1 = 8 + t.val)
theorem index3 : ∀ t : Fin cfg0.N, win0_3.index t 0 = t.val ∧ win0_3.index t 1 = 0 :=
  (by decide +kernel : ∀ t : Fin grid0.N, win0_3.index t 0 = t.val ∧ win0_3.index t 1 = 0)

theorem points (t : Fin cfg0.N) : t.val < 8 := t.isLt

/-- Column `l` of step `t`'s block. -/
abbrev columnIn (t : Fin cfg0.N) (l : Fin 128) : Fin 1024 := ⟨t.val * 128 + l.val, by have := points t; omega⟩

variable (c : Dev nD) (t : Fin cfg0.N)

theorem block0 (s : Fin 8192) (l : Fin 128) : (iblk m c 0 t (ix2 s l) : EReal) = m ((c : Thread nD τ).loc main_arg0) (ix2 s (columnIn t l)) := by
  have e := index0 t
  refine (congrArg (V m c main_v3) (funext fun x => Fin.ext ?_)).trans ((congrFun (entry0 m c) _).trans (packed_apply _ s (columnIn t l)))
  match x with
  | ⟨0, _⟩ => exact (win0_0.rect_emb_val t _ 0).trans (by rw [e.1]; exact Nat.zero_add _)
  | ⟨1, _⟩ => exact (win0_0.rect_emb_val t _ 1).trans (by rw [e.2]; show (8 + t.val) * 128 + l.val = 1024 + (t.val * 128 + l.val); omega)

theorem block1 (j : Fin 5) (l : Fin 128) : (iblk m c 1 t (ix2 j l) : EReal)
    = m ((c : Thread nD τ).loc main_arg1) (ix2 j ⟨1024 + (columnIn t l).val, by omega⟩) := by
  have e := index1 t
  refine (congrArg (V m c main_arg1) (funext fun x => Fin.ext ?_)).trans (congrFun (V_main_arg1 m c) _)
  match x with
  | ⟨0, _⟩ => exact (win0_1.rect_emb_val t _ 0).trans (by rw [e.1]; exact Nat.zero_add _)
  | ⟨1, _⟩ => exact (win0_1.rect_emb_val t _ 1).trans (by rw [e.2]; show (8 + t.val) * 128 + l.val = 1024 + (t.val * 128 + l.val); omega)

theorem block2 (l : Fin 128) : (iblk m c 2 t (ix2 0 l) : EReal)
    = m ((c : Thread nD τ).loc main_arg2) (ix1 ⟨1024 + (columnIn t l).val, by omega⟩) := by
  have e := index2 t
  refine (congrArg (V m c main_v4) (funext fun x => Fin.ext ?_)).trans
    ((congrFun (entry2 m c) _).trans (bias_apply _ ⟨1024 + (columnIn t l).val, by omega⟩))
  match x with
  | ⟨0, _⟩ => exact (win0_2.rect_emb_val t _ 0).trans (by rw [e.1]; rfl)
  | ⟨1, _⟩ => exact (win0_2.rect_emb_val t _ 1).trans (by rw [e.2]; show (8 + t.val) * 128 + l.val = 1024 + (t.val * 128 + l.val); omega)

theorem column_value (n : ℕ) (l : Fin 128) : column (iblk m c 0 t) (iblk m c 1 t) (iblk m c 2 t) n l
    = gate (Ideal.ofBits .f32 0x3D000000#32) (convolved 1024 (by omega) (m ((c : Thread nD τ).loc main_arg0)) (m ((c : Thread nD τ).loc main_arg1))
      (m ((c : Thread nD τ).loc main_arg2)) n (columnIn t l)) := by
  unfold column convolved
  rw [funext fun s => block0 m c t s l, funext fun j => block1 m c t j l, block2 m c t l]

/-- The call's result. -/
def result : FVec Ideal S1024x8192 .bf16 := fun i =>
  gate (Ideal.ofBits .f32 0x3D000000#32) (convolved 1024 (by omega) (m ((c : Thread nD τ).loc main_arg0)) (m ((c : Thread nD τ).loc main_arg1))
    (m ((c : Thread nD τ).loc main_arg2)) (i 1).val (i 0))

theorem flushed_result : (dats m 0 c).flushed 3 t = ((cfg0.win 3).blk t).view.read (Elt Ideal) (result m c) := by
  have e := index3 t
  rw [Value.flushed3_A]
  funext y
  show out0_A_3 c (grid0.coords t) (ms0_0 t) (hs0_0 t) (ms0_1 t) (hs0_1 t) (ms0_2 t) (hs0_2 t) (ms0_3 t) (hs0_3 t) scM0_0
    (Memref.isWhole_whole _) (iblk m c 0 t) (iblk m c 1 t) (iblk m c 2 t) (y : S128x8192.Idx) = result m c ((win0_3.rect t).emb y)
  refine (block_value c _ _ _ _ _ _ _ (iblk m c 0 t) (iblk m c 1 t) (iblk m c 2 t) _ _ _ _ y).trans ((column_value m c t _ (y 0)).trans ?_)
  unfold result
  refine congrArg (gate _) (congrArg₂ (convolved _ _ _ _ _) ?_ (Fin.ext ?_))
  · exact ((win0_3.rect_emb_val t y 1).trans (by rw [e.2]; exact Nat.zero_add _)).symm
  · exact ((win0_3.rect_emb_val t y 0).trans (by rw [e.1]; rfl)).symm

theorem covered : ∀ i : S1024x8192.Idx, ∃ t : Fin cfg0.N, (cfg0.win 3).flush t = true ∧ i ∈ ((cfg0.win 3).blk t).view.set :=
  Pipeline.Window.Covers.cover _ (by decide +kernel : (cfg0.win 3).Covers) (Memref.isWhole_whole _)

theorem result_eq : (dats m 0 c).arrAt 3 cfg0.N = result m c :=
  (dats m 0 c).arrAt_eq_of_cover 3 _ (fun t _ => flushed_result m c t) covered

end Call

end Cert.Proof.ConvK

end
-- ==== Proof.ConvRef.lean ====
/-
  The plain convolutions read at an index: the sum of the five taps is the filter, the logistic gate is over it, and the
  second convolution is scaled and transposed.
-/
module

public import proofs.«01_k».proof.Proof.Gen.Reference7Ideal.Run
public import proofs.«01_k».proof.Proof.Gen.Reference8Ideal.Run
public import proofs.«01_k».proof.Proof.Conv

@[expose] public section

set_option maxRecDepth 16384

noncomputable section

namespace Cert.Reference7Ideal.Conv

open Cert.Reference7Ideal Cert.Reference7Ideal.Gen Cert.Proof.Conv
open Idealize.ShloMosaic Idealize.ShloMosaic.TcCoe Idealize.ShloMosaic.Tactic

theorem padding : FloatOps.sitofp (F := Ideal) FTy.f32 (0#32) = (0 : EReal) := by
  show (((0#32).toInt : ℝ) : EReal) = 0
  rw [show (0#32).toInt = 0 from rfl, Int.cast_zero, EReal.coe_zero]

/-- The rows between two pairs of rows of zeros. -/
def padRows (x : FVec Ideal S8192x1024 .f32) : FVec Ideal S8196x1024 .f32 :=
  pad S8196x1024 ![2, 0] ![2, 0] ![0, 0] x (sitofp .f32 (constantI S_ 32 0#32)) pads_S8192x1024_S8196x1024_220_000 h_S_

theorem padRows_apply (x : FVec Ideal S8192x1024 .f32) (r : Fin 8196) (n : Fin 1024) :
    padRows x (ix2 r n) = padded (fun s => x (ix2 s n)) (r.val + 6) := by
  pointwise [padRows]
  unfold padded
  by_cases h : 2 ≤ r.val ∧ r.val - 2 < 8192
  · rw [dif_pos h, dif_pos (show 8 ≤ r.val + 6 ∧ r.val + 6 < 8200 by omega)]
    exact congrArg (fun q => x (ix2 q n)) (Fin.ext (by show r.val - 2 = r.val + 6 - 8; omega))
  · rw [dif_neg h, dif_neg (show ¬(8 ≤ r.val + 6 ∧ r.val + 6 < 8200) by omega)]
    exact padding

/-- The sum of the taps and the bias. -/
def summed (x : FVec Ideal S8192x1024 .f32) (w : FVec Ideal S5x1024 .f32) (b : FVec Ideal S1024 .f32) : FVec Ideal S8192x1024 .f32 :=
  addf (addf (addf (addf (addf (addf (broadcastInDim S8192x1024 ![] bcast_S_S8192x1024 (constant S_ .f32 0x00000000#32))
    (mulf (extractStridedSlice S8192x1024 ![0, 0] (padRows x) slices_S8196x1024_S8192x1024_0_0) (broadcastInDim S8192x1024 ![0, 1] bcast_S1x1024_S8192x1024_0_1 (broadcastInDim S1x1024 ![1] bcast_S1024_S1x1024_1 (shapeCast _ (extractStridedSlice S1x1024 ![0, 0] w slices_S5x1024_S1x1024_0_0) shapeCasts_S1x1024_S1024)))))
    (mulf (extractStridedSlice S8192x1024 ![1, 0] (padRows x) slices_S8196x1024_S8192x1024_1_0) (broadcastInDim S8192x1024 ![0, 1] bcast_S1x1024_S8192x1024_0_1 (broadcastInDim S1x1024 ![1] bcast_S1024_S1x1024_1 (shapeCast _ (extractStridedSlice S1x1024 ![1, 0] w slices_S5x1024_S1x1024_1_0) shapeCasts_S1x1024_S1024)))))
    (mulf (extractStridedSlice S8192x1024 ![2, 0] (padRows x) slices_S8196x1024_S8192x1024_2_0) (broadcastInDim S8192x1024 ![0, 1] bcast_S1x1024_S8192x1024_0_1 (broadcastInDim S1x1024 ![1] bcast_S1024_S1x1024_1 (shapeCast _ (extractStridedSlice S1x1024 ![2, 0] w slices_S5x1024_S1x1024_2_0) shapeCasts_S1x1024_S1024)))))
    (mulf (extractStridedSlice S8192x1024 ![3, 0] (padRows x) slices_S8196x1024_S8192x1024_3_0) (broadcastInDim S8192x1024 ![0, 1] bcast_S1x1024_S8192x1024_0_1 (broadcastInDim S1x1024 ![1] bcast_S1024_S1x1024_1 (shapeCast _ (extractStridedSlice S1x1024 ![3, 0] w slices_S5x1024_S1x1024_3_0) shapeCasts_S1x1024_S1024)))))
    (mulf (extractStridedSlice S8192x1024 ![4, 0] (padRows x) slices_S8196x1024_S8192x1024_4_0) (broadcastInDim S8192x1024 ![0, 1] bcast_S1x1024_S8192x1024_0_1 (broadcastInDim S1x1024 ![1] bcast_S1024_S1x1024_1 (shapeCast _ (extractStridedSlice S1x1024 ![4, 0] w slices_S5x1024_S1x1024_4_0) shapeCasts_S1x1024_S1024)))))
    (broadcastInDim S8192x1024 ![0, 1] bcast_S1x1024_S8192x1024_0_1 (broadcastInDim S1x1024 ![1] bcast_S1024_S1x1024_1 b))

theorem summed_apply (x : FVec Ideal S8192x1024 .f32) (w : FVec Ideal S5x1024 .f32) (b : FVec Ideal S1024 .f32) (s : Fin 8192) (n : Fin 1024) :
    summed x w b (ix2 s n) = filter (fun s => x (ix2 s n)) (fun j => w (ix2 j n)) (b (ix1 n)) s.val := by
  refine Eq.trans ?_ (taps _ _ _ _)
  pointwise [summed]
  have row (k d : ℕ) (hk : k < 8196) (e : k + 6 = d) : padRows x (ix2 ⟨k, hk⟩ n) = padded (fun s => x (ix2 s n)) d :=
    (padRows_apply x ⟨k, hk⟩ n).trans (congrArg _ e)
  rw [row _ (s.val + 6) _ (by omega), row _ (s.val + 7) _ (by omega), row _ (s.val + 8) _ (by omega), row _ (s.val + 9) _ (by omega),
    row _ (s.val + 10) _ (by omega)]

/-- The logistic gate. -/
def gated (a : FVec Ideal S8192x1024 .f32) : FVec Ideal S8192x1024 .f32 :=
  mulf a (Host.divf (broadcastInDim S8192x1024 ![] bcast_S_S8192x1024 (constant S_ .f32 0x3F800000#32))
    (addf (broadcastInDim S8192x1024 ![] bcast_S_S8192x1024 (constant S_ .f32 0x3F800000#32)) (Host.exp (Host.negf a))))

theorem gated_apply (a : FVec Ideal S8192x1024 .f32) (i : S8192x1024.Idx) : gated a i = silu (a i) := rfl

variable (x : FVec Ideal S8192x1024 .f32) (w : FVec Ideal S5x2048 .f32) (b : FVec Ideal S2048 .f32)

/-- The queries' convolution. -/
def queries : FVec Ideal S8192x1024 .bf16 :=
  truncf .bf16 (gated (summed x (extractStridedSlice S5x1024 ![0, 0] w slices_S5x2048_S5x1024_0_0)
    (extractStridedSlice S1024 ![0] b slices_S2048_S1024_0))) bitsLt_bf16_f32

theorem queries_apply (s : Fin 8192) (n : Fin 1024) : queries x w b (ix2 s n) = silu (convolved 0 (by omega) x w b s.val n) := by
  refine (gated_apply _ _).trans (congrArg silu ((summed_apply _ _ _ s n).trans ?_))
  unfold convolved
  refine congrArg₂ (fun w b => filter _ w b _) (funext fun j => ?_) ?_
  · pointwise []
  · pointwise []

end Cert.Reference7Ideal.Conv

namespace Cert.Reference8Ideal.Conv

open Cert.Reference8Ideal Cert.Reference8Ideal.Gen Cert.Proof.Conv
open Cert.Reference7Ideal.Conv (gated gated_apply summed summed_apply)
open Idealize.ShloMosaic Idealize.ShloMosaic.TcCoe Idealize.ShloMosaic.Tactic

variable (x : FVec Ideal S8192x1024 .f32) (w : FVec Ideal S5x2048 .f32) (b : FVec Ideal S2048 .f32)

/-- The keys' convolution before its scale. -/
def rowsOf : FVec Ideal S8192x1024 .f32 := gated (summed x (extractStridedSlice S5x1024 ![0, 1024] w slices_S5x2048_S5x1024_0_1024)
    (extractStridedSlice S1024 ![1024] b slices_S2048_S1024_1024))

theorem rowsOf_apply (s : Fin 8192) (n : Fin 1024) : rowsOf x w b (ix2 s n) = silu (convolved 1024 (by omega) x w b s.val n) := by
  refine (gated_apply _ _).trans (congrArg silu ((summed_apply _ _ _ s n).trans ?_))
  unfold convolved
  refine congrArg₂ (fun w b => filter _ w b _) (funext fun j => ?_) ?_
  · pointwise []
  · pointwise []

/-- The keys' convolution. -/
def keys : FVec Ideal S1024x8192 .bf16 :=
  truncf .bf16 (transpose S1024x8192 [1, 0] (mulf (rowsOf x w b)
    (broadcastInDim S8192x1024 ![] bcast_S_S8192x1024 (constant S_ .f32 0x3D800000#32))) transposes_S8192x1024_S1024x8192_1_0) bitsLt_bf16_f32

theorem keys_apply (n : Fin 1024) (s : Fin 8192) :
    keys x w b (ix2 n s) = silu (convolved 1024 (by omega) x w b s.val n) * Ideal.ofBits .f32 0x3D800000#32 := by
  refine Eq.trans ?_ (congrArg (· * _) (rowsOf_apply x w b s n))
  pointwise [keys]

end Cert.Reference8Ideal.Conv

end
-- ==== Proof.ConvProof.lean ====
/-
  The claims of the two convolutions: over real arrays the kernel's gate, through a hyperbolic tangent, is the reference's,
  through a logistic.
-/
module

public import proofs.«01_k».proof.Proof.ConvQ
public import proofs.«01_k».proof.Proof.ConvK
public import proofs.«01_k».proof.Proof.ConvRef
public import proofs.«01_k».proof.Proof.Finite
public import proofs.«01_k».proof.Proof.Gen.Kernel7.Frame
public import proofs.«01_k».proof.Proof.Gen.Kernel8.Frame
public import proofs.«01_k».proof.Defs

@[expose] public section

set_option maxRecDepth 16384

noncomputable section

namespace Cert.Proof.Conv

open Idealize.ShloMosaic Idealize.ShloMosaic.TcCoe Idealize.SL.Sem

theorem facts_finite_conv : Cert.Pre_finite_conv.Facts := ⟨by decide, by decide, by decide⟩

instance : Cert.Pre_finite_conv.Facts := facts_finite_conv

/-- The convolution of real arrays is real. -/
theorem convolved_real {o : ℕ} (ho : o ≤ 1024) (x : FVec Ideal ⟨2, ![8192, 1024]⟩ .f32) (w : FVec Ideal ⟨2, ![5, 2048]⟩ .f32)
    (b : FVec Ideal ⟨1, ![2048]⟩ .f32) (hx : ∀ i, ∃ r : ℝ, x i = r) (hw : ∀ i, ∃ r : ℝ, w i = r) (hb : ∀ i, ∃ r : ℝ, b i = r)
    (s : ℕ) (n : Fin 1024) : ∃ r : ℝ, convolved o ho x w b s n = r :=
  filter_real _ _ _ (fun _ => hx _) (fun _ => hw _) (hb _) s

/-! ## The queries' convolution -/

theorem frame_kernel_q : Cert.quiescent_Kernel7 := fun m ρ _ => Cert.Kernel7.Gen.frame m ρ
theorem frame_ideal_q : Cert.quiescent_Kernel7Ideal := fun m ρ _ => Cert.Kernel7Ideal.Gen.frame m ρ
theorem frame_ideal_finite_q : Cert.quiescent_Kernel7Ideal_pre_finite_conv := fun m ρ _ => Cert.Kernel7Ideal.Gen.frame m ρ

theorem frame_reference_q : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem frame_reference_finite_q : Cert.quiescent_Reference7Ideal_pre_finite_conv := fun m ρ _ => frame_reference_q m ρ trivial

theorem preserves_q : Cert.preserves_Kernel7_Kernel7Ideal := trivial

theorem algebraic_q : Cert.algebraic_Kernel7Ideal_Reference7Ideal_pre_finite_conv := by
  intro m g m' g' hpre hargs
  refine ⟨fun c => Cert.Proof.ConvQ.result m c, (θ_run Cert.Kernel7Ideal.defs _ _).mono
    (fun r h c => ⟨(h c).1.trans (Cert.Proof.ConvQ.result_eq m c), (h c).2⟩) (Cert.Kernel7Ideal.Value.run_blocks m g), ?_⟩
  refine (θ_run Cert.Reference7Ideal.defs _ _).mono (fun r h c => ⟨(h c).1.trans ?_, (h c).2⟩)
    (Cert.Reference7Ideal.Value.run (F := Ideal) m' g')
  obtain ⟨a0, a1, a2⟩ := hargs c
  have real := convolved_real (o := 0) (by omega) _ _ _ (Cert.Proof.real_of_finite _ _ (fun _ => rfl) (hpre c).1)
    (Cert.Proof.real_of_finite _ _ (fun _ => rfl) (hpre c).2.1) (Cert.Proof.real_of_finite _ _ (fun _ => rfl) (hpre c).2.2)
  show Cert.Reference7Ideal.Conv.queries _ _ _ = _
  rw [a0, a1, a2]
  funext i
  exact (congrArg _ (ix2_eta i).symm).trans ((Cert.Reference7Ideal.Conv.queries_apply _ _ _ (i 0) (i 1)).trans
    (gate_half _ (real _ _)).symm)

/-! ## The keys' convolution -/

theorem frame_kernel_k : Cert.quiescent_Kernel8 := fun m ρ _ => Cert.Kernel8.Gen.frame m ρ
theorem frame_ideal_k : Cert.quiescent_Kernel8Ideal := fun m ρ _ => Cert.Kernel8Ideal.Gen.frame m ρ
theorem frame_ideal_finite_k : Cert.quiescent_Kernel8Ideal_pre_finite_conv := fun m ρ _ => Cert.Kernel8Ideal.Gen.frame m ρ

theorem frame_reference_k : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_reference_finite_k : Cert.quiescent_Reference8Ideal_pre_finite_conv := fun m ρ _ => frame_reference_k m ρ trivial

theorem preserves_k : Cert.preserves_Kernel8_Kernel8Ideal := trivial

theorem algebraic_k : Cert.algebraic_Kernel8Ideal_Reference8Ideal_pre_finite_conv := by
  intro m g m' g' hpre hargs
  refine ⟨fun c => Cert.Proof.ConvK.result m c, (θ_run Cert.Kernel8Ideal.defs _ _).mono
    (fun r h c => ⟨(h c).1.trans (Cert.Proof.ConvK.result_eq m c), (h c).2⟩) (Cert.Kernel8Ideal.Value.run_blocks m g), ?_⟩
  refine (θ_run Cert.Reference8Ideal.defs _ _).mono (fun r h c => ⟨(h c).1.trans ?_, (h c).2⟩)
    (Cert.Reference8Ideal.Value.run (F := Ideal) m' g')
  obtain ⟨a0, a1, a2⟩ := hargs c
  have real := convolved_real (o := 1024) (by omega) _ _ _ (Cert.Proof.real_of_finite _ _ (fun _ => rfl) (hpre c).1)
    (Cert.Proof.real_of_finite _ _ (fun _ => rfl) (hpre c).2.1) (Cert.Proof.real_of_finite _ _ (fun _ => rfl) (hpre c).2.2)
  show Cert.Reference8Ideal.Conv.keys _ _ _ = _
  rw [a0, a1, a2]
  funext i
  exact (congrArg _ (ix2_eta i).symm).trans ((Cert.Reference8Ideal.Conv.keys_apply _ _ _ (i 0) (i 1)).trans
    (gate_32nd _ (real _ _)).symm)

end Cert.Proof.Conv

end
-- ==== Proof.lean ====
module

public import proofs.«01_k».proof.Defs
public import proofs.«01_k».proof.Proof.AttnProof
public import proofs.«01_k».proof.Proof.FfnProof
public import proofs.«01_k».proof.Proof.InprojProof
public import proofs.«01_k».proof.Proof.OutprojProof
public import proofs.«01_k».proof.Proof.ModProof
public import proofs.«01_k».proof.Proof.PrepProof
public import proofs.«01_k».proof.Proof.ConvProof

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Attn.facts_finite_qk, Conv.facts_finite_conv,
    Attn.frame_kernel, Attn.frame_ideal, Attn.frame_ideal_finite, Attn.frame_reference, Attn.frame_reference_finite,
    Ffn.frame_kernel, Ffn.frame_ideal, Ffn.frame_reference, Inproj.frame_kernel, Inproj.frame_ideal, Inproj.frame_reference,
    Outproj.frame_kernel, Outproj.frame_ideal, Outproj.frame_reference,
    Modulation.frame_kernel, Modulation.frame_ideal, Modulation.frame_reference,
    Prep.frame_kernel, Prep.frame_ideal, Prep.frame_reference,
    Conv.frame_kernel_q, Conv.frame_ideal_q, Conv.frame_ideal_finite_q, Conv.frame_reference_q, Conv.frame_reference_finite_q,
    Conv.frame_kernel_k, Conv.frame_ideal_k, Conv.frame_ideal_finite_k, Conv.frame_reference_k, Conv.frame_reference_finite_k,
    Attn.preserves, Attn.algebraic, Ffn.preserves, Ffn.algebraic, Inproj.preserves, Inproj.algebraic,
    Outproj.preserves, Outproj.algebraic, Modulation.preserves, Modulation.algebraic,
    Prep.preserves, Prep.algebraic,
    Conv.preserves_q, Conv.algebraic_q, Conv.preserves_k, Conv.algebraic_k⟩

end Cert.Proof

end
